-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Kernel24Ideal_finite_qk [hPre_finite_qk : Cert.Pre_finite_qk.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_finite_qk.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2))) = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_finite_qk [hPre_finite_qk : Cert.Pre_finite_qk.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_finite_qk.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Kernel24Ideal_pre_finite_qk [hKernel24Ideal : Cert.Kernel24Ideal.Facts] [hPre_finite_qk : Cert.Pre_finite_qk.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal_finite_qk m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Reference24Ideal_pre_finite_qk [hReference24Ideal : Cert.Reference24Ideal.Facts] [hPre_finite_qk : Cert.Pre_finite_qk.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_finite_qk m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v7) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)) (v3 : (c : Dev Cert.Kernel7Ideal.nD) → Buf (Elt Ideal) ((c.tc : Thread Cert.Kernel7Ideal.nD Cert.Kernel7Ideal.τ).loc Cert.Kernel7Ideal.main_v4_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_v4_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v29) = v0 c
          ∧ r.2.mem ((c.tc : Thread Cert.Reference7Ideal.nD Cert.Reference7Ideal.τ).loc Cert.Reference7Ideal.main_v30) = v1 c
          ∧ r.2.mem ((c.tc : Thread Cert.Reference7Ideal.nD Cert.Reference7Ideal.τ).loc Cert.Reference7Ideal.main_v37) = v2 c
          ∧ r.2.mem ((c.tc : Thread Cert.Reference7Ideal.nD Cert.Reference7Ideal.τ).loc Cert.Reference7Ideal.main_v40) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)) (v3 : (c : Dev Cert.Kernel8Ideal.nD) → Buf (Elt Ideal) ((c.tc : Thread Cert.Kernel8Ideal.nD Cert.Kernel8Ideal.τ).loc Cert.Kernel8Ideal.main_v4_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_v4_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v27) = v0 c
          ∧ r.2.mem ((c.tc : Thread Cert.Reference8Ideal.nD Cert.Reference8Ideal.τ).loc Cert.Reference8Ideal.main_v28) = v1 c
          ∧ r.2.mem ((c.tc : Thread Cert.Reference8Ideal.nD Cert.Reference8Ideal.τ).loc Cert.Reference8Ideal.main_v35) = v2 c
          ∧ r.2.mem ((c.tc : Thread Cert.Reference8Ideal.nD Cert.Reference8Ideal.τ).loc Cert.Reference8Ideal.main_v38) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)) (v2 : (c : Dev Cert.Kernel21Ideal.nD) → Buf (Elt Ideal) ((c.tc : Thread Cert.Kernel21Ideal.nD Cert.Kernel21Ideal.τ).loc Cert.Kernel21Ideal.main_v4_2)) (v3 : (c : Dev Cert.Kernel21Ideal.nD) → Buf (Elt Ideal) ((c.tc : Thread Cert.Kernel21Ideal.nD Cert.Kernel21Ideal.τ).loc Cert.Kernel21Ideal.main_v4_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_v4_2) = v2 c
          ∧ r.2.mem ((c.tc : Thread Cert.Kernel21Ideal.nD Cert.Kernel21Ideal.τ).loc Cert.Kernel21Ideal.main_v4_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v9) = v0 c
          ∧ r.2.mem ((c.tc : Thread Cert.Reference21Ideal.nD Cert.Reference21Ideal.τ).loc Cert.Reference21Ideal.main_v10) = v1 c
          ∧ r.2.mem ((c.tc : Thread Cert.Reference21Ideal.nD Cert.Reference21Ideal.τ).loc Cert.Reference21Ideal.main_v0) = v2 c
          ∧ r.2.mem ((c.tc : Thread Cert.Reference21Ideal.nD Cert.Reference21Ideal.τ).loc Cert.Reference21Ideal.main_v1) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_v18) = v1 c
          ∧ r.2.mem ((c.tc : Thread Cert.Reference22Ideal.nD Cert.Reference22Ideal.τ).loc Cert.Reference22Ideal.main_v19) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  IdealRules.named_const.Statement Cert.Kernel24Ideal.κ "closed" .f32 0x42DC0000#32 ⊤

def algebraic_Kernel24Ideal_Reference24Ideal_pre_finite_qk [hKernel24Ideal : Cert.Kernel24Ideal.Facts] [hReference24Ideal : Cert.Reference24Ideal.Facts] [hPre_finite_qk : Cert.Pre_finite_qk.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal_finite_qk m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v6_0)) (v1 : (c : Dev Cert.Kernel24Ideal.nD) → Buf (Elt Ideal) ((c.tc : Thread Cert.Kernel24Ideal.nD Cert.Kernel24Ideal.τ).loc Cert.Kernel24Ideal.main_v6_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v6_0) = v0 c
          ∧ r.2.mem ((c.tc : Thread Cert.Kernel24Ideal.nD Cert.Kernel24Ideal.τ).loc Cert.Kernel24Ideal.main_v6_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v17) = v0 c
          ∧ r.2.mem ((c.tc : Thread Cert.Reference24Ideal.nD Cert.Reference24Ideal.τ).loc Cert.Reference24Ideal.main_v18) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite : Cert.Pre_finite.Facts) (hPre_finite_qk : Cert.Pre_finite_qk.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Kernel24Ideal_pre_finite_qk (hKernel24Ideal := hKernel24Ideal) (hPre_finite_qk := hPre_finite_qk)
    ∧ quiescent_Reference24Ideal (hReference24Ideal := hReference24Ideal)
    ∧ quiescent_Reference24Ideal_pre_finite_qk (hReference24Ideal := hReference24Ideal) (hPre_finite_qk := hPre_finite_qk)
    ∧ preserves_Kernel_KernelIdeal
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal_pre_finite_qk (hKernel24Ideal := hKernel24Ideal) (hReference24Ideal := hReference24Ideal) (hPre_finite_qk := hPre_finite_qk)
-- ==== Pre_finite.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn {F : FTy → Type} [FloatOps F] (main_arg0 : FVec F S8192x1024 .f32) (main_arg1 : FVec F S2816x1024 .f32) (main_arg2 : FVec F S8192x2816 .f32) (main_arg3 : FVec F S8192x2816 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S8192x2816 .f32 := Host.absf main_arg3
  let main_cst_2 : FVec F S_ .f32 := constant S_ .f32 0x7F800000#32
  let main_v10 : FVec F S8192x2816 .f32 := broadcastInDim S8192x2816 ![] bcast_S_S8192x2816 main_cst_2
  let main_v11 : IVec S8192x2816 1 := cmpf .olt main_v9 main_v10
  let main_c_3 : IVec S_ 1 := constantI S_ 1 1#1
  let main_v12 : IVec S_ 1 := (fun x v => Host.reduce IntOp.andi x v reducesTo_S8192x2816_S_d0_1 h_S_) main_v11 main_c_3
  let main_v13 : IVec S_ 1 := andi main_v8 main_v12
  main_v13
-- ==== Pre_finite_qk.lean ====
abbrev S8192x16x64 : Shape := ⟨3, ![8192, 16, 64]⟩
abbrev S_ : Shape := ⟨0, ![]⟩

class Facts : Prop where
  bcast_S_S8192x16x64 : S_.BroadcastsInDim S8192x16x64 (![] : Fin 0 → Fin S8192x16x64.rank)
  reducesTo_S8192x16x64_S_d0_1_2 : S8192x16x64.ReducesTo [0, 1, 2] S_
  h_S_ : 0 < S_.numel

variable [Facts]

def fn {F : FTy → Type} [FloatOps F] (main_arg0 : FVec F S8192x16x64 .f32) (main_arg1 : FVec F S8192x16x64 .f32) (main_arg2 : FVec F S8192x16x64 .f32) : IVec S_ 1 :=
  let main_v0 : FVec F S8192x16x64 .f32 := Host.absf main_arg0
  let main_cst : FVec F S_ .f32 := constant S_ .f32 0x7F800000#32
  let main_v1 : FVec F S8192x16x64 .f32 := broadcastInDim S8192x16x64 ![] bcast_S_S8192x16x64 main_cst
  let main_v2 : IVec S8192x16x64 1 := cmpf .olt main_v0 main_v1
  let main_c : IVec S_ 1 := constantI S_ 1 1#1
  let main_v3 : IVec S_ 1 := (fun x v => Host.reduce IntOp.andi x v reducesTo_S8192x16x64_S_d0_1_2 h_S_) main_v2 main_c
  let main_v4 : FVec F S8192x16x64 .f32 := Host.absf main_arg1
  let main_cst_0 : FVec F S_ .f32 := constant S_ .f32 0x7F800000#32
  let main_v5 : FVec F S8192x16x64 .f32 := broadcastInDim S8192x16x64 ![] bcast_S_S8192x16x64 main_cst_0
  let main_v6 : IVec S8192x16x64 1 := cmpf .olt main_v4 main_v5
  let main_c_1 : IVec S_ 1 := constantI S_ 1 1#1
  let main_v7 : IVec S_ 1 := (fun x v => Host.reduce IntOp.andi x v reducesTo_S8192x16x64_S_d0_1_2 h_S_) main_v6 main_c_1
  let main_v8 : IVec S_ 1 := andi main_v3 main_v7
  main_v8
-- ==== Kernel.lean ====
abbrev S16x512x16x64 : Shape := ⟨4, ![16, 512, 16, 64]⟩
abbrev S16x512x16 : Shape := ⟨3, ![16, 512, 16]⟩
abbrev S16x512x16x1x64 : Shape := ⟨5, ![16, 512, 16, 1, 64]⟩
abbrev S16x16x512x512x1 : Shape := ⟨5, ![16, 16, 512, 512, 1]⟩
abbrev S16x16x1x512x512 : Shape := ⟨5, ![16, 16, 1, 512, 512]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S16x16x1x512 : Shape := ⟨4, ![16, 16, 1, 512]⟩
abbrev S16x16x1x512x1 : Shape := ⟨5, ![16, 16, 1, 512, 1]⟩
abbrev S16x16x64x1x512 : Shape := ⟨5, ![16, 16, 64, 1, 512]⟩
abbrev S16x512x16x1 : Shape := ⟨4, ![16, 512, 16, 1]⟩
abbrev S16x16x512x64 : Shape := ⟨4, ![16, 16, 512, 64]⟩
abbrev S256x512x64 : Shape := ⟨3, ![256, 512, 64]⟩
abbrev S16x16x512x1 : Shape := ⟨4, ![16, 16, 512, 1]⟩
abbrev S256x512x1 : Shape := ⟨3, ![256, 512, 1]⟩
abbrev S256x8x128 : Shape := ⟨3, ![256, 8, 128]⟩
abbrev S1x512x64 : Shape := ⟨3, ![1, 512, 64]⟩
abbrev S1x512x1 : Shape := ⟨3, ![1, 512, 1]⟩
abbrev S1x8x128 : Shape := ⟨3, ![1, 8, 128]⟩
abbrev S1x128x64 : Shape := ⟨3, ![1, 128, 64]⟩
abbrev S128x64 : Shape := ⟨2, ![128, 64]⟩
abbrev S1x256x64 : Shape := ⟨3, ![1, 256, 64]⟩
abbrev S256x64 : Shape := ⟨2, ![256, 64]⟩
abbrev S128x256 : Shape := ⟨2, ![128, 256]⟩
abbrev S1x128x1 : Shape := ⟨3, ![1, 128, 1]⟩
abbrev S128x1 : Shape := ⟨2, ![128, 1]⟩

abbrev nBuf : Space → Nat
  | .hbm => 74
  | .vmem => 20
  | .smem => 0
  | _ => 0

abbrev bufTy : (tb : Table) → Fin (tcTables nBuf tb) → BufTy
  | .hbm, ⟨0, _⟩ => ⟨S16x512x16x64, .f32⟩
  | .hbm, ⟨1, _⟩ => ⟨S16x512x16x64, .f32⟩
  | .hbm, ⟨2, _⟩ => ⟨S16x512x16x64, .f32⟩
  | .hbm, ⟨3, _⟩ => ⟨S16x512x16x64, .f32⟩
  | .hbm, ⟨4, _⟩ => ⟨S16x512x16, .f32⟩
  | .hbm, ⟨5, _⟩ => ⟨S16x512x16x1x64, .f32⟩
  | .hbm, ⟨6, _⟩ => ⟨S16x16x512x512x1, .f32⟩
  | .hbm, ⟨7, _⟩ => ⟨S16x16x1x512x512, .f32⟩
  | .hbm, ⟨8, _⟩ => ⟨S_, .f32⟩
  | .hbm, ⟨9, _⟩ => ⟨S16x16x1x512x512, .f32⟩
  | .hbm, ⟨10, _⟩ => ⟨S16x16x1x512x512, .f32⟩
  | .hbm, ⟨11, _⟩ => ⟨S512, .i32⟩
  | .hbm, ⟨12, _⟩ => ⟨S512x1, .i32⟩
  | .hbm, ⟨13, _⟩ => ⟨S512, .i32⟩
  | .hbm, ⟨14, _⟩ => ⟨S1x512, .i32⟩
  | .hbm, ⟨15, _⟩ => ⟨S512x512, .i32⟩
  | .hbm, ⟨16, _⟩ => ⟨S512x512, .i32⟩
  | .hbm, ⟨17, _⟩ => ⟨S512x512, .i32⟩
  | .hbm, ⟨18, _⟩ => ⟨S_, .i32⟩
  | .hbm, ⟨19, _⟩ => ⟨S512x512, .i32⟩
  | .hbm, ⟨20, _⟩ => ⟨S512x512, .i1⟩
  | .hbm, ⟨21, _⟩ => ⟨S_, .i32⟩
  | .hbm, ⟨22, _⟩ => ⟨S512x512, .i32⟩
  | .hbm, ⟨23, _⟩ => ⟨S512x512, .i1⟩
  | .hbm, ⟨24, _⟩ => ⟨S512x512, .i1⟩
  | .hbm, ⟨25, _⟩ => ⟨S_, .f32⟩
  | .hbm, ⟨26, _⟩ => ⟨S_, .f32⟩
  | .hbm, ⟨27, _⟩ => ⟨S16x16x1x512x512, .i1⟩
  | .hbm, ⟨28, _⟩ => ⟨S16x16x1x512x512, .f32⟩
  | .hbm, ⟨29, _⟩ => ⟨S16x16x1x512x512, .f32⟩
  | .hbm, ⟨30, _⟩ => ⟨S_, .f32⟩
  | .hbm, ⟨31, _⟩ => ⟨S16x16x1x512, .f32⟩
  | .hbm, ⟨32, _⟩ => ⟨S16x16x1x512x1, .f32⟩
  | .hbm, ⟨33, _⟩ => ⟨S16x16x1x512x512, .f32⟩
  | .hbm, ⟨34, _⟩ => ⟨S16x16x1x512x512, .f32⟩
  | .hbm, ⟨35, _⟩ => ⟨S16x16x1x512x512, .f32⟩
  | .hbm, ⟨36, _⟩ => ⟨S_, .f32⟩
  | .hbm, ⟨37, _⟩ => ⟨S16x16x1x512, .f32⟩
  | .hbm, ⟨38, _⟩ => ⟨S16x16x1x512, .f32⟩
  | .hbm, ⟨39, _⟩ => ⟨S16x16x1x512, .f32⟩
  | .hbm, ⟨40, _⟩ => ⟨S16x16x1x512x1, .f32⟩
  | .hbm, ⟨41, _⟩ => ⟨S16x16x1x512x512, .f32⟩
  | .hbm, ⟨42, _⟩ => ⟨S16x16x1x512x512, .f32⟩
  | .hbm, ⟨43, _⟩ => ⟨S16x16x64x1x512, .f32⟩
  | .hbm, ⟨44, _⟩ => ⟨S16x512x16x1x64, .f32⟩
  | .hbm, ⟨45, _⟩ => ⟨S16x512x16x64, .f32⟩
  | .hbm, ⟨46, _⟩ => ⟨S16x512x16x1, .f32⟩
  | .hbm, ⟨47, _⟩ => ⟨S16x512x16, .f32⟩
  | .hbm, ⟨48, _⟩ => ⟨S16x512x16x64, .f32⟩
  | .hbm, ⟨49, _⟩ => ⟨S_, .f32⟩
  | .hbm, ⟨50, _⟩ => ⟨S16x512x16, .f32⟩
  | .hbm, ⟨51, _⟩ => ⟨S16x512x16, .f32⟩
  | .hbm, ⟨52, _⟩ => ⟨S16x16x512x64, .f32⟩
  | .hbm, ⟨53, _⟩ => ⟨S256x512x64, .f32⟩
  | .hbm, ⟨54, _⟩ => ⟨S256x512x64, .bf16⟩
  | .hbm, ⟨55, _⟩ => ⟨S16x16x512x64, .f32⟩
  | .hbm, ⟨56, _⟩ => ⟨S256x512x64, .f32⟩
  | .hbm, ⟨57, _⟩ => ⟨S256x512x64, .bf16⟩
  | .hbm, ⟨58, _⟩ => ⟨S16x16x512x64, .f32⟩
  | .hbm, ⟨59, _⟩ => ⟨S256x512x64, .f32⟩
  | .hbm, ⟨60, _⟩ => ⟨S256x512x64, .bf16⟩
  | .hbm, ⟨61, _⟩ => ⟨S16x16x512x64, .f32⟩
  | .hbm, ⟨62, _⟩ => ⟨S256x512x64, .f32⟩
  | .hbm, ⟨63, _⟩ => ⟨S256x512x64, .bf16⟩
  | .hbm, ⟨64, _⟩ => ⟨S16x512x16x1, .f32⟩
  | .hbm, ⟨65, _⟩ => ⟨S16x16x512x1, .f32⟩
  | .hbm, ⟨66, _⟩ => ⟨S256x512x1, .f32⟩
  | .hbm, ⟨67, _⟩ => ⟨S16x512x16x1, .f32⟩
  | .hbm, ⟨68, _⟩ => ⟨S16x16x512x1, .f32⟩
  | .hbm, ⟨69, _⟩ => ⟨S256x512x1, .f32⟩
  | .hbm, ⟨70, _⟩ => ⟨S256x512x64, .f32⟩
  | .hbm, ⟨71, _⟩ => ⟨S256x512x64, .f32⟩
  | .hbm, ⟨72, _⟩ => ⟨S256x512x64, .f32⟩
  | .hbm, ⟨73, _⟩ => ⟨S256x8x128, .f32⟩
  | .local _ .vmem, ⟨0, _⟩ => ⟨S1x512x64, .bf16⟩
  | .local _ .vmem, ⟨1, _⟩ => ⟨S1x512x64, .bf16⟩
  | .local _ .vmem, ⟨2, _⟩ => ⟨S1x512x64, .bf16⟩
  | .local _ .vmem, ⟨3, _⟩ => ⟨S1x512x64, .bf16⟩
  | .local _ .vmem, ⟨4, _⟩ => ⟨S1x512x64, .bf16⟩
  | .local _ .vmem, ⟨5, _⟩ => ⟨S1x512x64, .bf16⟩
  | .local _ .vmem, ⟨6, _⟩ => ⟨S1x512x64, .bf16⟩
  | .local _ .vmem, ⟨7, _⟩ => ⟨S1x512x64, .bf16⟩
  | .local _ .vmem, ⟨8, _⟩ => ⟨S1x512x1, .f32⟩
  | .local _ .vmem, ⟨9, _⟩ => ⟨S1x512x1, .f32⟩
  | .local _ .vmem, ⟨10, _⟩ => ⟨S1x512x1, .f32⟩
  | .local _ .vmem, ⟨11, _⟩ => ⟨S1x512x1, .f32⟩
  | .local _ .vmem, ⟨12, _⟩ => ⟨S1x512x64, .f32⟩
  | .local _ .vmem, ⟨13, _⟩ => ⟨S1x512x64, .f32⟩
  | .local _ .vmem, ⟨14, _⟩ => ⟨S1x512x64, .f32⟩
  | .local _ .vmem, ⟨15, _⟩ => ⟨S1x512x64, .f32⟩
  | .local _ .vmem, ⟨16, _⟩ => ⟨S1x512x64, .f32⟩
  | .local _ .vmem, ⟨17, _⟩ => ⟨S1x512x64, .f32⟩
  | .local _ .vmem, ⟨18, _⟩ => ⟨S1x8x128, .f32⟩
  | .local _ .vmem, ⟨19, _⟩ => ⟨S1x8x128, .f32⟩
  | _, _ => ⟨S16x512x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55_0 : Ref sig .tc := ⟨.hbm, 70, rfl⟩
abbrev main_v55_1 : Ref sig .tc := ⟨.hbm, 71, rfl⟩
abbrev main_v55_2 : Ref sig .tc := ⟨.hbm, 72, rfl⟩
abbrev main_v55_3 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![256, 1], ![false, false]⟩

def k0_mult1 (i : grid0.Coords) : BitVec 32 :=
  let arg1 : BitVec 32 := BitVec.ofNat 32 (i 1).val
  let c512_i32 : BitVec 32 := 512#32
  let v18 : BitVec 32 := Scalar.muli arg1 c512_i32
  let c0_i32_9 : BitVec 32 := 0#32
  let v19 : BitVec 32 := Scalar.addi v18 c0_i32_9
  let c128_i32 : BitVec 32 := 128#32
  let v20 : BitVec 32 := Scalar.subi v19 c128_i32
  let c0_i32_10 : BitVec 32 := 0#32
  let v21 : BitVec 32 := Scalar.maxsi v20 c0_i32_10
  let c256_i32 : BitVec 32 := 256#32
  let v22 : BitVec 32 := Scalar.minsi v21 c256_i32
  v22
def k0_off1 (i : grid0.Coords) (c0_i32_9 : BitVec 32) : Fin 3 → Nat :=
  let c0_13 : Index := 0#32
  let arg1 : BitVec 32 := BitVec.ofNat 32 (i 1).val
  let c512_i32 : BitVec 32 := 512#32
  let v18 : BitVec 32 := Scalar.muli arg1 c512_i32
  let v19 : BitVec 32 := Scalar.addi v18 c0_i32_9
  let c128_i32 : BitVec 32 := 128#32
  let v20 : BitVec 32 := Scalar.subi v19 c128_i32
  let c0_i32_10 : BitVec 32 := 0#32
  let v21 : BitVec 32 := Scalar.maxsi v20 c0_i32_10
  let c256_i32 : BitVec 32 := 256#32
  let v22 : BitVec 32 := Scalar.minsi v21 c256_i32
  let v23 : BitVec 32 := v22
  let v28 : Index := Scalar.indexCast v23
  let c0_14 : Index := 0#32
  ![0, v28.toNat, 0]
def k0_mult2 (i : grid0.Coords) : BitVec 32 :=
  let arg1 : BitVec 32 := BitVec.ofNat 32 (i 1).val
  let c512_i32_19 : BitVec 32 := 512#32
  let v46 : BitVec 32 := Scalar.muli arg1 c512_i32_19
  let c128_i32_20 : BitVec 32 := 128#32
  let v47 : BitVec 32 := Scalar.addi v46 c128_i32_20
  let c128_i32_21 : BitVec 32 := 128#32
  let v48 : BitVec 32 := Scalar.subi v47 c128_i32_21
  let c0_i32_22 : BitVec 32 := 0#32
  let v49 : BitVec 32 := Scalar.maxsi v48 c0_i32_22
  let c256_i32_23 : BitVec 32 := 256#32
  let v50 : BitVec 32 := Scalar.minsi v49 c256_i32_23
  v50
def k0_mult3 (i : grid0.Coords) : BitVec 32 :=
  let arg1 : BitVec 32 := BitVec.ofNat 32 (i 1).val
  let c512_i32_33 : BitVec 32 := 512#32
  let v74 : BitVec 32 := Scalar.muli arg1 c512_i32_33
  let c256_i32_34 : BitVec 32 := 256#32
  let v75 : BitVec 32 := Scalar.addi v74 c256_i32_34
  let c128_i32_35 : BitVec 32 := 128#32
  let v76 : BitVec 32 := Scalar.subi v75 c128_i32_35
  let c0_i32_36 : BitVec 32 := 0#32
  let v77 : BitVec 32 := Scalar.maxsi v76 c0_i32_36
  let c256_i32_37 : BitVec 32 := 256#32
  let v78 : BitVec 32 := Scalar.minsi v77 c256_i32_37
  v78
def k0_mult4 (i : grid0.Coords) : BitVec 32 :=
  let arg1 : BitVec 32 := BitVec.ofNat 32 (i 1).val
  let c512_i32_47 : BitVec 32 := 512#32
  let v102 : BitVec 32 := Scalar.muli arg1 c512_i32_47
  let c384_i32 : BitVec 32 := 384#32
  let v103 : BitVec 32 := Scalar.addi v102 c384_i32
  let c128_i32_48 : BitVec 32 := 128#32
  let v104 : BitVec 32 := Scalar.subi v103 c128_i32_48
  let c0_i32_49 : BitVec 32 := 0#32
  let v105 : BitVec 32 := Scalar.maxsi v104 c0_i32_49
  let c256_i32_50 : BitVec 32 := 256#32
  let v106 : BitVec 32 := Scalar.minsi v105 c256_i32_50
  v106
def k0_cond2 (i : grid0.Coords) : BitVec 1 :=
  let arg1 : BitVec 32 := BitVec.ofNat 32 (i 1).val
  let c0_i32_7 : BitVec 32 := 0#32
  let v15 : BitVec 1 := Scalar.cmpi .eq arg1 c0_i32_7
  let v16 : BitVec 32 := Scalar.extui v15
  let c0_i32_8 : BitVec 32 := 0#32
  let v17 : BitVec 1 := Scalar.cmpi .ne v16 c0_i32_8
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S16x512x16x64 : Shape := ⟨4, ![16, 512, 16, 64]⟩
abbrev S16x512x16 : Shape := ⟨3, ![16, 512, 16]⟩
abbrev S16x512x16x1x64 : Shape := ⟨5, ![16, 512, 16, 1, 64]⟩
abbrev S16x16x512x512x1 : Shape := ⟨5, ![16, 16, 512, 512, 1]⟩
abbrev S16x16x1x512x512 : Shape := ⟨5, ![16, 16, 1, 512, 512]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S16x16x1x512 : Shape := ⟨4, ![16, 16, 1, 512]⟩
abbrev S16x16x1x512x1 : Shape := ⟨5, ![16, 16, 1, 512, 1]⟩
abbrev S16x16x64x1x512 : Shape := ⟨5, ![16, 16, 64, 1, 512]⟩
abbrev S16x512x16x1 : Shape := ⟨4, ![16, 512, 16, 1]⟩
abbrev S16x16x64x512 : Shape := ⟨4, ![16, 16, 64, 512]⟩
abbrev S16x16x512 : Shape := ⟨3, ![16, 16, 512]⟩
abbrev S16x16x512x1x64 : Shape := ⟨5, ![16, 16, 512, 1, 64]⟩
abbrev S16x16x512x64 : Shape := ⟨4, ![16, 16, 512, 64]⟩
abbrev S256x512x64 : Shape := ⟨3, ![256, 512, 64]⟩

abbrev nBuf : Space → Nat
  | .hbm => 114
  | .vmem => 0
  | .smem => 0
  | _ => 0

abbrev bufTy : (tb : Table) → Fin (tcTables nBuf tb) → BufTy
  | .hbm, ⟨0, _⟩ => ⟨S16x512x16x64, .f32⟩
  | .hbm, ⟨1, _⟩ => ⟨S16x512x16x64, .f32⟩
  | .hbm, ⟨2, _⟩ => ⟨S16x512x16x64, .f32⟩
  | .hbm, ⟨3, _⟩ => ⟨S16x512x16x64, .f32⟩
  | .hbm, ⟨4, _⟩ => ⟨S16x512x16, .f32⟩
  | .hbm, ⟨5, _⟩ => ⟨S16x512x16x1x64, .f32⟩
  | .hbm, ⟨6, _⟩ => ⟨S16x16x512x512x1, .f32⟩
  | .hbm, ⟨7, _⟩ => ⟨S16x16x1x512x512, .f32⟩
  | .hbm, ⟨8, _⟩ => ⟨S_, .f32⟩
  | .hbm, ⟨9, _⟩ => ⟨S16x16x1x512x512, .f32⟩
  | .hbm, ⟨10, _⟩ => ⟨S16x16x1x512x512, .f32⟩
  | .hbm, ⟨11, _⟩ => ⟨S512, .i32⟩
  | .hbm, ⟨12, _⟩ => ⟨S512x1, .i32⟩
  | .hbm, ⟨13, _⟩ => ⟨S512, .i32⟩
  | .hbm, ⟨14, _⟩ => ⟨S1x512, .i32⟩
  | .hbm, ⟨15, _⟩ => ⟨S512x512, .i32⟩
  | .hbm, ⟨16, _⟩ => ⟨S512x512, .i32⟩
  | .hbm, ⟨17, _⟩ => ⟨S512x512, .i32⟩
  | .hbm, ⟨18, _⟩ => ⟨S_, .i32⟩
  | .hbm, ⟨19, _⟩ => ⟨S512x512, .i32⟩
  | .hbm, ⟨20, _⟩ => ⟨S512x512, .i1⟩
  | .hbm, ⟨21, _⟩ => ⟨S_, .i32⟩
  | .hbm, ⟨22, _⟩ => ⟨S512x512, .i32⟩
  | .hbm, ⟨23, _⟩ => ⟨S512x512, .i1⟩
  | .hbm, ⟨24, _⟩ => ⟨S512x512, .i1⟩
  | .hbm, ⟨25, _⟩ => ⟨S_, .f32⟩
  | .hbm, ⟨26, _⟩ => ⟨S_, .f32⟩
  | .hbm, ⟨27, _⟩ => ⟨S16x16x1x512x512, .i1⟩
  | .hbm, ⟨28, _⟩ => ⟨S16x16x1x512x512, .f32⟩
  | .hbm, ⟨29, _⟩ => ⟨S16x16x1x512x512, .f32⟩
  | .hbm, ⟨30, _⟩ => ⟨S_, .f32⟩
  | .hbm, ⟨31, _⟩ => ⟨S16x16x1x512x512, .f32⟩
  | .hbm, ⟨32, _⟩ => ⟨S_, .f32⟩
  | .hbm, ⟨33, _⟩ => ⟨S16x16x1x512, .f32⟩
  | .hbm, ⟨34, _⟩ => ⟨S16x16x1x512x1, .f32⟩
  | .hbm, ⟨35, _⟩ => ⟨S16x16x1x512x512, .f32⟩
  | .hbm, ⟨36, _⟩ => ⟨S16x16x1x512x512, .i1⟩
  | .hbm, ⟨37, _⟩ => ⟨S16x16x1x512x512, .f32⟩
  | .hbm, ⟨38, _⟩ => ⟨S_, .f32⟩
  | .hbm, ⟨39, _⟩ => ⟨S16x16x1x512, .f32⟩
  | .hbm, ⟨40, _⟩ => ⟨S16x16x1x512x1, .f32⟩
  | .hbm, ⟨41, _⟩ => ⟨S16x16x1x512x512, .f32⟩
  | .hbm, ⟨42, _⟩ => ⟨S16x16x1x512x512, .f32⟩
  | .hbm, ⟨43, _⟩ => ⟨S16x16x1x512x512, .f32⟩
  | .hbm, ⟨44, _⟩ => ⟨S_, .f32⟩
  | .hbm, ⟨45, _⟩ => ⟨S16x16x1x512, .f32⟩
  | .hbm, ⟨46, _⟩ => ⟨S16x16x1x512, .f32⟩
  | .hbm, ⟨47, _⟩ => ⟨S16x16x1x512, .f32⟩
  | .hbm, ⟨48, _⟩ => ⟨S16x16x1x512x1, .f32⟩
  | .hbm, ⟨49, _⟩ => ⟨S16x16x1x512x512, .f32⟩
  | .hbm, ⟨50, _⟩ => ⟨S16x16x1x512x512, .f32⟩
  | .hbm, ⟨51, _⟩ => ⟨S16x16x1x512x1, .f32⟩
  | .hbm, ⟨52, _⟩ => ⟨S_, .f32⟩
  | .hbm, ⟨53, _⟩ => ⟨S16x16x1x512x1, .f32⟩
  | .hbm, ⟨54, _⟩ => ⟨S16x16x1x512x1, .f32⟩
  | .hbm, ⟨55, _⟩ => ⟨S16x16x64x1x512, .f32⟩
  | .hbm, ⟨56, _⟩ => ⟨S16x512x16x1x64, .f32⟩
  | .hbm, ⟨57, _⟩ => ⟨S16x512x16x64, .f32⟩
  | .hbm, ⟨58, _⟩ => ⟨S16x512x16x1, .f32⟩
  | .hbm, ⟨59, _⟩ => ⟨S16x512x16, .f32⟩
  | .hbm, ⟨60, _⟩ => ⟨S16x512x16x1, .f32⟩
  | .hbm, ⟨61, _⟩ => ⟨S16x16x1x512, .f32⟩
  | .hbm, ⟨62, _⟩ => ⟨S16x512x16x1x64, .f32⟩
  | .hbm, ⟨63, _⟩ => ⟨S16x16x64x1x512, .f32⟩
  | .hbm, ⟨64, _⟩ => ⟨S16x16x1x512x512, .f32⟩
  | .hbm, ⟨65, _⟩ => ⟨S16x16x64x512, .f32⟩
  | .hbm, ⟨66, _⟩ => ⟨S16x512x16x64, .f32⟩
  | .hbm, ⟨67, _⟩ => ⟨S16x16x1x512x512, .f32⟩
  | .hbm, ⟨68, _⟩ => ⟨S16x16x1x512x512, .f32⟩
  | .hbm, ⟨69, _⟩ => ⟨S16x16x1x512x512, .f32⟩
  | .hbm, ⟨70, _⟩ => ⟨S_, .f32⟩
  | .hbm, ⟨71, _⟩ => ⟨S16x16x1x512, .f32⟩
  | .hbm, ⟨72, _⟩ => ⟨S16x16x1x512x1, .f32⟩
  | .hbm, ⟨73, _⟩ => ⟨S16x16x1x512x1, .f32⟩
  | .hbm, ⟨74, _⟩ => ⟨S16x16x1x512x512, .f32⟩
  | .hbm, ⟨75, _⟩ => ⟨S16x16x1x512x512, .f32⟩
  | .hbm, ⟨76, _⟩ => ⟨S_, .f32⟩
  | .hbm, ⟨77, _⟩ => ⟨S16x16x512, .f32⟩
  | .hbm, ⟨78, _⟩ => ⟨S16x16x1x512, .f32⟩
  | .hbm, ⟨79, _⟩ => ⟨S16x16x1x512, .f32⟩
  | .hbm, ⟨80, _⟩ => ⟨S16x16x1x512, .f32⟩
  | .hbm, ⟨81, _⟩ => ⟨S16x16x1x512x512, .f32⟩
  | .hbm, ⟨82, _⟩ => ⟨S16x16x1x512x512, .f32⟩
  | .hbm, ⟨83, _⟩ => ⟨S16x16x1x512x512, .f32⟩
  | .hbm, ⟨84, _⟩ => ⟨S16x16x1x512x512, .f32⟩
  | .hbm, ⟨85, _⟩ => ⟨S_, .f32⟩
  | .hbm, ⟨86, _⟩ => ⟨S16x16x1x512, .f32⟩
  | .hbm, ⟨87, _⟩ => ⟨S16x16x1x512x1, .f32⟩
  | .hbm, ⟨88, _⟩ => ⟨S_, .f32⟩
  | .hbm, ⟨89, _⟩ => ⟨S16x16x512, .f32⟩
  | .hbm, ⟨90, _⟩ => ⟨S16x16x1x512, .f32⟩
  | .hbm, ⟨91, _⟩ => ⟨S16x16x1x512, .f32⟩
  | .hbm, ⟨92, _⟩ => ⟨S16x16x1x512, .f32⟩
  | .hbm, ⟨93, _⟩ => ⟨S16x16x1x512x512, .f32⟩
  | .hbm, ⟨94, _⟩ => ⟨S16x16x1x512x512, .f32⟩
  | .hbm, ⟨95, _⟩ => ⟨S16x16x1x512x512, .f32⟩
  | .hbm, ⟨96, _⟩ => ⟨S_, .f32⟩
  | .hbm, ⟨97, _⟩ => ⟨S16x16x1x512x512, .f32⟩
  | .hbm, ⟨98, _⟩ => ⟨S16x16x1x512x512, .f32⟩
  | .hbm, ⟨99, _⟩ => ⟨S_, .f32⟩
  | .hbm, ⟨100, _⟩ => ⟨S16x16x1x512x512, .f32⟩
  | .hbm, ⟨101, _⟩ => ⟨S16x16x1x512x512, .f32⟩
  | .hbm, ⟨102, _⟩ => ⟨S16x16x512x512x1, .f32⟩
  | .hbm, ⟨103, _⟩ => ⟨S16x16x512x1x64, .f32⟩
  | .hbm, ⟨104, _⟩ => ⟨S16x512x16x1x64, .f32⟩
  | .hbm, ⟨105, _⟩ => ⟨S16x16x512x64, .f32⟩
  | .hbm, ⟨106, _⟩ => ⟨S16x512x16x64, .f32⟩
  | .hbm, ⟨107, _⟩ => ⟨S16x512x16x64, .f32⟩
  | .hbm, ⟨108, _⟩ => ⟨S16x16x512x64, .f32⟩
  | .hbm, ⟨109, _⟩ => ⟨S256x512x64, .f32⟩
  | .hbm, ⟨110, _⟩ => ⟨S16x16x512x64, .f32⟩
  | .hbm, ⟨111, _⟩ => ⟨S256x512x64, .f32⟩
  | .hbm, ⟨112, _⟩ => ⟨S16x16x512x64, .f32⟩
  | .hbm, ⟨113, _⟩ => ⟨S256x512x64, .f32⟩
  | _, _ => ⟨S16x512x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_call0_v0 : Ref sig .tc := ⟨.hbm, 26, rfl⟩
abbrev main_v17_1 : Ref sig .tc := ⟨.hbm, 27, rfl⟩
abbrev main_call0_v2 : Ref sig .tc := ⟨.hbm, 28, rfl⟩
abbrev main_v17_0 : Ref sig .tc := ⟨.hbm, 29, rfl⟩
abbrev main_call0_cst : Ref sig .tc := ⟨.hbm, 30, rfl⟩
abbrev main_v17_2 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_7 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_8 : Ref sig .tc := ⟨.hbm, 85, rfl⟩
abbrev main_v65 : Ref sig .tc := ⟨.hbm, 86, rfl⟩
abbrev main_v66 : Ref sig .tc := ⟨.hbm, 87, rfl⟩
abbrev main_cst_9 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call1_cst : Ref sig .tc := ⟨.hbm, 96, rfl⟩
abbrev main_call1_v0 : Ref sig .tc := ⟨.hbm, 97, rfl⟩
abbrev main_v74 : Ref sig .tc := ⟨.hbm, 98, rfl⟩
abbrev main_cst_10 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩

abbrev nD : Nat := 1
abbrev τ : Topo := Topo.v7x

variable {F : FTy → Type} [FloatOps F]

def κ : String → Option EReal := fun
  | "mask" => some ⊥
  | _ => none
-- ==== Kernel2.lean ====
abbrev S8192x1024 : Shape := ⟨2, ![8192, 1024]⟩
abbrev S2816x1024 : Shape := ⟨2, ![2816, 1024]⟩
abbrev S8192x2816 : Shape := ⟨2, ![8192, 2816]⟩
abbrev S2x8192x2816 : Shape := ⟨3, ![2, 8192, 2816]⟩
abbrev S512x1024 : Shape := ⟨2, ![512, 1024]⟩
abbrev S1408x1024 : Shape := ⟨2, ![1408, 1024]⟩
abbrev S512x1408 : Shape := ⟨2, ![512, 1408]⟩
abbrev S2x512x1408 : Shape := ⟨3, ![2, 512, 1408]⟩
abbrev S1x512x1408 : Shape := ⟨3, ![1, 512, 1408]⟩

abbrev nBuf : Space → Nat
  | .hbm => 9
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x2816, .f32⟩
  | .hbm, ⟨3, _⟩ => ⟨S8192x2816, .f32⟩
  | .hbm, ⟨4, _⟩ => ⟨S8192x1024, .bf16⟩
  | .hbm, ⟨5, _⟩ => ⟨S2816x1024, .bf16⟩
  | .hbm, ⟨6, _⟩ => ⟨S8192x2816, .bf16⟩
  | .hbm, ⟨7, _⟩ => ⟨S8192x2816, .bf16⟩
  | .hbm, ⟨8, _⟩ => ⟨S2x8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S2x512x1408, .bf16⟩
  | .local _ .vmem, ⟨9, _⟩ => ⟨S2x512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩
abbrev S1x8192x2816 : Shape := ⟨3, ![1, 8192, 2816]⟩
abbrev S2x8192x2816 : Shape := ⟨3, ![2, 8192, 2816]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S1x8192x2816, .f32⟩
  | .hbm, ⟨27, _⟩ => ⟨S1x8192x2816, .f32⟩
  | .hbm, ⟨28, _⟩ => ⟨S2x8192x2816, .f32⟩
  | .hbm, ⟨29, _⟩ => ⟨S2x8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x1024 : Shape := ⟨2, ![8192, 1024]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S1024x5632 : Shape := ⟨2, ![1024, 5632]⟩
abbrev S2048x1024 : Shape := ⟨2, ![2048, 1024]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 9
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .f32⟩
  | .hbm, ⟨3, _⟩ => ⟨S1x8192x2816, .f32⟩
  | .hbm, ⟨4, _⟩ => ⟨S1x8192x2816, .f32⟩
  | .hbm, ⟨5, _⟩ => ⟨S2x8192x2816, .f32⟩
  | .hbm, ⟨6, _⟩ => ⟨S2x8192x2816, .bf16⟩
  | .hbm, ⟨7, _⟩ => ⟨S8192x1024, .bf16⟩
  | .hbm, ⟨8, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x2816 : Shape := ⟨2, ![8192, 2816]⟩
abbrev S_ : Shape := ⟨0, ![]⟩
abbrev S1024x5632 : Shape := ⟨2, ![1024, 5632]⟩
abbrev S8192x5632 : Shape := ⟨2, ![8192, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .f32⟩
  | .hbm, ⟨3, _⟩ => ⟨S_, .f32⟩
  | .hbm, ⟨4, _⟩ => ⟨S1024x5632, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x5632, .f32⟩
  | .hbm, ⟨9, _⟩ => ⟨S5632x1024, .f32⟩
  | .hbm, ⟨10, _⟩ => ⟨S1024x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel5.lean ====
abbrev S1024x5632 : Shape := ⟨2, ![1024, 5632]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S8192x1024 : Shape := ⟨2, ![8192, 1024]⟩
abbrev S1x1024x1408 : Shape := ⟨3, ![1, 1024, 1408]⟩
abbrev S1024x1408 : Shape := ⟨2, ![1024, 1408]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S1024x5632, .f32⟩
  | .hbm, ⟨1, _⟩ => ⟨S8192x2816, .f32⟩
  | .hbm, ⟨2, _⟩ => ⟨S8192x2816, .f32⟩
  | .hbm, ⟨3, _⟩ => ⟨S1x8192x2816, .f32⟩
  | .hbm, ⟨4, _⟩ => ⟨S1x8192x2816, .f32⟩
  | .hbm, ⟨5, _⟩ => ⟨S2x8192x2816, .f32⟩
  | .hbm, ⟨6, _⟩ => ⟨S2x8192x2816, .bf16⟩
  | .hbm, ⟨7, _⟩ => ⟨S1024x5632, .bf16⟩
  | .hbm, ⟨8, _⟩ => ⟨S8192x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S1024x5632 : Shape := ⟨2, ![1024, 5632]⟩
abbrev S8192x2816 : Shape := ⟨2, ![8192, 2816]⟩
abbrev S_ : Shape := ⟨0, ![]⟩
abbrev S8192x1024 : Shape := ⟨2, ![8192, 1024]⟩
abbrev S8192x5632 : Shape := ⟨2, ![8192, 5632]⟩

abbrev nBuf : Space → Nat
  | .hbm => 10
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S8192x2816, .f32⟩
  | .hbm, ⟨2, _⟩ => ⟨S8192x2816, .f32⟩
  | .hbm, ⟨3, _⟩ => ⟨S_, .f32⟩
  | .hbm, ⟨4, _⟩ => ⟨S8192x1024, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x5632, .f32⟩
  | .hbm, ⟨9, _⟩ => ⟨S8192x1024, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel6.lean ====
abbrev S8192x1024 : Shape := ⟨2, ![8192, 1024]⟩
abbrev S1024x5632 : Shape := ⟨2, ![1024, 5632]⟩
abbrev S8192x2816 : Shape := ⟨2, ![8192, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S8192x2816, .bf16⟩
  | .hbm, ⟨5, _⟩ => ⟨S8192x2816, .bf16⟩
  | .hbm, ⟨6, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .bf16⟩
  | .hbm, ⟨6, _⟩ => ⟨S8192x2816, .bf16⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel7.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S8192x1 : Shape := ⟨2, ![8192, 1]⟩
abbrev S512x2816 : Shape := ⟨2, ![512, 2816]⟩
abbrev S512x1024 : Shape := ⟨2, ![512, 1024]⟩
abbrev S512x1 : Shape := ⟨2, ![512, 1]⟩
abbrev S512 : Shape := ⟨1, ![512]⟩

abbrev nBuf : Space → Nat
  | .hbm => 13
  | .vmem => 16
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S8192x2816, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .bf16⟩
  | .hbm, ⟨11, _⟩ => ⟨S8192x1024, .f32⟩
  | .hbm, ⟨12, _⟩ => ⟨S8192x1, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | .local _ .vmem, ⟨15, _⟩ => ⟨S512x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference7Ideal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩

abbrev nBuf : Space → Nat
  | .hbm => 13
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S8192x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .bf16⟩
  | .hbm, ⟨11, _⟩ => ⟨S8192x1024, .f32⟩
  | .hbm, ⟨12, _⟩ => ⟨S8192x1, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | .local _ .vmem, ⟨15, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference8Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel9.lean ====
abbrev S8192x1024 : Shape := ⟨2, ![8192, 1024]⟩
abbrev S8192x9216 : Shape := ⟨2, ![8192, 9216]⟩
abbrev S1024x9216 : Shape := ⟨2, ![1024, 9216]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x9216, .f32⟩
  | .hbm, ⟨2, _⟩ => ⟨S8192x1024, .bf16⟩
  | .hbm, ⟨3, _⟩ => ⟨S8192x9216, .bf16⟩
  | .hbm, ⟨4, _⟩ => ⟨S1024x9216, .f32⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S8192x9216 : Shape := ⟨2, ![8192, 9216]⟩
abbrev S_ : Shape := ⟨0, ![]⟩
abbrev S1024x9216 : Shape := ⟨2, ![1024, 9216]⟩
abbrev S9216x1024 : Shape := ⟨2, ![9216, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x9216, .f32⟩
  | .hbm, ⟨2, _⟩ => ⟨S_, .f32⟩
  | .hbm, ⟨3, _⟩ => ⟨S1024x9216, .f32⟩
  | .hbm, ⟨4, _⟩ => ⟨S8192x9216, .f32⟩
  | .hbm, ⟨5, _⟩ => ⟨S9216x1024, .f32⟩
  | .hbm, ⟨6, _⟩ => ⟨S1024x9216, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S1024x9216 : Shape := ⟨2, ![1024, 9216]⟩
abbrev S8192x9216 : Shape := ⟨2, ![8192, 9216]⟩
abbrev S8192x1024 : Shape := ⟨2, ![8192, 1024]⟩
abbrev S1024x1536 : Shape := ⟨2, ![1024, 1536]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1024x9216, .f32⟩
  | .hbm, ⟨1, _⟩ => ⟨S8192x9216, .f32⟩
  | .hbm, ⟨2, _⟩ => ⟨S8192x9216, .bf16⟩
  | .hbm, ⟨3, _⟩ => ⟨S1024x9216, .bf16⟩
  | .hbm, ⟨4, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S1024x9216 : Shape := ⟨2, ![1024, 9216]⟩
abbrev S8192x9216 : Shape := ⟨2, ![8192, 9216]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x9216, .f32⟩
  | .hbm, ⟨1, _⟩ => ⟨S8192x9216, .f32⟩
  | .hbm, ⟨2, _⟩ => ⟨S_, .f32⟩
  | .hbm, ⟨3, _⟩ => ⟨S8192x1024, .f32⟩
  | .hbm, ⟨4, _⟩ => ⟨S8192x9216, .f32⟩
  | .hbm, ⟨5, _⟩ => ⟨S8192x1024, .f32⟩
  | _, _ => ⟨S1024x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S8192x1024 : Shape := ⟨2, ![8192, 1024]⟩
abbrev S1024x9216 : Shape := ⟨2, ![1024, 9216]⟩
abbrev S8192x9216 : Shape := ⟨2, ![8192, 9216]⟩
abbrev S1024x1024 : Shape := ⟨2, ![1024, 1024]⟩
abbrev S1024x1152 : Shape := ⟨2, ![1024, 1152]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x9216, .f32⟩
  | .hbm, ⟨2, _⟩ => ⟨S8192x1024, .bf16⟩
  | .hbm, ⟨3, _⟩ => ⟨S1024x9216, .bf16⟩
  | .hbm, ⟨4, _⟩ => ⟨S8192x9216, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x9216 : Shape := ⟨2, ![1024, 9216]⟩
abbrev S8192x9216 : Shape := ⟨2, ![8192, 9216]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x9216, .f32⟩
  | .hbm, ⟨2, _⟩ => ⟨S8192x9216, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .bf16⟩
  | .hbm, ⟨3, _⟩ => ⟨S8192x3072, .bf16⟩
  | .hbm, ⟨4, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S_, .f32⟩
  | .hbm, ⟨3, _⟩ => ⟨S1024x3072, .f32⟩
  | .hbm, ⟨4, _⟩ => ⟨S8192x3072, .f32⟩
  | .hbm, ⟨5, _⟩ => ⟨S3072x1024, .f32⟩
  | .hbm, ⟨6, _⟩ => ⟨S1024x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S1024x3072 : Shape := ⟨2, ![1024, 3072]⟩
abbrev S8192x3072 : Shape := ⟨2, ![8192, 3072]⟩
abbrev S8192x1024 : Shape := ⟨2, ![8192, 1024]⟩
abbrev S1024x1536 : Shape := ⟨2, ![1024, 1536]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1024x3072, .f32⟩
  | .hbm, ⟨1, _⟩ => ⟨S8192x3072, .f32⟩
  | .hbm, ⟨2, _⟩ => ⟨S8192x3072, .bf16⟩
  | .hbm, ⟨3, _⟩ => ⟨S1024x3072, .bf16⟩
  | .hbm, ⟨4, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S1024x3072 : Shape := ⟨2, ![1024, 3072]⟩
abbrev S8192x3072 : Shape := ⟨2, ![8192, 3072]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x3072, .f32⟩
  | .hbm, ⟨1, _⟩ => ⟨S8192x3072, .f32⟩
  | .hbm, ⟨2, _⟩ => ⟨S_, .f32⟩
  | .hbm, ⟨3, _⟩ => ⟨S8192x1024, .f32⟩
  | .hbm, ⟨4, _⟩ => ⟨S8192x3072, .f32⟩
  | .hbm, ⟨5, _⟩ => ⟨S8192x1024, .f32⟩
  | _, _ => ⟨S1024x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x1024, .bf16⟩
  | .hbm, ⟨3, _⟩ => ⟨S1024x3072, .bf16⟩
  | .hbm, ⟨4, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel15.lean ====
abbrev S8192x1024 : Shape := ⟨2, ![8192, 1024]⟩
abbrev S8192x1280 : Shape := ⟨2, ![8192, 1280]⟩
abbrev S1024x1280 : Shape := ⟨2, ![1024, 1280]⟩
abbrev S2048x1024 : Shape := ⟨2, ![2048, 1024]⟩
abbrev S2048x1280 : Shape := ⟨2, ![2048, 1280]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1280, .f32⟩
  | .hbm, ⟨2, _⟩ => ⟨S8192x1024, .bf16⟩
  | .hbm, ⟨3, _⟩ => ⟨S8192x1280, .bf16⟩
  | .hbm, ⟨4, _⟩ => ⟨S1024x1280, .f32⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .f32⟩
  | .local _ .vmem, ⟨5, _⟩ => ⟨S1024x1280, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S8192x1280 : Shape := ⟨2, ![8192, 1280]⟩
abbrev S_ : Shape := ⟨0, ![]⟩
abbrev S1024x1280 : Shape := ⟨2, ![1024, 1280]⟩
abbrev S1280x1024 : Shape := ⟨2, ![1280, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1280, .f32⟩
  | .hbm, ⟨2, _⟩ => ⟨S_, .f32⟩
  | .hbm, ⟨3, _⟩ => ⟨S1024x1280, .f32⟩
  | .hbm, ⟨4, _⟩ => ⟨S8192x1280, .f32⟩
  | .hbm, ⟨5, _⟩ => ⟨S1280x1024, .f32⟩
  | .hbm, ⟨6, _⟩ => ⟨S1024x1280, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S1024x1280 : Shape := ⟨2, ![1024, 1280]⟩
abbrev S8192x1280 : Shape := ⟨2, ![8192, 1280]⟩
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S1024x1280, .f32⟩
  | .hbm, ⟨1, _⟩ => ⟨S8192x1280, .f32⟩
  | .hbm, ⟨2, _⟩ => ⟨S8192x1280, .bf16⟩
  | .hbm, ⟨3, _⟩ => ⟨S1024x1280, .bf16⟩
  | .hbm, ⟨4, _⟩ => ⟨S8192x1024, .f32⟩
  | .local _ .vmem, ⟨0, _⟩ => ⟨S1024x1280, .bf16⟩
  | .local _ .vmem, ⟨1, _⟩ => ⟨S1024x1280, .bf16⟩
  | .local _ .vmem, ⟨2, _⟩ => ⟨S1024x1280, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S1024x1280 : Shape := ⟨2, ![1024, 1280]⟩
abbrev S8192x1280 : Shape := ⟨2, ![8192, 1280]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x1280, .f32⟩
  | .hbm, ⟨1, _⟩ => ⟨S8192x1280, .f32⟩
  | .hbm, ⟨2, _⟩ => ⟨S_, .f32⟩
  | .hbm, ⟨3, _⟩ => ⟨S8192x1024, .f32⟩
  | .hbm, ⟨4, _⟩ => ⟨S8192x1280, .f32⟩
  | .hbm, ⟨5, _⟩ => ⟨S8192x1024, .f32⟩
  | _, _ => ⟨S1024x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel17.lean ====
abbrev S8192x1024 : Shape := ⟨2, ![8192, 1024]⟩
abbrev S1024x1280 : Shape := ⟨2, ![1024, 1280]⟩
abbrev S8192x1280 : Shape := ⟨2, ![8192, 1280]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1280, .f32⟩
  | .hbm, ⟨2, _⟩ => ⟨S8192x1024, .bf16⟩
  | .hbm, ⟨3, _⟩ => ⟨S1024x1280, .bf16⟩
  | .hbm, ⟨4, _⟩ => ⟨S8192x1280, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .f32⟩
  | .local _ .vmem, ⟨4, _⟩ => ⟨S1024x1280, .f32⟩
  | .local _ .vmem, ⟨5, _⟩ => ⟨S1024x1280, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S1024x1280 : Shape := ⟨2, ![1024, 1280]⟩
abbrev S8192x1280 : Shape := ⟨2, ![8192, 1280]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1280, .f32⟩
  | .hbm, ⟨2, _⟩ => ⟨S8192x1280, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S1024x1024 : Shape := ⟨2, ![1024, 1024]⟩
abbrev S8192x1024 : Shape := ⟨2, ![8192, 1024]⟩

abbrev nBuf : Space → Nat
  | .hbm => 5
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S8192x1024, .bf16⟩
  | .hbm, ⟨3, _⟩ => ⟨S1024x1024, .bf16⟩
  | .hbm, ⟨4, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S1024x1024 : Shape := ⟨2, ![1024, 1024]⟩
abbrev S8192x1024 : Shape := ⟨2, ![8192, 1024]⟩

abbrev nBuf : Space → Nat
  | .hbm => 5
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel21.lean ====
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S1024x512 : Shape := ⟨2, ![1024, 512]⟩
abbrev S1024x256 : Shape := ⟨2, ![1024, 256]⟩
abbrev S256x512 : Shape := ⟨2, ![256, 512]⟩

abbrev nBuf : Space → Nat
  | .hbm => 12
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024x1024, .f32⟩
  | .hbm, ⟨3, _⟩ => ⟨S256x1024, .f32⟩
  | .hbm, ⟨4, _⟩ => ⟨S8192x1024, .bf16⟩
  | .hbm, ⟨5, _⟩ => ⟨S8192x256, .bf16⟩
  | .hbm, ⟨6, _⟩ => ⟨S1024x1024, .bf16⟩
  | .hbm, ⟨7, _⟩ => ⟨S256x1024, .bf16⟩
  | .hbm, ⟨8, _⟩ => ⟨S8192x1024, .f32⟩
  | .hbm, ⟨9, _⟩ => ⟨S8192x1024, .bf16⟩
  | .hbm, ⟨10, _⟩ => ⟨S8192x1024, .f32⟩
  | .hbm, ⟨11, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S1024x256, .bf16⟩
  | .local _ .vmem, ⟨5, _⟩ => ⟨S1024x256, .bf16⟩
  | .local _ .vmem, ⟨6, _⟩ => ⟨S1024x512, .bf16⟩
  | .local _ .vmem, ⟨7, _⟩ => ⟨S1024x512, .bf16⟩
  | .local _ .vmem, ⟨8, _⟩ => ⟨S256x512, .bf16⟩
  | .local _ .vmem, ⟨9, _⟩ => ⟨S256x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference21Ideal.lean ====
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024x1024, .f32⟩
  | .hbm, ⟨3, _⟩ => ⟨S256x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel22.lean ====
abbrev S8192x1024 : Shape := ⟨2, ![8192, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S8192x1024 : Shape := ⟨2, ![8192, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel23.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x256, .bf16⟩
  | .hbm, ⟨3, _⟩ => ⟨S8192x1024, .bf16⟩
  | .hbm, ⟨4, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S1024x256, .f32⟩
  | .hbm, ⟨6, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel24.lean ====
abbrev S8192x16x64 : Shape := ⟨3, ![8192, 16, 64]⟩
abbrev S16x8192x64 : Shape := ⟨3, ![16, 8192, 64]⟩
abbrev S1x512x64 : Shape := ⟨3, ![1, 512, 64]⟩
abbrev S1x8192x64 : Shape := ⟨3, ![1, 8192, 64]⟩
abbrev S1x128x64 : Shape := ⟨3, ![1, 128, 64]⟩
abbrev S128x64 : Shape := ⟨2, ![128, 64]⟩
abbrev S128x128 : Shape := ⟨2, ![128, 128]⟩
abbrev S256x128 : Shape := ⟨2, ![256, 128]⟩
abbrev S128x1 : Shape := ⟨2, ![128, 1]⟩
abbrev S128x256 : Shape := ⟨2, ![128, 256]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 11
  | .vmem => 10
  | .smem => 0
  | _ => 0

abbrev bufTy : (tb : Table) → Fin (tcTables nBuf tb) → BufTy
  | .hbm, ⟨0, _⟩ => ⟨S8192x16x64, .f32⟩
  | .hbm, ⟨1, _⟩ => ⟨S8192x16x64, .f32⟩
  | .hbm, ⟨2, _⟩ => ⟨S8192x16x64, .f32⟩
  | .hbm, ⟨3, _⟩ => ⟨S8192x16x64, .bf16⟩
  | .hbm, ⟨4, _⟩ => ⟨S16x8192x64, .bf16⟩
  | .hbm, ⟨5, _⟩ => ⟨S8192x16x64, .bf16⟩
  | .hbm, ⟨6, _⟩ => ⟨S16x8192x64, .bf16⟩
  | .hbm, ⟨7, _⟩ => ⟨S8192x16x64, .bf16⟩
  | .hbm, ⟨8, _⟩ => ⟨S16x8192x64, .bf16⟩
  | .hbm, ⟨9, _⟩ => ⟨S16x8192x64, .f32⟩
  | .hbm, ⟨10, _⟩ => ⟨S16x8192x64, .bf16⟩
  | .local _ .vmem, ⟨0, _⟩ => ⟨S1x512x64, .bf16⟩
  | .local _ .vmem, ⟨1, _⟩ => ⟨S1x512x64, .bf16⟩
  | .local _ .vmem, ⟨2, _⟩ => ⟨S1x8192x64, .bf16⟩
  | .local _ .vmem, ⟨3, _⟩ => ⟨S1x8192x64, .bf16⟩
  | .local _ .vmem, ⟨4, _⟩ => ⟨S1x8192x64, .bf16⟩
  | .local _ .vmem, ⟨5, _⟩ => ⟨S1x8192x64, .bf16⟩
  | .local _ .vmem, ⟨6, _⟩ => ⟨S1x512x64, .f32⟩
  | .local _ .vmem, ⟨7, _⟩ => ⟨S1x512x64, .f32⟩
  | .local _ .vmem, ⟨8, _⟩ => ⟨S1x512x64, .bf16⟩
  | .local _ .vmem, ⟨9, _⟩ => ⟨S1x512x64, .bf16⟩
  | _, _ => ⟨S8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c4_i32 : BitVec 32 := 4#32
  let v0 : BitVec 32 := Scalar.muli arg1 c4_i32
  let c3_i32 : BitVec 32 := 3#32
  let v50 : BitVec 32 := Scalar.addi v0 c3_i32
  let c128_i32_22 : BitVec 32 := 128#32
  let v51 : BitVec 32 := Scalar.muli v50 c128_i32_22
  v51
def k0_off1 (i : grid0.Coords) (c3_i32 : BitVec 32) : Fin 3 → Nat :=
  let c0_23 : Index := 0#32
  let arg1 : BitVec 32 := BitVec.ofNat 32 (i 1).val
  let c4_i32 : BitVec 32 := 4#32
  let v0 : BitVec 32 := Scalar.muli arg1 c4_i32
  let v50 : BitVec 32 := Scalar.addi v0 c3_i32
  let c128_i32_22 : BitVec 32 := 128#32
  let v51 : BitVec 32 := Scalar.muli v50 c128_i32_22
  let v52 : BitVec 32 := v51
  let v53 : Index := Scalar.indexCast v52
  let c0_24 : Index := 0#32
  ![0, v53.toNat, 0]
def k0_mult2 (i : grid0.Coords) : BitVec 32 :=
  let arg1 : BitVec 32 := BitVec.ofNat 32 (i 1).val
  let c4_i32 : BitVec 32 := 4#32
  let v0 : BitVec 32 := Scalar.muli arg1 c4_i32
  let c2_i32 : BitVec 32 := 2#32
  let v59 : BitVec 32 := Scalar.addi v0 c2_i32
  let c128_i32_27 : BitVec 32 := 128#32
  let v60 : BitVec 32 := Scalar.muli v59 c128_i32_27
  v60
def k0_mult3 (i : grid0.Coords) : BitVec 32 :=
  let arg1 : BitVec 32 := BitVec.ofNat 32 (i 1).val
  let c4_i32 : BitVec 32 := 4#32
  let v0 : BitVec 32 := Scalar.muli arg1 c4_i32
  let c1_i32_32 : BitVec 32 := 1#32
  let v68 : BitVec 32 := Scalar.addi v0 c1_i32_32
  let c128_i32_33 : BitVec 32 := 128#32
  let v69 : BitVec 32 := Scalar.muli v68 c128_i32_33
  v69
def k0_mult4 (i : grid0.Coords) : BitVec 32 :=
  let arg1 : BitVec 32 := BitVec.ofNat 32 (i 1).val
  let c4_i32 : BitVec 32 := 4#32
  let v0 : BitVec 32 := Scalar.muli arg1 c4_i32
  let c0_i32_38 : BitVec 32 := 0#32
  let v77 : BitVec 32 := Scalar.addi v0 c0_i32_38
  let c128_i32_39 : BitVec 32 := 128#32
  let v78 : BitVec 32 := Scalar.muli v77 c128_i32_39
  v78
def k0_mult5 (i : grid0.Coords) (arg7 : BitVec 32) : BitVec 32 :=
  let arg1 : BitVec 32 := BitVec.ofNat 32 (i 1).val
  let c4_i32 : BitVec 32 := 4#32
  let v0 : BitVec 32 := Scalar.muli arg1 c4_i32
  let c2_i32_157 : BitVec 32 := 2#32
  let c1_i32_156 : BitVec 32 := 1#32
  let v436 : BitVec 32 := Scalar.addi arg7 c1_i32_156
  let v437 : BitVec 32 := Scalar.muli c2_i32_157 v436
  let v438 : BitVec 32 := Scalar.subi v0 v437
  let c1_i32_158 : BitVec 32 := 1#32
  let v439 : BitVec 32 := Scalar.addi v438 c1_i32_158
  let c128_i32_159 : BitVec 32 := 128#32
  let v440 : BitVec 32 := Scalar.muli v439 c128_i32_159
  v440

def k0_off2 (i : grid0.Coords) (arg7 : BitVec 32) (c1_i32_158 : BitVec 32) : Fin 3 → Nat :=
  let c0_160 : Index := 0#32
  let arg1 : BitVec 32 := BitVec.ofNat 32 (i 1).val
  let c4_i32 : BitVec 32 := 4#32
  let v0 : BitVec 32 := Scalar.muli arg1 c4_i32
  let c2_i32_157 : BitVec 32 := 2#32
  let c1_i32_156 : BitVec 32 := 1#32
  let v436 : BitVec 32 := Scalar.addi arg7 c1_i32_156
  let v437 : BitVec 32 := Scalar.muli c2_i32_157 v436
  let v438 : BitVec 32 := Scalar.subi v0 v437
  let v439 : BitVec 32 := Scalar.addi v438 c1_i32_158
  let c128_i32_159 : BitVec 32 := 128#32
  let v440 : BitVec 32 := Scalar.muli v439 c128_i32_159
  let v441 : BitVec 32 := v440
  let v442 : Index := Scalar.indexCast v441
  let c0_161 : Index := 0#32
  ![0, v442.toNat, 0]
def k0_mult6 (i : grid0.Coords) (arg7 : BitVec 32) : BitVec 32 :=
  let arg1 : BitVec 32 := BitVec.ofNat 32 (i 1).val
  let c4_i32 : BitVec 32 := 4#32
  let v0 : BitVec 32 := Scalar.muli arg1 c4_i32
  let c2_i32_157 : BitVec 32 := 2#32
  let c1_i32_156 : BitVec 32 := 1#32
  let v436 : BitVec 32 := Scalar.addi arg7 c1_i32_156
  let v437 : BitVec 32 := Scalar.muli c2_i32_157 v436
  let v438 : BitVec 32 := Scalar.subi v0 v437
  let c0_i32_164 : BitVec 32 := 0#32
  let v448 : BitVec 32 := Scalar.addi v438 c0_i32_164
  let c128_i32_165 : BitVec 32 := 128#32
  let v449 : BitVec 32 := Scalar.muli v448 c128_i32_165
  v449

def k0_chk1 (i : grid0.Coords) (arg7 : BitVec 32) : Prop :=
  (128 ∣ (k0_mult5 i arg7).toNat) ∧
  (∀ (r : Fin 2), ∀ a, (k0_off2 i arg7 (BitVec.ofNat 32 r.val)) a + S1x128x64.size a ≤ S1x8192x64.size a) ∧
  (128 ∣ (k0_mult6 i arg7).toNat)
theorem k0_mult5_dvd : ∀ (i : grid0.Coords) (arg7 : BitVec 32) (k0_hw1 : k0_chk1 i arg7), 128 ∣ (k0_mult5 i arg7).toNat := fun i arg7 k0_hw1 => k0_hw1.1
theorem k0_off2_inb : ∀ (i : grid0.Coords) (arg7 : BitVec 32) (k0_hw1 : k0_chk1 i arg7), ∀ (r : Fin 2), ∀ a, (k0_off2 i arg7 (BitVec.ofNat 32 r.val)) a + S1x128x64.size a ≤ S1x8192x64.size a := fun i arg7 k0_hw1 r => k0_hw1.2.1 r
theorem k0_mult6_dvd : ∀ (i : grid0.Coords) (arg7 : BitVec 32) (k0_hw1 : k0_chk1 i arg7), 128 ∣ (k0_mult6 i arg7).toNat := fun i arg7 k0_hw1 => k0_hw1.2.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel24Ideal.lean ====
variable {F : FTy → Type} [FloatOps F] [Named F]
def κ : String → Option EReal := fun
  | "closed" => some ⊤
  | _ => none
-- ==== Reference24Ideal.lean ====
abbrev S8192x16x64 : Shape := ⟨3, ![8192, 16, 64]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192x64 : Shape := ⟨3, ![16, 8192, 64]⟩

abbrev nBuf : Space → Nat
  | .hbm => 61
  | .vmem => 0
  | .smem => 0
  | _ => 0

abbrev bufTy : (tb : Table) → Fin (tcTables nBuf tb) → BufTy
  | .hbm, ⟨0, _⟩ => ⟨S8192x16x64, .f32⟩
  | .hbm, ⟨1, _⟩ => ⟨S8192x16x64, .f32⟩
  | .hbm, ⟨2, _⟩ => ⟨S8192x16x64, .f32⟩
  | .hbm, ⟨3, _⟩ => ⟨S16x8192x8192, .f32⟩
  | .hbm, ⟨4, _⟩ => ⟨S_, .f32⟩
  | .hbm, ⟨5, _⟩ => ⟨S16x8192x8192, .f32⟩
  | .hbm, ⟨6, _⟩ => ⟨S16x8192x8192, .f32⟩
  | .hbm, ⟨7, _⟩ => ⟨S8192, .i32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S_, .f32⟩
  | .hbm, ⟨14, _⟩ => ⟨S16x8192x8192, .f32⟩
  | .hbm, ⟨15, _⟩ => ⟨S16x8192x8192, .f32⟩
  | .hbm, ⟨16, _⟩ => ⟨S16x8192x8192, .f32⟩
  | .hbm, ⟨17, _⟩ => ⟨S16x8192x8192, .f32⟩
  | .hbm, ⟨18, _⟩ => ⟨S16x8192x8192, .i1⟩
  | .hbm, ⟨19, _⟩ => ⟨S16x8192x8192, .f32⟩
  | .hbm, ⟨20, _⟩ => ⟨S16x8192x8192, .f32⟩
  | .hbm, ⟨21, _⟩ => ⟨S16x8192x8192, .f32⟩
  | .hbm, ⟨22, _⟩ => ⟨S16x8192x8192, .f32⟩
  | .hbm, ⟨23, _⟩ => ⟨S16x8192x8192, .f32⟩
  | .hbm, ⟨24, _⟩ => ⟨S16x8192x8192, .f32⟩
  | .hbm, ⟨25, _⟩ => ⟨S16x8192x8192, .f32⟩
  | .hbm, ⟨26, _⟩ => ⟨S16x8192x8192, .f32⟩
  | .hbm, ⟨27, _⟩ => ⟨S_, .f32⟩
  | .hbm, ⟨28, _⟩ => ⟨S_, .f32⟩
  | .hbm, ⟨29, _⟩ => ⟨S16x8192x8192, .i1⟩
  | .hbm, ⟨30, _⟩ => ⟨S16x8192x8192, .f32⟩
  | .hbm, ⟨31, _⟩ => ⟨S16x8192x8192, .f32⟩
  | .hbm, ⟨32, _⟩ => ⟨S_, .f32⟩
  | .hbm, ⟨33, _⟩ => ⟨S_, .f32⟩
  | .hbm, ⟨34, _⟩ => ⟨S16x8192x8192, .f32⟩
  | .hbm, ⟨35, _⟩ => ⟨S16x8192x8192, .f32⟩
  | .hbm, ⟨36, _⟩ => ⟨S16x8192x8192, .f32⟩
  | .hbm, ⟨37, _⟩ => ⟨S_, .f32⟩
  | .hbm, ⟨38, _⟩ => ⟨S16x8192x8192, .f32⟩
  | .hbm, ⟨39, _⟩ => ⟨S16x8192x8192, .f32⟩
  | .hbm, ⟨40, _⟩ => ⟨S16x8192x8192, .f32⟩
  | .hbm, ⟨41, _⟩ => ⟨S16x8192x8192, .f32⟩
  | .hbm, ⟨42, _⟩ => ⟨S16x8192x8192, .i1⟩
  | .hbm, ⟨43, _⟩ => ⟨S16x8192x8192, .f32⟩
  | .hbm, ⟨44, _⟩ => ⟨S16x8192x8192, .f32⟩
  | .hbm, ⟨45, _⟩ => ⟨S16x8192x8192, .f32⟩
  | .hbm, ⟨46, _⟩ => ⟨S16x8192x8192, .f32⟩
  | .hbm, ⟨47, _⟩ => ⟨S16x8192x8192, .f32⟩
  | .hbm, ⟨48, _⟩ => ⟨S16x8192x8192, .f32⟩
  | .hbm, ⟨49, _⟩ => ⟨S16x8192x8192, .f32⟩
  | .hbm, ⟨50, _⟩ => ⟨S16x8192x8192, .f32⟩
  | .hbm, ⟨51, _⟩ => ⟨S16x8192x8192, .f32⟩
  | .hbm, ⟨52, _⟩ => ⟨S16x8192x8192, .f32⟩
  | .hbm, ⟨53, _⟩ => ⟨S16x8192x8192, .f32⟩
  | .hbm, ⟨54, _⟩ => ⟨S_, .f32⟩
  | .hbm, ⟨55, _⟩ => ⟨S_, .f32⟩
  | .hbm, ⟨56, _⟩ => ⟨S16x8192x8192, .i1⟩
  | .hbm, ⟨57, _⟩ => ⟨S16x8192x8192, .f32⟩
  | .hbm, ⟨58, _⟩ => ⟨S16x8192x8192, .f32⟩
  | .hbm, ⟨59, _⟩ => ⟨S16x8192x64, .f32⟩
  | .hbm, ⟨60, _⟩ => ⟨S16x8192x64, .bf16⟩
  | _, _ => ⟨S8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v9 : Ref sig .tc := ⟨.hbm, 26, rfl⟩
abbrev main_cst_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_call2_cst : Ref sig .tc := ⟨.hbm, 32, rfl⟩
abbrev main_call2_v0 : Ref sig .tc := ⟨.hbm, 33, rfl⟩
abbrev main_v11 : Ref sig .tc := ⟨.hbm, 34, rfl⟩
abbrev main_v12 : Ref sig .tc := ⟨.hbm, 35, rfl⟩
abbrev main_call3_v0 : Ref sig .tc := ⟨.hbm, 36, rfl⟩
abbrev main_call3_call0_cst : Ref sig .tc := ⟨.hbm, 37, rfl⟩
abbrev main_call3_call0_v0 : Ref sig .tc := ⟨.hbm, 38, rfl⟩
abbrev main_call3_call0_v1 : Ref sig .tc := ⟨.hbm, 39, rfl⟩
abbrev main_call3_call0_v2 : Ref sig .tc := ⟨.hbm, 40, rfl⟩
abbrev main_call3_call0_v3 : Ref sig .tc := ⟨.hbm, 41, rfl⟩
abbrev main_call3_call0_v4 : Ref sig .tc := ⟨.hbm, 42, rfl⟩
abbrev main_call3_call0_v5 : Ref sig .tc := ⟨.hbm, 43, rfl⟩
abbrev main_call3_call0_v6 : Ref sig .tc := ⟨.hbm, 44, rfl⟩
abbrev main_call3_call0_v7 : Ref sig .tc := ⟨.hbm, 45, rfl⟩
abbrev main_call3_call0_v8 : Ref sig .tc := ⟨.hbm, 46, rfl⟩
abbrev main_call3_call0_v9 : Ref sig .tc := ⟨.hbm, 47, rfl⟩
abbrev main_call3_call0_v10 : Ref sig .tc := ⟨.hbm, 48, rfl⟩
abbrev main_call3_call0_v11 : Ref sig .tc := ⟨.hbm, 49, rfl⟩
abbrev main_call3_v1 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_1 : Ref sig .tc := ⟨.hbm, 54, rfl⟩
abbrev main_call4_v0 : Ref sig .tc := ⟨.hbm, 55, rfl⟩
abbrev main_call4_v1 : Ref sig .tc := ⟨.hbm, 56, rfl⟩
abbrev main_call4_v2 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩

abbrev nD : Nat := 1
abbrev τ : Topo := Topo.v7x

variable {F : FTy → Type} [FloatOps F]
-- ==== Proof.BandBody.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first grid coordinate never moves along the second axis, so both `pl.when` branches run. -/
def cond1 (i : grid0.Coords) : BitVec 1 :=
  Scalar.cmpi .ne (Scalar.extui (Scalar.andi (Scalar.cmpi .eq (BitVec.ofNat 32 (i 1).val) 0#32)
    (Scalar.cmpi .eq
      (Scalar.select
        (Scalar.andi (Scalar.xori (Scalar.cmpi .slt (Scalar.remsi (BitVec.ofNat 32 (i 0).val) (Scalar.select (Scalar.cmpi .eq 1#32 0#32) 1#32 1#32)) 0#32)
          (Scalar.cmpi .slt (Scalar.select (Scalar.cmpi .eq 1#32 0#32) 1#32 1#32) 0#32))
          (Scalar.cmpi .ne (Scalar.remsi (BitVec.ofNat 32 (i 0).val) (Scalar.select (Scalar.cmpi .eq 1#32 0#32) 1#32 1#32)) 0#32))
        (Scalar.addi (Scalar.remsi (BitVec.ofNat 32 (i 0).val) (Scalar.select (Scalar.cmpi .eq 1#32 0#32) 1#32 1#32)) (Scalar.select (Scalar.cmpi .eq 1#32 0#32) 1#32 1#32))
        (Scalar.remsi (BitVec.ofNat 32 (i 0).val) (Scalar.select (Scalar.cmpi .eq 1#32 0#32) 1#32 1#32))) 0#32)) : BitVec 32) 0#32

theorem cond1_eq : ∀ i : grid0.Coords, cond1 i = 1#1 := by decide +kernel
theorem cond2_eq : ∀ i : grid0.Coords, k0_cond2 i = 1#1 := by decide +kernel

theorem off0_eq : ∀ i : grid0.Coords, k0_off1 i 0#32 = ![0, 0, 0] := by decide +kernel
theorem off1_eq : ∀ i : grid0.Coords, k0_off1 i 128#32 = ![0, 0, 0] := by decide +kernel
theorem off2_eq : ∀ i : grid0.Coords, k0_off1 i 256#32 = ![0, 128, 0] := by decide +kernel
theorem off3_eq : ∀ i : grid0.Coords, k0_off1 i 384#32 = ![0, 256, 0] := by decide +kernel
instance closed0 (i : grid0.Coords) : ClosedOff (k0_off1 i 0#32) := ⟨![0, 0, 0], off0_eq i⟩
instance closed1 (i : grid0.Coords) : ClosedOff (k0_off1 i 128#32) := ⟨![0, 0, 0], off1_eq i⟩
instance closed2 (i : grid0.Coords) : ClosedOff (k0_off1 i 256#32) := ⟨![0, 128, 0], off2_eq i⟩
instance closed3 (i : grid0.Coords) : ClosedOff (k0_off1 i 384#32) := ⟨![0, 256, 0], off3_eq i⟩

/-- Where one group of 128 rows sits: the offsets of its key window, and the first row and key of its mask. -/
structure Pos where
  off : Fin 3 → ℕ
  inb : ∀ a, off a + S1x256x64.size a ≤ S1x512x64.size a
  t : BitVec 32
  s : BitVec 32

/-- The four groups as the body computes them from the grid coordinate. -/
def posAt0 (i : grid0.Coords) : Pos := ⟨k0_off1 i 0#32, k0_off1_inb i 0, (Scalar.addi (Scalar.muli (BitVec.ofNat 32 (i 1).val) 512#32) 0#32), (Scalar.minsi (Scalar.maxsi (Scalar.subi (Scalar.addi (Scalar.muli (BitVec.ofNat 32 (i 1).val) 512#32) 0#32) 128#32) 0#32) 256#32)⟩
def posAt1 (i : grid0.Coords) : Pos := ⟨k0_off1 i 128#32, k0_off1_inb i 1, (Scalar.addi (Scalar.muli (BitVec.ofNat 32 (i 1).val) 512#32) 128#32), (Scalar.minsi (Scalar.maxsi (Scalar.subi (Scalar.addi (Scalar.muli (BitVec.ofNat 32 (i 1).val) 512#32) 128#32) 128#32) 0#32) 256#32)⟩
def posAt2 (i : grid0.Coords) : Pos := ⟨k0_off1 i 256#32, k0_off1_inb i 2, (Scalar.addi (Scalar.muli (BitVec.ofNat 32 (i 1).val) 512#32) 256#32), (Scalar.minsi (Scalar.maxsi (Scalar.subi (Scalar.addi (Scalar.muli (BitVec.ofNat 32 (i 1).val) 512#32) 256#32) 128#32) 0#32) 256#32)⟩
def posAt3 (i : grid0.Coords) : Pos := ⟨k0_off1 i 384#32, k0_off1_inb i 3, (Scalar.addi (Scalar.muli (BitVec.ofNat 32 (i 1).val) 512#32) 384#32), (Scalar.minsi (Scalar.maxsi (Scalar.subi (Scalar.addi (Scalar.muli (BitVec.ofNat 32 (i 1).val) 512#32) 384#32) 128#32) 0#32) 256#32)⟩
/-- and in closed form: windows at keys 0, 0, 128, 256. -/
def pos0 : Pos := ⟨![0, 0, 0], by decide, 0#32, 0#32⟩
def pos1 : Pos := ⟨![0, 0, 0], by decide, 128#32, 0#32⟩
def pos2 : Pos := ⟨![0, 128, 0], by decide, 256#32, 128#32⟩
def pos3 : Pos := ⟨![0, 256, 0], by decide, 384#32, 256#32⟩
theorem posAt0_eq (i : grid0.Coords) : posAt0 i = pos0 := by
  have ht : (Scalar.addi (Scalar.muli (BitVec.ofNat 32 (i 1).val) 512#32) 0#32) = 0#32 := by revert i; decide +kernel
  have hs : (Scalar.minsi (Scalar.maxsi (Scalar.subi (Scalar.addi (Scalar.muli (BitVec.ofNat 32 (i 1).val) 512#32) 0#32) 128#32) 0#32) 256#32) = 0#32 := by revert i; decide +kernel
  simp only [posAt0, pos0, Pos.mk.injEq]
  exact ⟨off0_eq i, ht, hs⟩
theorem posAt1_eq (i : grid0.Coords) : posAt1 i = pos1 := by
  have ht : (Scalar.addi (Scalar.muli (BitVec.ofNat 32 (i 1).val) 512#32) 128#32) = 128#32 := by revert i; decide +kernel
  have hs : (Scalar.minsi (Scalar.maxsi (Scalar.subi (Scalar.addi (Scalar.muli (BitVec.ofNat 32 (i 1).val) 512#32) 128#32) 128#32) 0#32) 256#32) = 0#32 := by revert i; decide +kernel
  simp only [posAt1, pos1, Pos.mk.injEq]
  exact ⟨off1_eq i, ht, hs⟩
theorem posAt2_eq (i : grid0.Coords) : posAt2 i = pos2 := by
  have ht : (Scalar.addi (Scalar.muli (BitVec.ofNat 32 (i 1).val) 512#32) 256#32) = 256#32 := by revert i; decide +kernel
  have hs : (Scalar.minsi (Scalar.maxsi (Scalar.subi (Scalar.addi (Scalar.muli (BitVec.ofNat 32 (i 1).val) 512#32) 256#32) 128#32) 0#32) 256#32) = 128#32 := by revert i; decide +kernel
  simp only [posAt2, pos2, Pos.mk.injEq]
  exact ⟨off2_eq i, ht, hs⟩
theorem posAt3_eq (i : grid0.Coords) : posAt3 i = pos3 := by
  have ht : (Scalar.addi (Scalar.muli (BitVec.ofNat 32 (i 1).val) 512#32) 384#32) = 384#32 := by revert i; decide +kernel
  have hs : (Scalar.minsi (Scalar.maxsi (Scalar.subi (Scalar.addi (Scalar.muli (BitVec.ofNat 32 (i 1).val) 512#32) 384#32) 128#32) 0#32) 256#32) = 256#32 := by revert i; decide +kernel
  simp only [posAt3, pos3, Pos.mk.injEq]
  exact ⟨off3_eq i, ht, hs⟩

abbrev rq0 : Rect S1x512x64 := Rect.unit (s := S1x512x64) ![0, 0, 0] S1x128x64.size inb_S1x512x64_S1x128x64_0_0_0
abbrev rq1 : Rect S1x512x64 := Rect.unit (s := S1x512x64) ![0, 128, 0] S1x128x64.size inb_S1x512x64_S1x128x64_0_128_0
abbrev rq2 : Rect S1x512x64 := Rect.unit (s := S1x512x64) ![0, 256, 0] S1x128x64.size inb_S1x512x64_S1x128x64_0_256_0
abbrev rq3 : Rect S1x512x64 := Rect.unit (s := S1x512x64) ![0, 384, 0] S1x128x64.size inb_S1x512x64_S1x128x64_0_384_0
abbrev rl0 : Rect S1x512x1 := Rect.unit (s := S1x512x1) ![0, 0, 0] S1x128x1.size inb_S1x512x1_S1x128x1_0_0_0
abbrev rl1 : Rect S1x512x1 := Rect.unit (s := S1x512x1) ![0, 128, 0] S1x128x1.size inb_S1x512x1_S1x128x1_0_128_0
abbrev rl2 : Rect S1x512x1 := Rect.unit (s := S1x512x1) ![0, 256, 0] S1x128x1.size inb_S1x512x1_S1x128x1_0_256_0
abbrev rl3 : Rect S1x512x1 := Rect.unit (s := S1x512x1) ![0, 384, 0] S1x128x1.size inb_S1x512x1_S1x128x1_0_384_0
abbrev rw512 : Rect S1x512x64 := Rect.unit (s := S1x512x64) ![0, 0, 0] S1x512x64.size inb_S1x512x64_S1x512x64_0_0_0
abbrev rw8 : Rect S1x8x128 := Rect.unit (s := S1x8x128) ![0, 0, 0] S1x8x128.size inb_S1x8x128_S1x8x128_0_0_0
/-- The key window of a group. -/
abbrev rk (p : Pos) : Rect S1x512x64 := Rect.unit (s := S1x512x64) p.off S1x256x64.size p.inb

/-- The masked scores of one group: scaled queries `q` against the window of the keys `x1`. -/
def scores (p : Pos) (q : Vec F S1x128x64 .bf16) (x1 : Vec F S1x512x64 .bf16) : FVec F S128x256 .f32 :=
  k0_pay10 p.t p.s (k0_pay9 q (View.ld x1 (rk p))) (iota .tc S128x256 32 [0] iota_S128x256_d0_w32)

/-- The group's rows of the first result. -/
def dqRows (p : Pos) (q g : Vec F S1x128x64 .bf16) (l d : Vec F S1x128x1 .f32) (x1 x2 : Vec F S1x512x64 .bf16) : FVec F S1x128x64 .f32 :=
  k0_pay31 (k0_pay8 (View.ld x1 (rk p))) (scores p q x1) (k0_pay22 g (View.ld x2 (rk p))) l d

/-- The group's step of the second result: its window, added to. -/
def dkStep (p : Pos) (q g : Vec F S1x128x64 .bf16) (l d : Vec F S1x128x1 .f32) (x1 x2 : Vec F S1x512x64 .bf16)
    (L : List (View.Piece (Elt F) S1x512x64 .f32)) : List (View.Piece (Elt F) S1x512x64 .f32) :=
  ⟨rk p, k0_pay33 (k0_pay32 (k0_pay7 q) (scores p q x1) (k0_pay22 g (View.ld x2 (rk p))) l d (View.ld (View.canon L) (rk p)))⟩ :: L

/-- The group's step of the third result. -/
def dvStep (p : Pos) (q g : Vec F S1x128x64 .bf16) (l : Vec F S1x128x1 .f32) (x1 : Vec F S1x512x64 .bf16)
    (L : List (View.Piece (Elt F) S1x512x64 .f32)) : List (View.Piece (Elt F) S1x512x64 .f32) :=
  ⟨rk p, k0_pay34 (k0_pay28 g) (k0_pay29 (scores p q x1) l) (View.ld (View.canon L) (rk p))⟩ :: L

/-- The pieces of the first result. -/
def dqPieces (p0 p1 p2 p3 : Pos) (x0 x1 x2 x3 : Vec F S1x512x64 .bf16) (x4 x5 : Vec F S1x512x1 .f32) : List (View.Piece (Elt F) S1x512x64 .f32) :=
  [⟨rq3, dqRows p3 (View.ld x0 rq3) (View.ld x3 rq3) (View.ld x4 rl3) (View.ld x5 rl3) x1 x2⟩,
   ⟨rq2, dqRows p2 (View.ld x0 rq2) (View.ld x3 rq2) (View.ld x4 rl2) (View.ld x5 rl2) x1 x2⟩,
   ⟨rq1, dqRows p1 (View.ld x0 rq1) (View.ld x3 rq1) (View.ld x4 rl1) (View.ld x5 rl1) x1 x2⟩,
   ⟨rq0, dqRows p0 (View.ld x0 rq0) (View.ld x3 rq0) (View.ld x4 rl0) (View.ld x5 rl0) x1 x2⟩]

/-- The pieces of the second result: zeros, then the four windows. -/
def dkPieces (p0 p1 p2 p3 : Pos) (x0 x1 x2 x3 : Vec F S1x512x64 .bf16) (x4 x5 : Vec F S1x512x1 .f32) : List (View.Piece (Elt F) S1x512x64 .f32) :=
  dkStep p3 (View.ld x0 rq3) (View.ld x3 rq3) (View.ld x4 rl3) (View.ld x5 rl3) x1 x2 <|
  dkStep p2 (View.ld x0 rq2) (View.ld x3 rq2) (View.ld x4 rl2) (View.ld x5 rl2) x1 x2 <|
  dkStep p1 (View.ld x0 rq1) (View.ld x3 rq1) (View.ld x4 rl1) (View.ld x5 rl1) x1 x2 <|
  dkStep p0 (View.ld x0 rq0) (View.ld x3 rq0) (View.ld x4 rl0) (View.ld x5 rl0) x1 x2
  [⟨rw512, k0_pay4⟩]

/-- The pieces of the third result. -/
def dvPieces (p0 p1 p2 p3 : Pos) (x0 x1 x3 : Vec F S1x512x64 .bf16) (x4 : Vec F S1x512x1 .f32) : List (View.Piece (Elt F) S1x512x64 .f32) :=
  dvStep p3 (View.ld x0 rq3) (View.ld x3 rq3) (View.ld x4 rl3) x1 <|
  dvStep p2 (View.ld x0 rq2) (View.ld x3 rq2) (View.ld x4 rl2) x1 <|
  dvStep p1 (View.ld x0 rq1) (View.ld x3 rq1) (View.ld x4 rl1) x1 <|
  dvStep p0 (View.ld x0 rq0) (View.ld x3 rq0) (View.ld x4 rl0) x1
  [⟨rw512, k0_pay5⟩]

def outDq (x0 x1 x2 x3 : Vec F S1x512x64 .bf16) (x4 x5 : Vec F S1x512x1 .f32) : Vec F S1x512x64 .f32 := View.canon (dqPieces pos0 pos1 pos2 pos3 x0 x1 x2 x3 x4 x5)
def outDk (x0 x1 x2 x3 : Vec F S1x512x64 .bf16) (x4 x5 : Vec F S1x512x1 .f32) : Vec F S1x512x64 .f32 := View.canon (dkPieces pos0 pos1 pos2 pos3 x0 x1 x2 x3 x4 x5)
def outDv (x0 x1 x3 : Vec F S1x512x64 .bf16) (x4 : Vec F S1x512x1 .f32) : Vec F S1x512x64 .f32 := View.canon (dvPieces pos0 pos1 pos2 pos3 x0 x1 x3 x4)
def outDs : Vec F S1x8x128 .f32 := View.canon [⟨rw8, k0_pay6⟩]

/-- The group's step of the second result: its window, added to; as a view reads it back. -/
def dkStepV (v : View sig .tc .vmem S1x512x64 .f32) (p : Pos) (q g : Vec F S1x128x64 .bf16) (l d : Vec F S1x128x1 .f32) (x1 x2 : Vec F S1x512x64 .bf16)
    (L : List (View.Piece (Elt F) S1x512x64 .f32)) : List (View.Piece (Elt F) S1x512x64 .f32) :=
  ⟨rk p, k0_pay33 (k0_pay32 (k0_pay7 q) (scores p q x1) (k0_pay22 g (View.ld x2 (rk p))) l d (v.readCov L (rk p).toLoadRect))⟩ :: L

/-- The pieces of the second result: zeros, then the four windows; as a view reads it back. -/
def dkPiecesV (v : View sig .tc .vmem S1x512x64 .f32) (p0 p1 p2 p3 : Pos) (x0 x1 x2 x3 : Vec F S1x512x64 .bf16) (x4 x5 : Vec F S1x512x1 .f32) : List (View.Piece (Elt F) S1x512x64 .f32) :=
  dkStepV v p3 (View.ld x0 rq3) (View.ld x3 rq3) (View.ld x4 rl3) (View.ld x5 rl3) x1 x2 <|
  dkStepV v p2 (View.ld x0 rq2) (View.ld x3 rq2) (View.ld x4 rl2) (View.ld x5 rl2) x1 x2 <|
  dkStepV v p1 (View.ld x0 rq1) (View.ld x3 rq1) (View.ld x4 rl1) (View.ld x5 rl1) x1 x2 <|
  dkStepV v p0 (View.ld x0 rq0) (View.ld x3 rq0) (View.ld x4 rl0) (View.ld x5 rl0) x1 x2
  [⟨rw512, k0_pay4⟩]

/-- The group's step of the third result; as a view reads it back. -/
def dvStepV (v : View sig .tc .vmem S1x512x64 .f32) (p : Pos) (q g : Vec F S1x128x64 .bf16) (l : Vec F S1x128x1 .f32) (x1 : Vec F S1x512x64 .bf16)
    (L : List (View.Piece (Elt F) S1x512x64 .f32)) : List (View.Piece (Elt F) S1x512x64 .f32) :=
  ⟨rk p, k0_pay34 (k0_pay28 g) (k0_pay29 (scores p q x1) l) (v.readCov L (rk p).toLoadRect)⟩ :: L

/-- The pieces of the third result; as a view reads it back. -/
def dvPiecesV (v : View sig .tc .vmem S1x512x64 .f32) (p0 p1 p2 p3 : Pos) (x0 x1 x3 : Vec F S1x512x64 .bf16) (x4 : Vec F S1x512x1 .f32) : List (View.Piece (Elt F) S1x512x64 .f32) :=
  dvStepV v p3 (View.ld x0 rq3) (View.ld x3 rq3) (View.ld x4 rl3) x1 <|
  dvStepV v p2 (View.ld x0 rq2) (View.ld x3 rq2) (View.ld x4 rl2) x1 <|
  dvStepV v p1 (View.ld x0 rq1) (View.ld x3 rq1) (View.ld x4 rl1) x1 <|
  dvStepV v p0 (View.ld x0 rq0) (View.ld x3 rq0) (View.ld x4 rl0) x1
  [⟨rw512, k0_pay5⟩]

theorem dkPiecesV_eq (v : View sig .tc .vmem S1x512x64 .f32) (p0 p1 p2 p3 : Pos) (x0 x1 x2 x3 : Vec F S1x512x64 .bf16) (x4 x5 : Vec F S1x512x1 .f32) :
    dkPiecesV v p0 p1 p2 p3 x0 x1 x2 x3 x4 x5 = dkPieces p0 p1 p2 p3 x0 x1 x2 x3 x4 x5 := by
  have h : ∀ p q g l d x1 x2 (L : List (View.Piece (Elt F) S1x512x64 .f32)), dkStepV v p q g l d x1 x2 L = dkStep p q g l d x1 x2 L := by
    intro p q g l d x1 x2 L
    unfold dkStepV dkStep
    rw [View.readCov_eq_canon']
  unfold dkPiecesV dkPieces
  simp only [h]

theorem dvPiecesV_eq (v : View sig .tc .vmem S1x512x64 .f32) (p0 p1 p2 p3 : Pos) (x0 x1 x3 : Vec F S1x512x64 .bf16) (x4 : Vec F S1x512x1 .f32) :
    dvPiecesV v p0 p1 p2 p3 x0 x1 x3 x4 = dvPieces p0 p1 p2 p3 x0 x1 x3 x4 := by
  have h : ∀ p q g l x1 (L : List (View.Piece (Elt F) S1x512x64 .f32)), dvStepV v p q g l x1 L = dvStep p q g l x1 L := by
    intro p q g l x1 L
    unfold dvStepV dvStep
    rw [View.readCov_eq_canon']
  unfold dvPiecesV dvPieces
  simp only [h]

theorem cover_dq (p0 p1 p2 p3 : Vec F S1x128x64 .f32) (y : S1x512x64.Idx) :
    ∃ pc ∈ ([⟨rq3, p3⟩, ⟨rq2, p2⟩, ⟨rq1, p1⟩, ⟨rq0, p0⟩] : List (View.Piece (Elt F) S1x512x64 .f32)), y ∈ pc.1.set :=
  View.cover_of_tiled [⟨rq3, p3⟩, ⟨rq2, p2⟩, ⟨rq1, p1⟩, ⟨rq0, p0⟩] S1x128x64.size (by rfl) y

theorem cover_w (p : Vec F S1x512x64 .f32) (y : S1x512x64.Idx) :
    ∃ pc ∈ ([⟨rw512, p⟩] : List (View.Piece (Elt F) S1x512x64 .f32)), y ∈ pc.1.set :=
  View.cover_of_tiled [⟨rw512, p⟩] S1x512x64.size (by rfl) y

theorem cover_ds (p : Vec F S1x8x128 .f32) (y : S1x8x128.Idx) :
    ∃ pc ∈ ([⟨rw8, p⟩] : List (View.Piece (Elt F) S1x8x128 .f32)), y ∈ pc.1.set :=
  View.cover_of_tiled [⟨rw8, p⟩] S1x8x128.size (by rfl) y

theorem mem_rw512 (p : Vec F S1x512x64 .f32) (y : S1x512x64.Idx) : y ∈ (rw512).set := by
  obtain ⟨pc, hm, hy⟩ := cover_w p y
  rw [List.mem_singleton] at hm
  rw [hm] at hy
  exact hy

/-! ## The four groups' payloads are one another's -/

theorem sc1 (a : BitVec 32) (q : Vec F S1x128x64 .bf16) (k : Vec F S1x256x64 .bf16) : k0_pay13 a q k
    = k0_pay10 (Scalar.addi (Scalar.muli a 512#32) 128#32) (Scalar.minsi (Scalar.maxsi (Scalar.subi (Scalar.addi (Scalar.muli a 512#32) 128#32) 128#32) 0#32) 256#32)
      (k0_pay9 q k) (iota .tc S128x256 32 [0] iota_S128x256_d0_w32) := rfl
theorem sc2 (a : BitVec 32) (q : Vec F S1x128x64 .bf16) (k : Vec F S1x256x64 .bf16) : k0_pay16 a 512#32 q k
    = k0_pay10 (Scalar.addi (Scalar.muli a 512#32) 256#32) (Scalar.minsi (Scalar.maxsi (Scalar.subi (Scalar.addi (Scalar.muli a 512#32) 256#32) 128#32) 0#32) 256#32)
      (k0_pay9 q k) (iota .tc S128x256 32 [0] iota_S128x256_d0_w32) := rfl
theorem sc3 (t s : BitVec 32) (q : Vec F S1x128x64 .bf16) (k : Vec F S1x256x64 .bf16) : k0_pay21 t s (k0_pay17 q) k0_pay18 k
    = k0_pay10 t s (k0_pay9 q k) (iota .tc S128x256 32 [0] iota_S128x256_d0_w32) := rfl
theorem qs1 (q : Vec F S1x128x64 .bf16) : k0_pay11 q = k0_pay7 q := rfl
theorem qs2 (q : Vec F S1x128x64 .bf16) : k0_pay14 q = k0_pay7 q := rfl
theorem qs3 (q : Vec F S1x128x64 .bf16) : k0_pay19 (k0_pay17 q) k0_pay18 = k0_pay7 q := rfl
theorem kw1 (k : Vec F S1x256x64 .bf16) : k0_pay12 k = k0_pay8 k := rfl
theorem kw2 (k : Vec F S1x256x64 .bf16) : k0_pay15 k = k0_pay8 k := rfl
theorem kw3 (k : Vec F S1x256x64 .bf16) : k0_pay20 k = k0_pay8 k := rfl
theorem dp1 (g : Vec F S1x128x64 .bf16) (k : Vec F S1x256x64 .bf16) : k0_pay23 g k = k0_pay22 g k := rfl
theorem dp2 (g : Vec F S1x128x64 .bf16) (k : Vec F S1x256x64 .bf16) :
    k0_pay26 (k0_pay24 g) (k0_pay25 k) (constant S128x256 .f32 0x00000000#32) = k0_pay22 g k := rfl
theorem dp3 (g : Vec F S1x128x64 .bf16) (k : Vec F S1x256x64 .bf16) : k0_pay27 g k = k0_pay22 g k := rfl
section
variable (kw : FVec F S256x64 .bf16) (qs : FVec F S128x64 .bf16) (s dp : FVec F S128x256 .f32) (l d : Vec F S1x128x1 .f32)
  (g : Vec F S1x128x64 .bf16) (acc : Vec F S1x256x64 .f32)
theorem dq1 : k0_pay38 kw s dp l d = k0_pay31 kw s dp l d := rfl
theorem dq2 : k0_pay45 kw s dp l d = k0_pay31 kw s dp l d := rfl
theorem dq3 : k0_pay1 (k0_pay51 kw s dp l d) = k0_pay31 kw s dp l d := rfl
theorem dk1 : k0_pay40 (k0_pay39 qs s dp l d acc) = k0_pay33 (k0_pay32 qs s dp l d acc) := rfl
theorem dk2 : k0_pay46 qs (k0_pay44 s dp l d) acc = k0_pay33 (k0_pay32 qs s dp l d acc) := rfl
theorem dk3 : k0_pay2 qs (k0_pay50 s dp l d) acc = k0_pay33 (k0_pay32 qs s dp l d acc) := rfl
theorem dv1 : k0_pay41 (k0_pay35 g) (k0_pay36 s l) acc = k0_pay34 (k0_pay28 g) (k0_pay29 s l) acc := rfl
theorem dv2 : k0_pay47 (k0_pay42 g) (k0_pay43 s l) acc = k0_pay34 (k0_pay28 g) (k0_pay29 s l) acc := rfl
theorem dv3 : k0_pay3 (k0_pay48 g) (k0_pay49 s l) acc = k0_pay34 (k0_pay28 g) (k0_pay29 s l) acc := rfl
end

set_option maxHeartbeats 1000000 in
theorem body_triple (c : Dev nD) (E : Set ℕ) (i : grid0.Coords) (arg2 : Memref sig .tc .vmem S1x512x64 .bf16) (harg2 : arg2.IsWhole) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S1x512x64 .f32) (harg8 : arg8.IsWhole) (arg9 : Memref sig .tc .vmem S1x512x64 .f32) (harg9 : arg9.IsWhole) (arg10 : Memref sig .tc .vmem S1x512x64 .f32) (harg10 : arg10.IsWhole) (arg11 : Memref sig .tc .vmem S1x8x128 .f32) (harg11 : arg11.IsWhole)
    (x0 x1 x2 x3 : Vec F S1x512x64 .bf16) (x4 x5 : Vec F S1x512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare (outDq x0 x1 x2 x3 x4 x5) ∗ owns (c : Thread nD τ) arg9 fullShare (outDk x0 x1 x2 x3 x4 x5) ∗ owns (c : Thread nD τ) arg10 fullShare (outDv x0 x1 x3 x4) ∗ owns (c : Thread nD τ) arg11 fullShare outDs) -∗ K ⟨⟩))
      ⊢ wp frame (wpE (defs₀ (F := F)) Variants.none c none) E (cc0_dil_bwd i arg2 harg2 arg3 harg3 arg4 harg4 arg5 harg5 arg6 harg6 arg7 harg7 arg8 harg8 arg9 harg9 arg10 harg10 arg11 harg11) K := by
  have hc1 := cond1_eq i
  unfold cond1 at hc1
  have hc2 := cond2_eq i
  simp only [cc0_dil_bwd_eq_skeleton]; unfold cc0_dil_bwd_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0 hf1 hf2 hf3 hf4 hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover_dq _ _ _ _)).trans ?_
    unfold outDq
    rw [← posAt0_eq i, ← posAt1_eq i, ← posAt2_eq i, ← posAt3_eq i]
    try delta body_triple.sl.r_32
    try delta body_triple.sl.r_31
    try delta body_triple.sl.r_30
    try delta body_triple.sl.r_29
    try delta body_triple.sl.r_28
    try delta body_triple.sl.r_27
    try delta body_triple.sl.r_26
    try delta body_triple.sl.r_25
    try delta body_triple.sl.r_24
    try delta body_triple.sl.r_23
    try delta body_triple.sl.r_22
    try delta body_triple.sl.r_21
    try delta body_triple.sl.r_20
    try delta body_triple.sl.r_19
    try delta body_triple.sl.r_18
    try delta body_triple.sl.r_17
    try delta body_triple.sl.r_16
    try delta body_triple.sl.r_15
    try delta body_triple.sl.r_14
    try delta body_triple.sl.r_13
    try delta body_triple.sl.r_12
    try delta body_triple.sl.r_11
    try delta body_triple.sl.r_10
    try delta body_triple.sl.r_9
    try delta body_triple.sl.r_8
    try delta body_triple.sl.r_7
    try delta body_triple.sl.r_6
    try delta body_triple.sl.r_5
    try delta body_triple.sl.r_4
    try delta body_triple.sl.r_3
    try delta body_triple.sl.r_2
    try delta body_triple.sl.r_1
    try delta body_triple.sl.r_32
    try delta body_triple.sl.r_31
    try delta body_triple.sl.r_30
    try delta body_triple.sl.r_29
    try delta body_triple.sl.r_28
    try delta body_triple.sl.r_27
    try delta body_triple.sl.r_26
    try delta body_triple.sl.r_25
    try delta body_triple.sl.r_24
    try delta body_triple.sl.r_23
    try delta body_triple.sl.r_22
    try delta body_triple.sl.r_21
    try delta body_triple.sl.r_20
    try delta body_triple.sl.r_19
    try delta body_triple.sl.r_18
    try delta body_triple.sl.r_17
    try delta body_triple.sl.r_16
    try delta body_triple.sl.r_15
    try delta body_triple.sl.r_14
    try delta body_triple.sl.r_13
    try delta body_triple.sl.r_12
    try delta body_triple.sl.r_11
    try delta body_triple.sl.r_10
    try delta body_triple.sl.r_9
    try delta body_triple.sl.r_8
    try delta body_triple.sl.r_7
    try delta body_triple.sl.r_6
    try delta body_triple.sl.r_5
    try delta body_triple.sl.r_4
    try delta body_triple.sl.r_3
    try delta body_triple.sl.r_2
    try delta body_triple.sl.r_1
    try delta body_triple.sl.r
    try delta body_triple.sl.v107
    try delta body_triple.sl.v106
    try delta body_triple.sl.v105
    try delta body_triple.sl.v104
    try delta body_triple.sl.v103
    try delta body_triple.sl.v102
    try delta body_triple.sl.v79
    try delta body_triple.sl.v78
    try delta body_triple.sl.v77
    try delta body_triple.sl.v76
    try delta body_triple.sl.v75
    try delta body_triple.sl.v74
    try delta body_triple.sl.v51
    try delta body_triple.sl.v50
    try delta body_triple.sl.v49
    try delta body_triple.sl.v48
    try delta body_triple.sl.v47
    try delta body_triple.sl.v46
    try delta body_triple.sl.v32
    try delta body_triple.sl.v23
    try delta body_triple.sl.v22
    try delta body_triple.sl.v21
    try delta body_triple.sl.v20
    try delta body_triple.sl.v19
    try delta body_triple.sl.v18
    try delta body_triple.sl.cst_77
    unfold dqPieces dqRows scores
    simp only [sc1, sc2, sc3, qs1, qs2, qs3, kw1, kw2, kw3, dp1, dp2, dp3, dq1, dq2, dq3, dk1, dk2, dk3, dv1, dv2, dv3, View.readAt_eq_ld, posAt0, posAt1, posAt2, posAt3]
  isplitl [H7]
  · iexists _; isplitr
    swap; · iexact H7
    ipureintro
    refine (View.read_writes_eq_canon _ _ _ ?_).trans ?_
    · intro y
      refine ⟨⟨rw512, k0_pay4⟩, ?_, mem_rw512 (k0_pay4 (F := F)) y⟩
      delta body_triple.sl.H7_1 body_triple.sl.H7_2 body_triple.sl.H7_3 body_triple.sl.H7_4
      refine List.mem_cons_of_mem _ (List.mem_cons_of_mem _ (List.mem_cons_of_mem _ (List.mem_cons_of_mem _ ?_)))
      exact List.mem_singleton.mpr rfl
    unfold outDk
    rw [← posAt0_eq i, ← posAt1_eq i, ← posAt2_eq i, ← posAt3_eq i, ← dkPiecesV_eq arg9.view]
    delta body_triple.sl.H7_1 body_triple.sl.H7_2 body_triple.sl.H7_3 body_triple.sl.H7_4 body_triple.sl.v174 body_triple.sl.v212 body_triple.sl.v250 body_triple.sl.v288
    try delta body_triple.sl.r_32
    try delta body_triple.sl.r_31
    try delta body_triple.sl.r_30
    try delta body_triple.sl.r_29
    try delta body_triple.sl.r_28
    try delta body_triple.sl.r_27
    try delta body_triple.sl.r_26
    try delta body_triple.sl.r_25
    try delta body_triple.sl.r_24
    try delta body_triple.sl.r_23
    try delta body_triple.sl.r_22
    try delta body_triple.sl.r_21
    try delta body_triple.sl.r_20
    try delta body_triple.sl.r_19
    try delta body_triple.sl.r_18
    try delta body_triple.sl.r_17
    try delta body_triple.sl.r_16
    try delta body_triple.sl.r_15
    try delta body_triple.sl.r_14
    try delta body_triple.sl.r_13
    try delta body_triple.sl.r_12
    try delta body_triple.sl.r_11
    try delta body_triple.sl.r_10
    try delta body_triple.sl.r_9
    try delta body_triple.sl.r_8
    try delta body_triple.sl.r_7
    try delta body_triple.sl.r_6
    try delta body_triple.sl.r_5
    try delta body_triple.sl.r_4
    try delta body_triple.sl.r_3
    try delta body_triple.sl.r_2
    try delta body_triple.sl.r_1
    try delta body_triple.sl.r_32
    try delta body_triple.sl.r_31
    try delta body_triple.sl.r_30
    try delta body_triple.sl.r_29
    try delta body_triple.sl.r_28
    try delta body_triple.sl.r_27
    try delta body_triple.sl.r_26
    try delta body_triple.sl.r_25
    try delta body_triple.sl.r_24
    try delta body_triple.sl.r_23
    try delta body_triple.sl.r_22
    try delta body_triple.sl.r_21
    try delta body_triple.sl.r_20
    try delta body_triple.sl.r_19
    try delta body_triple.sl.r_18
    try delta body_triple.sl.r_17
    try delta body_triple.sl.r_16
    try delta body_triple.sl.r_15
    try delta body_triple.sl.r_14
    try delta body_triple.sl.r_13
    try delta body_triple.sl.r_12
    try delta body_triple.sl.r_11
    try delta body_triple.sl.r_10
    try delta body_triple.sl.r_9
    try delta body_triple.sl.r_8
    try delta body_triple.sl.r_7
    try delta body_triple.sl.r_6
    try delta body_triple.sl.r_5
    try delta body_triple.sl.r_4
    try delta body_triple.sl.r_3
    try delta body_triple.sl.r_2
    try delta body_triple.sl.r_1
    try delta body_triple.sl.r
    try delta body_triple.sl.v107
    try delta body_triple.sl.v106
    try delta body_triple.sl.v105
    try delta body_triple.sl.v104
    try delta body_triple.sl.v103
    try delta body_triple.sl.v102
    try delta body_triple.sl.v79
    try delta body_triple.sl.v78
    try delta body_triple.sl.v77
    try delta body_triple.sl.v76
    try delta body_triple.sl.v75
    try delta body_triple.sl.v74
    try delta body_triple.sl.v51
    try delta body_triple.sl.v50
    try delta body_triple.sl.v49
    try delta body_triple.sl.v48
    try delta body_triple.sl.v47
    try delta body_triple.sl.v46
    try delta body_triple.sl.v32
    try delta body_triple.sl.v23
    try delta body_triple.sl.v22
    try delta body_triple.sl.v21
    try delta body_triple.sl.v20
    try delta body_triple.sl.v19
    try delta body_triple.sl.v18
    try delta body_triple.sl.cst_77
    unfold dkPiecesV dkStepV scores
    simp only [sc1, sc2, sc3, qs1, qs2, qs3, kw1, kw2, kw3, dp1, dp2, dp3, dq1, dq2, dq3, dk1, dk2, dk3, dv1, dv2, dv3, View.readAt_eq_ld, posAt0, posAt1, posAt2, posAt3]
    rfl
  isplitl [H8]
  · iexists _; isplitr
    swap; · iexact H8
    ipureintro
    refine (View.read_writes_eq_canon _ _ _ ?_).trans ?_
    · intro y
      refine ⟨⟨rw512, k0_pay5⟩, ?_, mem_rw512 (k0_pay4 (F := F)) y⟩
      delta body_triple.sl.H8_1 body_triple.sl.H8_2 body_triple.sl.H8_3 body_triple.sl.H8_4
      refine List.mem_cons_of_mem _ (List.mem_cons_of_mem _ (List.mem_cons_of_mem _ (List.mem_cons_of_mem _ ?_)))
      exact List.mem_singleton.mpr rfl
    unfold outDv
    rw [← posAt0_eq i, ← posAt1_eq i, ← posAt2_eq i, ← posAt3_eq i, ← dvPiecesV_eq arg10.view]
    delta body_triple.sl.H8_1 body_triple.sl.H8_2 body_triple.sl.H8_3 body_triple.sl.H8_4 body_triple.sl.v183 body_triple.sl.v221 body_triple.sl.v259 body_triple.sl.v297
    try delta body_triple.sl.r_32
    try delta body_triple.sl.r_31
    try delta body_triple.sl.r_30
    try delta body_triple.sl.r_29
    try delta body_triple.sl.r_28
    try delta body_triple.sl.r_27
    try delta body_triple.sl.r_26
    try delta body_triple.sl.r_25
    try delta body_triple.sl.r_24
    try delta body_triple.sl.r_23
    try delta body_triple.sl.r_22
    try delta body_triple.sl.r_21
    try delta body_triple.sl.r_20
    try delta body_triple.sl.r_19
    try delta body_triple.sl.r_18
    try delta body_triple.sl.r_17
    try delta body_triple.sl.r_16
    try delta body_triple.sl.r_15
    try delta body_triple.sl.r_14
    try delta body_triple.sl.r_13
    try delta body_triple.sl.r_12
    try delta body_triple.sl.r_11
    try delta body_triple.sl.r_10
    try delta body_triple.sl.r_9
    try delta body_triple.sl.r_8
    try delta body_triple.sl.r_7
    try delta body_triple.sl.r_6
    try delta body_triple.sl.r_5
    try delta body_triple.sl.r_4
    try delta body_triple.sl.r_3
    try delta body_triple.sl.r_2
    try delta body_triple.sl.r_1
    try delta body_triple.sl.r_32
    try delta body_triple.sl.r_31
    try delta body_triple.sl.r_30
    try delta body_triple.sl.r_29
    try delta body_triple.sl.r_28
    try delta body_triple.sl.r_27
    try delta body_triple.sl.r_26
    try delta body_triple.sl.r_25
    try delta body_triple.sl.r_24
    try delta body_triple.sl.r_23
    try delta body_triple.sl.r_22
    try delta body_triple.sl.r_21
    try delta body_triple.sl.r_20
    try delta body_triple.sl.r_19
    try delta body_triple.sl.r_18
    try delta body_triple.sl.r_17
    try delta body_triple.sl.r_16
    try delta body_triple.sl.r_15
    try delta body_triple.sl.r_14
    try delta body_triple.sl.r_13
    try delta body_triple.sl.r_12
    try delta body_triple.sl.r_11
    try delta body_triple.sl.r_10
    try delta body_triple.sl.r_9
    try delta body_triple.sl.r_8
    try delta body_triple.sl.r_7
    try delta body_triple.sl.r_6
    try delta body_triple.sl.r_5
    try delta body_triple.sl.r_4
    try delta body_triple.sl.r_3
    try delta body_triple.sl.r_2
    try delta body_triple.sl.r_1
    try delta body_triple.sl.r
    try delta body_triple.sl.v107
    try delta body_triple.sl.v106
    try delta body_triple.sl.v105
    try delta body_triple.sl.v104
    try delta body_triple.sl.v103
    try delta body_triple.sl.v102
    try delta body_triple.sl.v79
    try delta body_triple.sl.v78
    try delta body_triple.sl.v77
    try delta body_triple.sl.v76
    try delta body_triple.sl.v75
    try delta body_triple.sl.v74
    try delta body_triple.sl.v51
    try delta body_triple.sl.v50
    try delta body_triple.sl.v49
    try delta body_triple.sl.v48
    try delta body_triple.sl.v47
    try delta body_triple.sl.v46
    try delta body_triple.sl.v32
    try delta body_triple.sl.v23
    try delta body_triple.sl.v22
    try delta body_triple.sl.v21
    try delta body_triple.sl.v20
    try delta body_triple.sl.v19
    try delta body_triple.sl.v18
    try delta body_triple.sl.cst_77
    unfold dvPiecesV dvStepV scores
    simp only [sc1, sc2, sc3, qs1, qs2, qs3, kw1, kw2, kw3, dp1, dp2, dp3, dq1, dq2, dq3, dk1, dk2, dk3, dv1, dv2, dv3, View.readAt_eq_ld, posAt0, posAt1, posAt2, posAt3]
  iexists _; isplitr
  swap; · iexact H9
  ipureintro
  exact View.read_writes_eq_canon _ _ _ (cover_ds _)

end Cert.KernelIdeal.Band
-- ==== Proof.BandRun.lean ====
module

public import proofs.«01_k».proof.Proof.BandBody

@[expose] public section

set_option maxRecDepth 16384

noncomputable section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pipeline's data: inputs keep their blocks, outputs get what the body computes from them. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outDq (iblk m c 0 t) (iblk m c 1 t) (iblk m c 2 t) (iblk m c 3 t) (iblk m c 4 t) (iblk m c 5 t)
    | ⟨7, _⟩ => outDk (iblk m c 0 t) (iblk m c 1 t) (iblk m c 2 t) (iblk m c 3 t) (iblk m c 4 t) (iblk m c 5 t)
    | ⟨8, _⟩ => outDv (iblk m c 0 t) (iblk m c 1 t) (iblk m c 3 t) (iblk m c 4 t)
    | ⟨9, _⟩ => outDs
  Φ _ := Pipeline.ΦA spec0 c
  q _ := fullShare
  owed _ := 0

theorem data_arr (c : Dev nD) (w : Fin cfg0.W) : (data m 0 c).A w = V m c (Pipeline.arrRef spec0 w) := by
  dsimp only [data]

theorem left0 (c : Dev nD) (t : Fin cfg0.N) : (data m 0 c).after 0 t = iblk m c 0 t := by dsimp only [data]
theorem left1 (c : Dev nD) (t : Fin cfg0.N) : (data m 0 c).after 1 t = iblk m c 1 t := by dsimp only [data]
theorem left2 (c : Dev nD) (t : Fin cfg0.N) : (data m 0 c).after 2 t = iblk m c 2 t := by dsimp only [data]
theorem left3 (c : Dev nD) (t : Fin cfg0.N) : (data m 0 c).after 3 t = iblk m c 3 t := by dsimp only [data]
theorem left4 (c : Dev nD) (t : Fin cfg0.N) : (data m 0 c).after 4 t = iblk m c 4 t := by dsimp only [data]
theorem left5 (c : Dev nD) (t : Fin cfg0.N) : (data m 0 c).after 5 t = iblk m c 5 t := by dsimp only [data]
theorem left6 (c : Dev nD) (t : Fin cfg0.N) : (data m 0 c).after 6 t = outDq (iblk m c 0 t) (iblk m c 1 t) (iblk m c 2 t) (iblk m c 3 t) (iblk m c 4 t) (iblk m c 5 t) := by dsimp only [data]
theorem left7 (c : Dev nD) (t : Fin cfg0.N) : (data m 0 c).after 7 t = outDk (iblk m c 0 t) (iblk m c 1 t) (iblk m c 2 t) (iblk m c 3 t) (iblk m c 4 t) (iblk m c 5 t) := by dsimp only [data]
theorem left8 (c : Dev nD) (t : Fin cfg0.N) : (data m 0 c).after 8 t = outDv (iblk m c 0 t) (iblk m c 1 t) (iblk m c 3 t) (iblk m c 4 t) := by dsimp only [data]
theorem left9 (c : Dev nD) (t : Fin cfg0.N) : (data m 0 c).after 9 t = outDs := by dsimp only [data]

theorem held0 (c : Dev nD) (t : Fin cfg0.N) (d) : (data m 0 c).before 0 t d = iblk m c 0 t :=
  before0_0_of m (data m 0 c) (data_arr m c 0) (left0 m c) t d
theorem held1 (c : Dev nD) (t : Fin cfg0.N) (d) : (data m 0 c).before 1 t d = iblk m c 1 t :=
  before0_1_of m (data m 0 c) (data_arr m c 1) (left1 m c) t d
theorem held2 (c : Dev nD) (t : Fin cfg0.N) (d) : (data m 0 c).before 2 t d = iblk m c 2 t :=
  before0_2_of m (data m 0 c) (data_arr m c 2) (left2 m c) t d
theorem held3 (c : Dev nD) (t : Fin cfg0.N) (d) : (data m 0 c).before 3 t d = iblk m c 3 t :=
  before0_3_of m (data m 0 c) (data_arr m c 3) (left3 m c) t d
theorem held4 (c : Dev nD) (t : Fin cfg0.N) (d) : (data m 0 c).before 4 t d = iblk m c 4 t :=
  before0_4_of m (data m 0 c) (data_arr m c 4) (left4 m c) t d
theorem held5 (c : Dev nD) (t : Fin cfg0.N) (d) : (data m 0 c).before 5 t d = iblk m c 5 t :=
  before0_5_of m (data m 0 c) (data_arr m c 5) (left5 m c) t d

/-- What the body is entered with at a point, window by window. -/
def entry (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d))
    ∗ (∃ d, owns (c : Thread nD τ) (st0_8 t) fullShare ((data m 0 c).before 8 t d))
    ∗ (∃ d, owns (c : Thread nD τ) (st0_9 t) fullShare ((data m 0 c).before 9 t d)))

/-- What the body is left with. -/
def exit (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t)
    ∗ owns (c : Thread nD τ) (st0_7 t) fullShare ((data m 0 c).after 7 t)
    ∗ owns (c : Thread nD τ) (st0_8 t) fullShare ((data m 0 c).after 8 t)
    ∗ owns (c : Thread nD τ) (st0_9 t) fullShare ((data m 0 c).after 9 t))

theorem body_at (c : Dev nD) (t : Fin cfg0.N) :
    entry m c t ⊢ wp frame (wpE (defs₀ (F := F)) Variants.none c none) Set.univ (bodyAt0 t) (fun _ => exit m c t) := by
  unfold entry exit bodyAt0
  simp only [held0, held1, held2, held3, held4, held5]
  rw [show (data m 0 c).Φ t.succ = (data m 0 c).Φ t.castSucc from rfl,
    show (data m 0 c).owesAt () t.succ = (data m 0 c).owesAt () t.castSucc from rfl,
    left0, left1, left2, left3, left4, left5, left6, left7, left8, left9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_triple c Set.univ (grid0.coords t) _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem row_eq (t : Fin cfg0.N) :
    defs₀ (F := F) .tc cfg0.body (cfg0.bodyArgs t (cfg0.slots t)) = bodyAt0 t := by
  unfold defs₀; rw [Defs.onTc_tc]

/-- Window 9 is stored at every point. -/
theorem busy (i : cfg0.grid.Coords) : cfg0.idle 9 i = false := by
  show (!(k0_cond2 i == 1#1)) = false
  rw [cond2_eq]; rfl

set_option maxHeartbeats 2000000 in
theorem obligation (c : Dev nD) : BodyObligation (data (F := F) m 0 c) (defs₀ (F := F)) Variants.none () Set.univ := fun t => by
  rw [bigSep_W0, bigSep_W0, row_eq]
  refine triple_restated (body_at m c t) rfl .rfl fun _ => ?_
  have hb : cfg0.idle 9 (cfg0.grid.coords t) = false := busy _
  rw [hb]
  exact .rfl

set_option backward.isDefEq.respectTransparency.types false in
set_option maxHeartbeats 800000 in
/-- The launch: the arrays end as the data say, with every counter back at zero. -/
theorem run : θ_run defs (onTc (τ := τ) (main (F := F))) (s₀ m ρ)
    (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_arr m) (hΦ := fun _ _ => rfl)

/-- The frame: the argument arrays end as they began, and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (data m) (data_arr m) ((θ_run defs _ _).mono (fun _ h => h.1) (run m ρ)))
    ((θ_run defs _ _).mono (fun _ h => h.2) (run m ρ))

end Cert.KernelIdeal.Band
-- ==== Proof.SbBody.lean ====
module

public import proofs.«01_k».proof.Proof.Gen.Kernel24Ideal.Launch
public import proofs.«01_k».proof.Proof.Gen.Kernel24Ideal.Skeleton
public import proofs.«01_k».proof.Proof.Gen.Kernel24Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel24Ideal.Sb

open Cert.Kernel24Ideal Cert.Kernel24Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The walk's counter -/

/-- How often the walk runs at most: the key blocks before the point's queries, two at a time. -/
def trips (i : grid0.Coords) : ℕ := 2 * (i 1).val

theorem trips_lt (i : grid0.Coords) : trips i < 32 := by
  have h : (i 1).val < 16 := (i 1).isLt
  unfold trips; omega

/-- The bound as the body computes it, a division rounded down. -/
def bound (i : grid0.Coords) : BitVec 32 :=
  Scalar.select
    (Scalar.andi
      (Scalar.cmpi .ne
        (Scalar.subi (Scalar.extui (Scalar.cmpi .sgt (Scalar.muli (BitVec.ofNat 32 (i 1).val) 4#32) 0#32) : BitVec 32)
          (Scalar.extui (Scalar.cmpi .slt (Scalar.muli (BitVec.ofNat 32 (i 1).val) 4#32) 0#32)))
        (Scalar.subi (Scalar.extui (Scalar.cmpi .sgt (2#32 : BitVec 32) 0#32)) (Scalar.extui (Scalar.cmpi .slt (2#32 : BitVec 32) 0#32))))
      (Scalar.cmpi .ne (Scalar.remsi (Scalar.muli (BitVec.ofNat 32 (i 1).val) 4#32) 2#32) 0#32))
    (Scalar.subi (Scalar.divsi (Scalar.muli (BitVec.ofNat 32 (i 1).val) 4#32) 2#32) 1#32)
    (Scalar.divsi (Scalar.muli (BitVec.ofNat 32 (i 1).val) 4#32) 2#32)

theorem bound_eq : ∀ i : grid0.Coords, bound i = BitVec.ofNat 32 (trips i) := by decide +kernel

theorem test_lt : ∀ n : Fin 32, ∀ j : Fin 32, j.val < n.val → Scalar.cmpi .slt (BitVec.ofNat 32 j.val) (BitVec.ofNat 32 n.val) = 1#1 := by
  decide +kernel

theorem test_self : ∀ n : Fin 32, Scalar.cmpi .slt (BitVec.ofNat 32 n.val) (BitVec.ofNat 32 n.val) = 0#1 := by decide +kernel

/-- The key blocks of a trip lie inside the arrays. -/
theorem chk (i : grid0.Coords) (j : ℕ) (hj : j < trips i) : k0_chk1 i (BitVec.ofNat 32 j) := by
  have h : ∀ i : grid0.Coords, ∀ j : Fin 32, j.val < trips i → k0_chk1 i (BitVec.ofNat 32 j.val) := by decide +kernel
  exact h i ⟨j, by have := trips_lt i; omega⟩ hj

theorem succ_word (j : ℕ) : Scalar.addi (BitVec.ofNat 32 j) 1#32 = BitVec.ofNat 32 (j + 1) := by
  simp [Scalar.addi, IntOp.addi, BitVec.ofNat_add]

/-! ## What the walk carries -/

/-- Whether some row is still open, and for the four groups of rows what is summed so far and the rows of the result. -/
abbrev Carry (F : FTy → Type) : Type :=
  BitVec 1 × FVec F S128x1 .f32 × FVec F S128x64 .f32 × FVec F S128x1 .f32 × FVec F S128x64 .f32
    × FVec F S128x1 .f32 × FVec F S128x64 .f32 × FVec F S128x1 .f32 × FVec F S128x64 .f32

/-- Two key blocks for the four groups, the later block first. -/
def trip (v4 v8 v12 v16 : FVec F S128x64 .bf16) (v41 : FVec F S256x128 .bf16)
    (v443 v446 v452 v455 : Vec F S1x128x64 .bf16) (s : Carry F) : Carry F :=
  let ⟨_, arg9, arg10, arg11, arg12, arg13, arg14, arg15, arg16⟩ := s
  let v447 := k0_pay109 v446
  let v456 := k0_pay111 v455
  let v457 := k0_pay112 v4 v443
  let v458 := k0_pay113 v8 v443
  let v459 := k0_pay114 v12 v443
  let v460 := k0_pay115 v16 v443
  let v461 := k0_pay116 v4 v452
  let v462 := k0_pay117 v8 v452
  let v463 := k0_pay118 v12 v452
  let v464 := k0_pay119 v16 v452
  let v470 := k0_pay120 v4 v443
  let v474 := k0_pay121 v457 v470
  let v475 := k0_pay122 v457 v470
  let v485 := k0_pay123 v458
  let v486 := k0_pay124 v458
  let v496 := k0_pay125 v459
  let v497 := k0_pay126 v459
  let v507 := k0_pay127 v460
  let v508 := k0_pay128 v460
  let v515 := k0_pay129 v461
  let v517 := k0_pay130 v461
  let v518 := k0_pay131 v515 v517
  let v519 := k0_pay132 v461 v515 v517
  let v529 := k0_pay133 v462
  let v530 := k0_pay134 v462
  let v540 := k0_pay135 v463
  let v541 := k0_pay136 v463
  let v551 := k0_pay137 v464
  let v552 := k0_pay138 v464
  let v558 := k0_pay139 v41 v474
  let v564 := k0_pay140 v41 v485
  let v565 := k0_pay141 v496
  let v566 := k0_pay142 v496
  let v570 := k0_pay143 v41 v496 v565 v566
  let v576 := k0_pay144 v41 v507
  let v582 := k0_pay145 v41 v518
  let v588 := k0_pay146 v41 v529
  let v594 := k0_pay147 v41 v540
  let v600 := k0_pay148 v41 v551
  let v607 := k0_pay149 arg9 v474
  let v610 := k0_pay150 arg9 arg10 v447 v475 v558
  let v614 := k0_pay151 arg11 v486 v564
  let v617 := k0_pay152 arg11 v485
  let v630 := k0_pay154 arg13 arg14 v447 v497 v570
  let v637 := k0_pay155 arg15 v507
  let v640 := k0_pay156 arg15 arg16 v447 v508 v576
  let v647 := k0_pay157 v518 v607
  let v650 := k0_pay158 v456 v519 v582 v607 v610
  let v657 := k0_pay159 v529 v617
  let v660 := k0_pay160 arg12 v447 v456 v530 v588 v614 v617
  let v664 := k0_pay161 arg13 v496 v541 v594
  let v667 := k0_pay162 arg13 v496 v540
  (Scalar.cmpf .olt (k0_pay6 v551 v637 v647 v657 v667) (Named.named κ "closed" 0x42DC0000#32 : F .f32),
    v647, v650, v657, v660, v667, k0_pay3 v456 v630 v664, k0_pay4 v551 v637, k0_pay5 v456 v552 v600 v637 v640)

/-- The four key blocks of the groups themselves, the last first. -/
def start (v4 v8 v12 v16 : FVec F S128x64 .bf16) (v41 : FVec F S256x128 .bf16)
    (v54 v57 v63 v66 v72 v75 v81 v84 : Vec F S1x128x64 .bf16) : Carry F :=
  let v19 := k0_pay11
  let v42 := k0_pay16 (F := F)
  let v43 := k0_pay17 (F := F)
  let v44 := k0_pay18 (F := F)
  let v45 := k0_pay19 (F := F)
  let v46 := k0_pay20 (F := F)
  let v47 := k0_pay21 (F := F)
  let v48 := k0_pay22 (F := F)
  let v49 := k0_pay23 (F := F)
  let v55 := k0_pay24 v54
  let v58 := k0_pay25 v57
  let v64 := k0_pay26 v63
  let v67 := k0_pay27 v66
  let v76 := k0_pay29 v75
  let v85 := k0_pay31 v84
  let v87 := k0_pay33 v12 v64
  let v88 := k0_pay34 v16 v64
  let v89 := k0_pay35 v8 v72
  let v90 := k0_pay36 v12 v72
  let v91 := k0_pay37 v16 v72
  let v92 := k0_pay38 v4 v81
  let v93 := k0_pay39 v8 v81
  let v94 := k0_pay40 v12 v81
  let v95 := k0_pay41 v16 v81
  let v106 := k0_pay43 v16 v55
  let v108 := k0_pay44 v16 v19 v55
  let v119 := k0_pay46 v87
  let v121 := k0_pay47 v19 v87
  let v131 := k0_pay48 v88
  let v132 := k0_pay49 v88
  let v143 := k0_pay51 v89
  let v145 := k0_pay52 v19 v89
  let v152 := k0_pay53 v90
  let v154 := k0_pay54 v90
  let v155 := k0_pay55 v152 v154
  let v156 := k0_pay56 v90 v152 v154
  let v166 := k0_pay57 v91
  let v167 := k0_pay58 v91
  let v178 := k0_pay60 v92
  let v180 := k0_pay61 v19 v92
  let v190 := k0_pay62 v93
  let v191 := k0_pay63 v93
  let v201 := k0_pay64 v94
  let v202 := k0_pay65 v94 v201
  let v212 := k0_pay66 v95
  let v213 := k0_pay67 v95
  let v219 := k0_pay68 v41 v108
  let v225 := k0_pay69 v41 v121
  let v231 := k0_pay70 v41 v131
  let v237 := k0_pay71 v41 v145
  let v243 := k0_pay72 v41 v155
  let v249 := k0_pay73 v41 v166
  let v250 := k0_pay74 v180
  let v252 := k0_pay75 v180
  let v255 := k0_pay76 v41 v250 v252
  let v261 := k0_pay77 v41 v190
  let v267 := k0_pay78 v41 v201
  let v273 := k0_pay79 v41 v212
  let v282 := k0_pay80 v48 v108
  let v285 := k0_pay81 v19 v48 v49 v58 v106 v219
  let v294 := k0_pay82 v46 v121
  let v297 := k0_pay83 v19 v46 v47 v67 v119 v225
  let v301 := k0_pay84 v48 v108 v132 v231
  let v316 := k0_pay86 v44 v145
  let v319 := k0_pay87 v19 v44 v45 v76 v143 v237
  let v326 := k0_pay88 v155 v294
  let v329 := k0_pay89 v76 v156 v243 v294 v297
  let v336 := k0_pay90 v131 v166 v282
  let v339 := k0_pay91 v67 v76 v131 v167 v249 v282 v285 v301
  let v348 := k0_pay92 v42 v180
  let v350 := k0_pay93 v19 v42 v85 v178 v255
  let v351 := k0_pay94 v43 v350
  let v358 := k0_pay95 v190 v316
  let v361 := k0_pay96 v85 v191 v261 v316 v319
  let v368 := k0_pay97 v201 v326
  let v371 := k0_pay98 v85 v202 v267 v326 v329
  let v378 := k0_pay99 v212 v336
  let v381 := k0_pay100 v85 v213 v273 v336 v339
  (Scalar.cmpf .olt (k0_pay101 v348 v358 v368 v378) (Named.named κ "closed" 0x42DC0000#32 : F .f32),
    v348, v351, v358, v361, v368, v371, v378, v381)

abbrev rq0 : Rect S1x512x64 := Rect.unit (s := S1x512x64) ![0, 0, 0] S1x128x64.size inb_S1x512x64_S1x128x64_0_0_0
abbrev rq1 : Rect S1x512x64 := Rect.unit (s := S1x512x64) ![0, 128, 0] S1x128x64.size inb_S1x512x64_S1x128x64_0_128_0
abbrev rq2 : Rect S1x512x64 := Rect.unit (s := S1x512x64) ![0, 256, 0] S1x128x64.size inb_S1x512x64_S1x128x64_0_256_0
abbrev rq3 : Rect S1x512x64 := Rect.unit (s := S1x512x64) ![0, 384, 0] S1x128x64.size inb_S1x512x64_S1x128x64_0_384_0
/-- A key block among the groups' own. -/
abbrev rd (i : grid0.Coords) (r : Fin 4) : Rect S1x8192x64 :=
  Rect.unit (s := S1x8192x64) (k0_off1 i (BitVec.ofNat 32 r.val)) S1x128x64.size (k0_off1_inb i r)
/-- A key block of a trip. -/
abbrev rt (i : grid0.Coords) (j : ℕ) (hj : j < trips i) (r : Fin 2) : Rect S1x8192x64 :=
  Rect.unit (s := S1x8192x64) (k0_off2 i (BitVec.ofNat 32 j) (BitVec.ofNat 32 r.val)) S1x128x64.size
    (k0_off2_inb i (BitVec.ofNat 32 j) (chk i j hj) r)

/-- Trip `j` on the blocks it loads. -/
def tripAt (i : grid0.Coords) (j : ℕ) (hj : j < trips i) (v4 v8 v12 v16 : FVec F S128x64 .bf16) (v41 : FVec F S256x128 .bf16)
    (x1 x2 : Vec F S1x8192x64 .bf16) (s : Carry F) : Carry F :=
  trip v4 v8 v12 v16 v41 (View.ld x1 (rt i j hj 1)) (View.ld x2 (rt i j hj 1)) (View.ld x1 (rt i j hj 0)) (View.ld x2 (rt i j hj 0)) s

/-- The walk with `k` trips still to run after `j`. -/
def walk (i : grid0.Coords) (v4 v8 v12 v16 : FVec F S128x64 .bf16) (v41 : FVec F S256x128 .bf16)
    (x1 x2 : Vec F S1x8192x64 .bf16) : ℕ → ℕ → Carry F → BitVec 32 × Carry F
  | 0, j, s => (BitVec.ofNat 32 j, s)
  | k + 1, j, s => if s.1 = 1#1 then
      (if hj : j < trips i then walk i v4 v8 v12 v16 v41 x1 x2 k (j + 1) (tripAt i j hj v4 v8 v12 v16 v41 x1 x2 s) else (BitVec.ofNat 32 j, s))
      else (BitVec.ofNat 32 j, s)

/-! ## The walk's label -/

/-- The body runs the label at most the trips' number of times. -/
abbrev 𝒱₀ : Variants := Variants.nat

section Label

variable (c : Dev nD) (i : grid0.Coords) (arg3 : Memref sig .tc .vmem S1x8192x64 .bf16) (harg3 : arg3.IsWhole)
  (arg4 : Memref sig .tc .vmem S1x8192x64 .bf16) (harg4 : arg4.IsWhole)
  (v4 v8 v12 v16 : FVec F S128x64 .bf16) (v41 : FVec F S256x128 .bf16) (x1 x2 : Vec F S1x8192x64 .bf16)

def held : sProp 𝕄 :=
  iprop(owns (c : Thread nD τ) arg3 fullShare x1 ∗ owns (c : Thread nD τ) arg4 fullShare x2)

/-- Holding the keys and the values the label returns the walk's end and both as they were. -/
def spec (k j : ℕ) (s : Carry F) : sWPT 𝕄 (BitVec 32 × Carry F) := do
  sWPT.consume (held c arg3 arg4 x1 x2)
  sWPT.produce (held c arg3 arg4 x1 x2)
  pure (walk i v4 v8 v12 v16 v41 x1 x2 k j s)

theorem spec_apply (k j : ℕ) (s : Carry F) (K : BitVec 32 × Carry F → sProp 𝕄) :
    spec c i arg3 arg4 v4 v8 v12 v16 v41 x1 x2 k j s K
      = iprop(held c arg3 arg4 x1 x2 ∗ (held c arg3 arg4 x1 x2 -∗ K (walk i v4 v8 v12 v16 v41 x1 x2 k j s))) := rfl

set_option maxHeartbeats 4000000 in
theorem spec_le (E : Set ℕ) :
    ∀ k j, j + k = trips i → ∀ (s : Carry F) K, spec c i arg3 arg4 v4 v8 v12 v16 v41 x1 x2 k j s K
      ⊢ wp frame (wpE (defs₀ (F := F)) 𝒱₀ (c : Thread nD τ) (some k)) E
          (cc0_while1 i arg3 harg3 arg4 harg4 v4 v8 v12 v16 v41 (BitVec.ofNat 32 j) s.1 s.2.1 s.2.2.1 s.2.2.2.1 s.2.2.2.2.1
            s.2.2.2.2.2.1 s.2.2.2.2.2.2.1 s.2.2.2.2.2.2.2.1 s.2.2.2.2.2.2.2.2) K := by
  have hT := trips_lt i
  have hb := bound_eq i
  unfold bound at hb
  intro k
  induction k with
  | zero =>
    intro j hj s K
    rw [spec_apply]
    simp only [cc0_while1_eq_skeleton]; unfold cc0_while1_skel
    have hjT : j = trips i := by omega
    have htest := test_self ⟨trips i, hT⟩
    simp only [hb, hjT, htest]
    rw [show walk i v4 v8 v12 v16 v41 x1 x2 0 (trips i) s = (BitVec.ofNat 32 (trips i), s) from rfl]
    have h0 : ∀ b : BitVec 1, ¬ Scalar.andi 0#1 b = 1#1 := by decide
    simp only [h0, ↓reduceIte, Prog.pure_eq_ret]
    iintro ⟨H, Hk⟩
    rw [wp_ret]; imodintro
    iapply Hk
    iexact H
  | succ k ih =>
    intro j hj s K
    have hjT : j < trips i := by omega
    obtain ⟨go, a9, a10, a11, a12, a13, a14, a15, a16⟩ := s
    rw [spec_apply]
    simp only [cc0_while1_eq_skeleton]; unfold cc0_while1_skel
    have htest := test_lt ⟨trips i, hT⟩ ⟨j, by omega⟩ hjT
    have h1 : ∀ b : BitVec 1, Scalar.andi 1#1 b = b := by decide
    simp only [hb, htest, h1]
    by_cases hgo : go = 1#1
    · simp only [hgo, ↓reduceIte]
      have hw : walk i v4 v8 v12 v16 v41 x1 x2 (k + 1) j (1#1, a9, a10, a11, a12, a13, a14, a15, a16)
          = walk i v4 v8 v12 v16 v41 x1 x2 k (j + 1) (tripAt i j hjT v4 v8 v12 v16 v41 x1 x2 (1#1, a9, a10, a11, a12, a13, a14, a15, a16)) := by
        simp only [walk, ↓reduceIte]; rw [dif_pos hjT]
      rw [hw]
      have hchk := chk i j hjT
      simp only [k0_part11_eq_skeleton, k0_part12_eq_skeleton, k0_part13_eq_skeleton, k0_part14_eq_skeleton, k0_part15_eq_skeleton]
      unfold held owns
      iintro ⟨⟨⟨%f1, %hf1, H1⟩, ⟨%f2, %hf2, H2⟩⟩, Hk⟩
      subst hf1 hf2
      sl_exec (disch := exact hchk)
      rw [succ_word]
      iapply (wp_call_spec 𝒱₀ (c : Thread nD τ) (some (k + 1)) E
        (spec c i arg3 arg4 v4 v8 v12 v16 v41 (arg3.view.read (Elt F) f1) (arg4.view.read (Elt F) f2) k (j + 1)
          (tripAt i j hjT v4 v8 v12 v16 v41 (arg3.view.read (Elt F) f1) (arg4.view.read (Elt F) f2) (1#1, a9, a10, a11, a12, a13, a14, a15, a16))) k
        (fun u hu => by cases hu; exact Nat.lt_succ_self k)
        (ih (j + 1) (by omega) _))
      rw [spec_apply]; unfold held owns
      isplitl [H1 H2]
      · isplitl [H1]
        · iexists f1; isplitr; · ipureintro; rfl
          iexact H1
        iexists f2; isplitr; · ipureintro; rfl
        iexact H2
      iintro H
      rw [wp_ret]; imodintro
      iapply Hk
      iexact H
    · simp only [hgo, ↓reduceIte, Prog.pure_eq_ret]
      have hw : walk i v4 v8 v12 v16 v41 x1 x2 (k + 1) j (go, a9, a10, a11, a12, a13, a14, a15, a16)
          = (BitVec.ofNat 32 j, go, a9, a10, a11, a12, a13, a14, a15, a16) := by
        simp only [walk]; rw [if_neg hgo]
      rw [hw]
      iintro ⟨H, Hk⟩
      rw [wp_ret]; imodintro
      iapply Hk
      iexact H

end Label

/-! ## The body -/

/-- The groups' queries, scaled. -/
def qs0 (x0 : Vec F S1x512x64 .bf16) : FVec F S128x64 .bf16 := k0_pay7 (View.ld x0 rq0)
def qs1 (x0 : Vec F S1x512x64 .bf16) : FVec F S128x64 .bf16 := k0_pay8 (View.ld x0 rq1)
def qs2 (x0 : Vec F S1x512x64 .bf16) : FVec F S128x64 .bf16 := k0_pay9 (View.ld x0 rq2)
def qs3 (x0 : Vec F S1x512x64 .bf16) : FVec F S128x64 .bf16 := k0_pay10 (View.ld x0 rq3)
/-- Two strict triangles of ones, one above the other. -/
def tri : FVec F S256x128 .bf16 := k0_pay15 (F := F) k0_pay12 k0_pay13 k0_pay14

/-- What the walk starts from. -/
def first (i : grid0.Coords) (x0 : Vec F S1x512x64 .bf16) (x1 x2 : Vec F S1x8192x64 .bf16) : Carry F :=
  start (qs0 x0) (qs1 x0) (qs2 x0) (qs3 x0) tri (View.ld x1 (rd i 3)) (View.ld x2 (rd i 3)) (View.ld x1 (rd i 2)) (View.ld x2 (rd i 2))
    (View.ld x1 (rd i 1)) (View.ld x2 (rd i 1)) (View.ld x1 (rd i 0)) (View.ld x2 (rd i 0))

/-- Where it ends. -/
def last (i : grid0.Coords) (x0 : Vec F S1x512x64 .bf16) (x1 x2 : Vec F S1x8192x64 .bf16) : Carry F :=
  (walk i (qs0 x0) (qs1 x0) (qs2 x0) (qs3 x0) tri x1 x2 (trips i) 0 (first i x0 x1 x2)).2

/-- The four groups' rows of the first result, -/
def rowsO (s : Carry F) : List (View.Piece (Elt F) S1x512x64 .f32) :=
  [⟨rq3, k0_pay1 s.2.2.2.2.2.2.2.2⟩, ⟨rq2, k0_pay106 s.2.2.2.2.2.2.1⟩, ⟨rq1, k0_pay104 s.2.2.2.2.1⟩, ⟨rq0, k0_pay102 s.2.2.1⟩]
/-- and of the second, the same rounded. -/
def rowsB (s : Carry F) : List (View.Piece (Elt F) S1x512x64 .bf16) :=
  [⟨rq3, k0_pay2 s.2.2.2.2.2.2.2.2⟩, ⟨rq2, k0_pay107 s.2.2.2.2.2.2.1⟩, ⟨rq1, k0_pay105 s.2.2.2.2.1⟩, ⟨rq0, k0_pay103 s.2.2.1⟩]

def outO (i : grid0.Coords) (x0 : Vec F S1x512x64 .bf16) (x1 x2 : Vec F S1x8192x64 .bf16) : Vec F S1x512x64 .f32 := View.canon (rowsO (last i x0 x1 x2))
def outB (i : grid0.Coords) (x0 : Vec F S1x512x64 .bf16) (x1 x2 : Vec F S1x8192x64 .bf16) : Vec F S1x512x64 .bf16 := View.canon (rowsB (last i x0 x1 x2))

theorem cover_o (p0 p1 p2 p3 : Vec F S1x128x64 .f32) (y : S1x512x64.Idx) :
    ∃ pc ∈ ([⟨rq3, p3⟩, ⟨rq2, p2⟩, ⟨rq1, p1⟩, ⟨rq0, p0⟩] : List (View.Piece (Elt F) S1x512x64 .f32)), y ∈ pc.1.set :=
  View.cover_of_tiled [⟨rq3, p3⟩, ⟨rq2, p2⟩, ⟨rq1, p1⟩, ⟨rq0, p0⟩] S1x128x64.size (by rfl) y

theorem cover_b (p0 p1 p2 p3 : Vec F S1x128x64 .bf16) (y : S1x512x64.Idx) :
    ∃ pc ∈ ([⟨rq3, p3⟩, ⟨rq2, p2⟩, ⟨rq1, p1⟩, ⟨rq0, p0⟩] : List (View.Piece (Elt F) S1x512x64 .bf16)), y ∈ pc.1.set :=
  View.cover_of_tiled [⟨rq3, p3⟩, ⟨rq2, p2⟩, ⟨rq1, p1⟩, ⟨rq0, p0⟩] S1x128x64.size (by rfl) y

set_option maxHeartbeats 4000000 in
theorem body_triple (c : Dev nD) (E : Set ℕ) (i : grid0.Coords) (arg2 : Memref sig .tc .vmem S1x512x64 .bf16) (harg2 : arg2.IsWhole)
    (arg3 : Memref sig .tc .vmem S1x8192x64 .bf16) (harg3 : arg3.IsWhole) (arg4 : Memref sig .tc .vmem S1x8192x64 .bf16) (harg4 : arg4.IsWhole)
    (arg5 : Memref sig .tc .vmem S1x512x64 .f32) (harg5 : arg5.IsWhole) (arg6 : Memref sig .tc .vmem S1x512x64 .bf16) (harg6 : arg6.IsWhole)
    (x0 : Vec F S1x512x64 .bf16) (x1 x2 : Vec F S1x8192x64 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
          ∗ owns (c : Thread nD τ) arg5 fullShare (outO i x0 x1 x2) ∗ owns (c : Thread nD τ) arg6 fullShare (outB i x0 x1 x2)) -∗ K ⟨⟩))
      ⊢ wp frame (wpE (defs₀ (F := F)) 𝒱₀ c none) E (cc0_sb_att i arg2 harg2 arg3 harg3 arg4 harg4 arg5 harg5 arg6 harg6) K := by
  simp only [cc0_sb_att_eq_skeleton]; unfold cc0_sb_att_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  iapply (wp_call_spec 𝒱₀ (c : Thread nD τ) none E
    (spec c i arg3 arg4 (qs0 (arg2.view.read (Elt F) f0)) (qs1 (arg2.view.read (Elt F) f0)) (qs2 (arg2.view.read (Elt F) f0))
      (qs3 (arg2.view.read (Elt F) f0)) tri (arg3.view.read (Elt F) f1) (arg4.view.read (Elt F) f2) (trips i) 0
      (first i (arg2.view.read (Elt F) f0) (arg3.view.read (Elt F) f1) (arg4.view.read (Elt F) f2))) (trips i)
    (fun u hu => nomatch hu)
    (spec_le c i arg3 harg3 arg4 harg4 _ _ _ _ _ _ _ E (trips i) 0 (Nat.zero_add _) _))
  rw [spec_apply]; unfold held owns
  isplitl [H1 H2]
  · isplitl [H1]
    · iexists f1; isplitr; · ipureintro; rfl
      iexact H1
    iexists f2; isplitr; · ipureintro; rfl
    iexact H2
  iintro ⟨⟨%f1', %hf1, H1⟩, ⟨%f2', %hf2, H2⟩⟩
  sl_exec
  sl_step
  iapply Hk
  isplitl [H0]
  · iexists f0; isplitr; · ipureintro; rfl
    iexact H0
  isplitl [H1]
  · iexists f1'; isplitr; · ipureintro; exact hf1
    iexact H1
  isplitl [H2]
  · iexists f2'; isplitr; · ipureintro; exact hf2
    iexact H2
  isplitl [H3]
  · iexists _; isplitr
    swap; · iexact H3
    ipureintro
    exact View.read_writes_eq_canon _ _ _ (cover_o _ _ _ _)
  · iexists _; isplitr
    swap; · iexact H4
    ipureintro
    exact View.read_writes_eq_canon _ _ _ (cover_b _ _ _ _)

end Cert.Kernel24Ideal.Sb
-- ==== Proof.SbRun.lean ====
module

public import proofs.«01_k».proof.Proof.SbBody

@[expose] public section

set_option maxRecDepth 16384

noncomputable section

namespace Cert.Kernel24Ideal.Sb

open Cert.Kernel24Ideal Cert.Kernel24Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Up to the call -/

/-- The arrays when the call begins: after the host's casts and transposes. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

set_option maxHeartbeats 800000 in
theorem hmain (𝒱 : Variants) : Pipeline.HMain (Ix := Unit) (Name := ℕ) (U := UR sig nD τ) (Lvl := ℕ) cfgs 0 defs₀ 𝒱 m (main (F := F)) (V m) :=
  Pipeline.hmain_prefixes cfgs 0 defs₀ 𝒱 m main [hostOps0] (by simp only [List.Forall]; exact hostOps0_sub)
    (by simp only [List.Forall]; exact hostOps0_fresh) main_chain

/-- No host operation writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The pipeline's data: inputs keep their blocks, outputs get what the body computes from them. -/
def data (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outO (grid0.coords t) (iblk m c 0 t) (iblk m c 1 t) (iblk m c 2 t)
    | ⟨4, _⟩ => outB (grid0.coords t) (iblk m c 0 t) (iblk m c 1 t) (iblk m c 2 t)
  Φ _ := Pipeline.ΦA spec0 c
  q _ := fullShare
  owed _ := 0

theorem data_arr (c : Dev nD) (w : Fin (cfg0 (F := F)).W) : (data m 0 c).A w = V m c (Pipeline.arrRef spec0 w) := by
  dsimp only [data]

theorem left0 (c : Dev nD) (t : Fin (cfg0 (F := F)).N) : (data m 0 c).after 0 t = iblk m c 0 t := rfl
theorem left1 (c : Dev nD) (t : Fin (cfg0 (F := F)).N) : (data m 0 c).after 1 t = iblk m c 1 t := rfl
theorem left2 (c : Dev nD) (t : Fin (cfg0 (F := F)).N) : (data m 0 c).after 2 t = iblk m c 2 t := rfl
theorem left3 (c : Dev nD) (t : Fin (cfg0 (F := F)).N) : (data m 0 c).after 3 t = outO (grid0.coords t) (iblk m c 0 t) (iblk m c 1 t) (iblk m c 2 t) := rfl
theorem left4 (c : Dev nD) (t : Fin (cfg0 (F := F)).N) : (data m 0 c).after 4 t = outB (grid0.coords t) (iblk m c 0 t) (iblk m c 1 t) (iblk m c 2 t) := rfl

theorem held0 (c : Dev nD) (t : Fin (cfg0 (F := F)).N) (d) : (data m 0 c).before 0 t d = iblk m c 0 t :=
  before0_0_of m (data m 0 c) (data_arr m c 0) (left0 m c) t d
theorem held1 (c : Dev nD) (t : Fin (cfg0 (F := F)).N) (d) : (data m 0 c).before 1 t d = iblk m c 1 t :=
  before0_1_of m (data m 0 c) (data_arr m c 1) (left1 m c) t d
theorem held2 (c : Dev nD) (t : Fin (cfg0 (F := F)).N) (d) : (data m 0 c).before 2 t d = iblk m c 2 t :=
  before0_2_of m (data m 0 c) (data_arr m c 2) (left2 m c) t d

/-- What the body is entered with at a point, window by window. -/
def entry (c : Dev nD) (t : Fin (cfg0 (F := F)).N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d)))

/-- What the body is left with. -/
def exit (c : Dev nD) (t : Fin (cfg0 (F := F)).N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t))

theorem body_at (c : Dev nD) (t : Fin (cfg0 (F := F)).N) :
    entry m c t ⊢ wp frame (wpE (defs₀ (F := F)) 𝒱₀ c none) Set.univ (bodyAt0 t) (fun _ => exit m c t) := by
  unfold entry exit bodyAt0
  simp only [held0, held1, held2]
  rw [show (data m 0 c).Φ t.succ = (data m 0 c).Φ t.castSucc from rfl,
    show (data m 0 c).owesAt () t.succ = (data m 0 c).owesAt () t.castSucc from rfl,
    left0, left1, left2, left3, left4]
  iintro ⟨HΦ, Ho, ⟨%d0, H0⟩, ⟨%d1, H1⟩, ⟨%d2, H2⟩, ⟨%d3, H3⟩, ⟨%d4, H4⟩⟩
  iapply (body_triple c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem row_eq (t : Fin (cfg0 (F := F)).N) :
    defs₀ (F := F) .tc (cfg0 (F := F)).body ((cfg0 (F := F)).bodyArgs t ((cfg0 (F := F)).slots t)) = bodyAt0 t := by
  unfold defs₀; rw [Defs.onTc_tc]

set_option maxHeartbeats 2000000 in
theorem obligation (c : Dev nD) : BodyObligation (data (F := F) m 0 c) (defs₀ (F := F)) 𝒱₀ () Set.univ := fun t => by
  rw [bigSep_W0, bigSep_W0, row_eq]
  exact triple_restated (body_at m c t) rfl .rfl fun _ => .rfl

set_option backward.isDefEq.respectTransparency.types false in
set_option maxHeartbeats 800000 in
/-- The launch: the arrays end as the data say, with every counter back at zero. -/
theorem run : θ_run defs (onTc (τ := τ) (main (F := F))) (s₀ m ρ)
    (fun r => (Pipeline.FramePost cfgs (data m) 0 (V m)) r ∧ r.2.sem = fun _ => 0) :=
  Pipeline.θ_run_frame (Q' := _) cfgs (data m) (0 : Fin 1) launch0 defs₀ 𝒱₀ m ρ main
    (hbody := fun c => (obligation m c).loose) (hshare := fun c => (data m 0 c).share_full fun _ => rfl)
    (howed := fun _ _ => rfl) (V := V m) (hmain := hmain m 𝒱₀) (hA := data_arr m) (hΦ := fun _ _ => rfl)

/-- No window's array is a buffer other than the five the windows name. -/
theorem arr_ne (b : Ref sig .tc) (h0 : main_v1 ≠ b) (h1 : main_v3 ≠ b) (h2 : main_v5 ≠ b) (h3 : main_v6_0 ≠ b) (h4 : main_v6_1 ≠ b) :
    ∀ w : Fin ((cfgs (F := F) 0).W), ((cfgs (F := F) 0).spec w).arr.view.ref ≠ b := fun w => match w with
  | ⟨0, _⟩ => h0
  | ⟨1, _⟩ => h1
  | ⟨2, _⟩ => h2
  | ⟨3, _⟩ => h3
  | ⟨4, _⟩ => h4

/-- The frame: the argument arrays end as they began, and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (arr_ne main_arg0 (by decide) (by decide) (by decide) (by decide) (by decide)))).trans (V_main_arg0 m c),
      ((h.1 c).2 main_arg1 (Pipeline.mem_restRefs_of main_arg1 (by decide) (arr_ne main_arg1 (by decide) (by decide) (by decide) (by decide) (by decide)))).trans (V_main_arg1 m c),
      ((h.1 c).2 main_arg2 (Pipeline.mem_restRefs_of main_arg2 (by decide) (arr_ne main_arg2 (by decide) (by decide) (by decide) (by decide) (by decide)))).trans (V_main_arg2 m c)⟩, h.2⟩) (run m ρ)

end Cert.Kernel24Ideal.Sb
-- ==== Proof.SbTile.lean ====
/- The stick-breaking attention's body in tiles: one block of keys against one group of queries. -/
module

public import proofs.«01_k».proof.Proof.SbBody
public import Idealize.ShloMosaic.Lib.Pointwise
public import Idealize.ShloMosaic.Lib.Pipeline.ValueKit

@[expose] public section

set_option maxRecDepth 16384

noncomputable section

namespace Cert.Kernel24Ideal.Sb

open Cert.Kernel24Ideal Cert.Kernel24Ideal.Gen
open Idealize.ShloMosaic Idealize.ShloMosaic.TcCoe Idealize.ShloMosaic.Tactic

section Generic

variable {F : FTy → Type} [FloatOps F] [Named F]

/-- What a group of queries carries: what is summed so far, and the rows of the result. -/
abbrev Group (F : FTy → Type) : Type := FVec F S128x1 .f32 × FVec F S128x64 .f32

/-- A block of keys or values as a matrix. -/
def flat (k : Vec F S1x128x64 .bf16) : FVec F S128x64 .bf16 := shapeCast S128x64 k shapeCasts_S1x128x64_S128x64

/-- The logits. -/
def zT (q k : FVec F S128x64 .bf16) : FVec F S128x128 .f32 :=
  matmul dot_S128x64_S128x64_S128x128_1_1_0_0_n_n none q k (constant S128x128 .f32 0x00000000#32)

/-- Their softplus. -/
def spT (z : FVec F S128x128 .f32) : FVec F S128x128 .f32 :=
  addf (maximumf z (broadcast S128x128 (Scalar.ofBits .f32 0x00000000#32)))
    (log (addf (broadcast S128x128 (Scalar.ofBits .f32 0x3F800000#32))
      (exp (subf (broadcast S128x128 (Scalar.ofBits .f32 0x00000000#32)) (absf z)))))

/-- What is zero where a query doesn't see a key. -/
def maskT (x : FVec F S128x128 .f32) : FVec F S128x128 .f32 :=
  select k0_pay11 x (broadcast S128x128 (Scalar.ofBits .f32 0x00000000#32))

/-- The sum over the later keys of the block, as a product with the triangle. -/
def inT (v41 : FVec F S256x128 .bf16) (sp : FVec F S128x128 .f32) : FVec F S128x128 .f32 :=
  matmul dot_S128x256_S256x128_S128x128_1_0_0_1_n_n none
    (concatenate S128x256 1 [⟨S128x128, truncf .bf16 sp bitsLt_bf16_f32⟩,
      ⟨S128x128, truncf .bf16 (subf sp (extf .f32 (truncf .bf16 sp bitsLt_bf16_f32 : FVec F S128x128 .bf16) bitsLt_bf16_f32)) bitsLt_bf16_f32⟩]
      concatenates_S128x128_S128x128_S128x256_d1) v41 (constant S128x128 .f32 0x00000000#32)

/-- The sums with the block's own added. -/
def afterT (a : FVec F S128x1 .f32) (sp : FVec F S128x128 .f32) : FVec F S128x1 .f32 :=
  addf a (shapeCast S128x1 (multiReduction .add [1] S128 sp 0x00000000#32 reduces_S128x128_S128 (.inl rfl) rfl) shapeCasts_S128_S128x1)

/-- The weights. -/
def wT (z : FVec F S128x128 .f32) (a : FVec F S128x1 .f32) (s : FVec F S128x128 .f32) : FVec F S128x128 .f32 :=
  exp (subf (subf z (spT z)) (addf (broadcastTo S128x128 a broadcasts_S128x1_S128x128) s))

/-- The rows with the block's own added. -/
def accT (c : FVec F S128x64 .f32) (w : FVec F S128x128 .f32) (v : FVec F S128x64 .bf16) : FVec F S128x64 .f32 :=
  addf c (matmul dot_S128x128_S128x64_S128x64_1_0_0_1_n_n none (truncf .bf16 w bitsLt_bf16_f32) v (constant S128x64 .f32 0x00000000#32))

/-- A block all of whose keys the queries see. -/
def openT (v41 : FVec F S256x128 .bf16) (q k v : FVec F S128x64 .bf16) (s : Group F) : Group F :=
  (afterT s.1 (spT (zT q k)), accT s.2 (wT (zT q k) s.1 (inT v41 (spT (zT q k)))) v)

/-- The queries' own block. -/
def diagT (v41 : FVec F S256x128 .bf16) (q k v : FVec F S128x64 .bf16) (s : Group F) : Group F :=
  (afterT s.1 (maskT (spT (zT q k))), accT s.2 (maskT (wT (zT q k) s.1 (inT v41 (maskT (spT (zT q k)))))) v)

/-- Nothing yet. -/
def noneT : Group F := (broadcast S128x1 (Scalar.ofBits .f32 0x00000000#32), broadcast S128x64 (Scalar.ofBits .f32 0x00000000#32))

/-- The smallest sum of the four groups. -/
def lowT (a b c d : FVec F S128x1 .f32) : F .f32 :=
  extractAt ![0, 0, 0] (shapeCast S1x1x1 (multiReduction .minimumf [1, 2] S1
    (shapeCast S1x128x1 (minimumf (minimumf (minimumf a b) c) d) shapeCasts_S128x1_S1x128x1) 0x7F800000#32 reduces_S1x128x1_S1 (.inl rfl) rfl)
    shapeCasts_S1_S1x1x1) inpos_S1x1x1_p0_0_0

/-- The four groups and whether one is still open. -/
def packT (a b c d : Group F) : Carry F :=
  (Scalar.cmpf .olt (lowT a.1 b.1 c.1 d.1) (Named.named κ "closed" 0x42DC0000#32 : F .f32), a.1, a.2, b.1, b.2, c.1, c.2, d.1, d.2)

/-- A trip. -/
def tripT (v41 : FVec F S256x128 .bf16) (q : Fin 4 → FVec F S128x64 .bf16) (k1 v1 k0 v0 : FVec F S128x64 .bf16) (s : Carry F) : Carry F :=
  packT (openT v41 (q 0) k0 v0 (openT v41 (q 0) k1 v1 (s.2.1, s.2.2.1)))
    (openT v41 (q 1) k0 v0 (openT v41 (q 1) k1 v1 (s.2.2.2.1, s.2.2.2.2.1)))
    (openT v41 (q 2) k0 v0 (openT v41 (q 2) k1 v1 (s.2.2.2.2.2.1, s.2.2.2.2.2.2.1)))
    (openT v41 (q 3) k0 v0 (openT v41 (q 3) k1 v1 (s.2.2.2.2.2.2.2.1, s.2.2.2.2.2.2.2.2)))

/-- The groups' own blocks. -/
def startT (v41 : FVec F S256x128 .bf16) (q : Fin 4 → FVec F S128x64 .bf16) (k3 v3 k2 v2 k1 v1 k0 v0 : FVec F S128x64 .bf16) : Carry F :=
  packT (diagT v41 (q 0) k0 v0 noneT)
    (openT v41 (q 1) k0 v0 (diagT v41 (q 1) k1 v1 noneT))
    (openT v41 (q 2) k0 v0 (openT v41 (q 2) k1 v1 (diagT v41 (q 2) k2 v2 noneT)))
    (openT v41 (q 3) k0 v0 (openT v41 (q 3) k1 v1 (openT v41 (q 3) k2 v2 (diagT v41 (q 3) k3 v3 noneT))))

theorem trip_eq (v4 v8 v12 v16 : FVec F S128x64 .bf16) (v41 : FVec F S256x128 .bf16)
    (v443 v446 v452 v455 : Vec F S1x128x64 .bf16) (s : Carry F) :
    trip v4 v8 v12 v16 v41 v443 v446 v452 v455 s
      = tripT v41 ![v4, v8, v12, v16] (flat v443) (flat v446) (flat v452) (flat v455) s := rfl

theorem start_eq (v4 v8 v12 v16 : FVec F S128x64 .bf16) (v41 : FVec F S256x128 .bf16)
    (v54 v57 v63 v66 v72 v75 v81 v84 : Vec F S1x128x64 .bf16) :
    start v4 v8 v12 v16 v41 v54 v57 v63 v66 v72 v75 v81 v84
      = startT v41 ![v4, v8, v12, v16] (flat v54) (flat v57) (flat v63) (flat v66) (flat v72) (flat v75) (flat v81) (flat v84) := rfl

end Generic

end Cert.Kernel24Ideal.Sb
-- ==== Proof.SbStep.lean ====
/- One block of keys over the extended reals: what is summed so far and the rows of the result, from the block after. -/
module

public import proofs.«01_k».proof.Proof.SbTile

@[expose] public section

set_option maxRecDepth 16384

noncomputable section

/-! ## The stick-breaking sums, of logits `Z` and values `V` -/

namespace Cert.Stick

open Finset

/-- The softplus of a real number. -/
def spR (z : ℝ) : ℝ := max z 0 + Real.log (1 + Real.exp (-|z|))

/-- What query `t` takes of key `s`: the softplus of their logit, of an earlier key. -/
def see (Z : ℕ → ℕ → ℝ) (t s : ℕ) : ℝ := if s < t then spR (Z t s) else 0

/-- The weight of key `s` for query `t`. -/
def wt (Z : ℕ → ℕ → ℝ) (t s : ℕ) : EReal :=
  if s < t then ((Real.exp (Z t s - spR (Z t s) - ∑ u ∈ Ico (s + 1) 8192, see Z t u) : ℝ) : EReal) else 0

theorem coe_sum {ι : Type} (A : Finset ι) (f : ι → ℝ) : ((∑ x ∈ A, f x : ℝ) : EReal) = ∑ x ∈ A, (f x : EReal) := by
  classical
  induction A using Finset.induction_on with
  | empty => simp
  | insert a A ha ih => rw [Finset.sum_insert ha, Finset.sum_insert ha, EReal.coe_add, ih]

theorem coe_max (a b : ℝ) : ((max a b : ℝ) : EReal) = max (a : EReal) (b : EReal) := EReal.coe_strictMono.monotone.map_max

/-- The sum over a block is the sum over its places. -/
theorem sum_block {M : Type} [AddCommMonoid M] (f : ℕ → M) (b : ℕ) :
    ∑ x : Fin 128, f (128 * b + x.val) = ∑ s ∈ Ico (128 * b) (128 * (b + 1)), f s := by
  rw [Finset.sum_Ico_eq_sum_range, show 128 * (b + 1) - 128 * b = 128 by omega, Finset.sum_range]

/-- The sum over the block's places after `c`. -/
theorem sum_after {M : Type} [AddCommMonoid M] (f : ℕ → M) (b : ℕ) (c : Fin 128) :
    ∑ x : Fin 128, (if c.val < x.val then f (128 * b + x.val) else 0) = ∑ s ∈ Ico (128 * b + c.val + 1) (128 * (b + 1)), f s := by
  have hc := c.isLt
  rw [← Finset.sum_range (fun x => if c.val < x then f (128 * b + x) else 0), ← Finset.sum_filter,
    Finset.sum_Ico_eq_sum_range]
  have h : (range 128).filter (fun x => c.val < x) = Ico (c.val + 1) 128 := by
    ext x; simp only [Finset.mem_filter, Finset.mem_range, Finset.mem_Ico]; omega
  rw [h, Finset.sum_Ico_eq_sum_range, show 128 * (b + 1) - (128 * b + c.val + 1) = 128 - (c.val + 1) by omega]
  exact Finset.sum_congr rfl fun x _ => by congr 1; omega

/-- A block and what comes after it. -/
theorem sum_join {M : Type} [AddCommMonoid M] (f : ℕ → M) (a b : ℕ) (ha : a ≤ 128 * (b + 1)) (hb : b < 64) :
    ∑ s ∈ Ico (128 * (b + 1)) 8192, f s + ∑ s ∈ Ico a (128 * (b + 1)), f s = ∑ s ∈ Ico a 8192, f s := by
  rw [add_comm]; exact Finset.sum_Ico_consecutive f ha (by omega)

end Cert.Stick

namespace Cert.Kernel24Ideal.Sb

open Cert.Kernel24Ideal Cert.Kernel24Ideal.Gen Cert.Stick
open Idealize.ShloMosaic Idealize.ShloMosaic.TcCoe Idealize.ShloMosaic.Tactic

/-! ## The tiles at an index -/

theorem flat_apply (k : Vec Ideal S1x128x64 .bf16) (p : Fin 128) (d : Fin 64) : flat k (ix2 p d) = k (ix3 0 p d) := by
  pointwise [flat]

theorem zT_apply (q k : FVec Ideal S128x64 .bf16) (p c : Fin 128) :
    zT q k (ix2 p c) = ∑ d : Fin 64, (q (ix2 p d) : EReal) * k (ix2 c d) := by
  pointwise [zT]

theorem spT_apply (z : FVec Ideal S128x128 .f32) (p c : Fin 128) (r : ℝ) (h : z (ix2 p c) = (r : EReal)) :
    spT z (ix2 p c) = (spR r : EReal) := by
  pointwise [spT]
  rw [h]
  have h1 : (FloatOps.absf (F := Ideal) (φ := .f32) (r : EReal) : EReal) = ((|r| : ℝ) : EReal) := by
    rw [abs_eq_max_neg, Stick.coe_max, EReal.coe_neg]; rfl
  rw [h1, zero_sub, ← EReal.coe_neg, Ideal.exp_coe, ← EReal.coe_one, ← EReal.coe_add, Ideal.log_coe,
    if_neg (not_le.mpr (by positivity)), ← EReal.coe_zero, ← Stick.coe_max, ← EReal.coe_add]
  rfl

theorem less_word (a b : Fin 128) : IntOp.cmpi CmpIPredicate.slt (BitVec.ofNat 32 a.val) (BitVec.ofNat 32 b.val) = if a.val < b.val then 1#1 else 0#1 := by
  have h : ∀ a b : Fin 128, IntOp.cmpi CmpIPredicate.slt (BitVec.ofNat 32 a.val) (BitVec.ofNat 32 b.val) = if a.val < b.val then 1#1 else 0#1 := by
    decide +kernel
  exact h a b

theorem maskT_apply (z : FVec Ideal S128x128 .f32) (p c : Fin 128) :
    maskT z (ix2 p c) = if c.val < p.val then (z (ix2 p c) : EReal) else 0 := by
  pointwise [maskT, k0_pay11]
  rw [less_word]
  split <;> rfl

theorem tri_apply (r : Fin 256) (c : Fin 128) : tri (F := Ideal) (ix2 r c) = if c.val < r.val % 128 then (1 : EReal) else 0 := by
  have hw : ∀ r : Fin 256, (Scalar.select
            (IntOp.andi
              (IntOp.xori
                (IntOp.cmpi CmpIPredicate.slt
                  (IntOp.remsi ArithUnit.vector (BitVec.ofNat 32 r.val)
                    (Scalar.select (Scalar.cmpi CmpIPredicate.eq 128#32 0#32) 1#32 128#32))
                  0#32)
                (Scalar.cmpi CmpIPredicate.slt (Scalar.select (Scalar.cmpi CmpIPredicate.eq 128#32 0#32) 1#32 128#32)
                  0#32))
              (IntOp.cmpi CmpIPredicate.ne
                (IntOp.remsi ArithUnit.vector (BitVec.ofNat 32 r.val)
                  (Scalar.select (Scalar.cmpi CmpIPredicate.eq 128#32 0#32) 1#32 128#32))
                0#32))
            (IntOp.addi
              (IntOp.remsi ArithUnit.vector (BitVec.ofNat 32 r.val)
                (Scalar.select (Scalar.cmpi CmpIPredicate.eq 128#32 0#32) 1#32 128#32))
              (Scalar.select (Scalar.cmpi CmpIPredicate.eq 128#32 0#32) 1#32 128#32))
            (IntOp.remsi ArithUnit.vector (BitVec.ofNat 32 r.val)
              (Scalar.select (Scalar.cmpi CmpIPredicate.eq 128#32 0#32) 1#32 128#32))) = BitVec.ofNat 32 (r.val % 128) := by
    decide +kernel
  have hc : ∀ a b : Fin 128, BitVec.setWidth 32 (IntOp.cmpi CmpIPredicate.sgt (BitVec.ofNat 32 a.val) (BitVec.ofNat 32 b.val))
      = if b.val < a.val then 1#32 else 0#32 := by decide +kernel
  pointwise [tri, k0_pay15, k0_pay12, k0_pay13, k0_pay14]
  rw [hw]
  have := hc ⟨r.val % 128, Nat.mod_lt _ (by decide)⟩ c
  dsimp only at this
  rw [this]
  split
  · show (((1#32 : BitVec 32).toInt : ℝ) : EReal) = 1
    norm_num
  · show (((0#32 : BitVec 32).toInt : ℝ) : EReal) = 0
    norm_num

theorem afterT_apply (a : FVec Ideal S128x1 .f32) (z : FVec Ideal S128x128 .f32) (p : Fin 128) :
    afterT a z (ix2 p 0) = (a (ix2 p 0) : EReal) + ∑ x : Fin 128, (z (ix2 p x) : EReal) := by
  pointwise [afterT]

theorem wT_apply (z : FVec Ideal S128x128 .f32) (a : FVec Ideal S128x1 .f32) (s : FVec Ideal S128x128 .f32) (p c : Fin 128) :
    wT z a s (ix2 p c) = Ideal.exp ((z (ix2 p c) : EReal) - spT z (ix2 p c) - (a (ix2 p 0) + s (ix2 p c))) := by
  pointwise [wT]

theorem accT_apply (c : FVec Ideal S128x64 .f32) (w : FVec Ideal S128x128 .f32) (v : FVec Ideal S128x64 .bf16) (p : Fin 128) (d : Fin 64) :
    accT c w v (ix2 p d) = (c (ix2 p d) : EReal) + ∑ x : Fin 128, (w (ix2 p x) : EReal) * v (ix2 x d) := by
  pointwise [accT]

theorem inT_apply (z : FVec Ideal S128x128 .f32) (p c : Fin 128) (f : ℕ → ℝ) (h : ∀ x : Fin 128, z (ix2 p x) = (f x.val : EReal)) :
    inT tri z (ix2 p c) = ((∑ x : Fin 128, (if c.val < x.val then f x.val else 0) : ℝ) : EReal) := by
  pointwise [inT]
  have h2 : (∑ x : Fin 128, ((z (ix2 p x) : EReal) - z (ix2 p x)) * (tri (F := Ideal) (ix2 ⟨128 + x.val, by omega⟩ c) : EReal)) = 0 := by
    refine Finset.sum_eq_zero fun x _ => ?_
    rw [h x, ← EReal.coe_sub, sub_self, EReal.coe_zero, zero_mul]
  refine (congrArg₂ (· + ·) ?_ h2).trans (add_zero _)
  rw [Stick.coe_sum]
  show (∑ x : Fin 128, (z (ix2 p x) : EReal) * (tri (F := Ideal) (ix2 ⟨x.val, by omega⟩ c) : EReal)) = _
  refine Finset.sum_congr rfl fun x _ => ?_
  rw [tri_apply, h x]
  have hx : x.val % 128 = x.val := Nat.mod_eq_of_lt x.isLt
  simp only [hx]
  split <;> simp

theorem none1 (p : Fin 128) : ((noneT (F := Ideal)).1 (ix2 p 0) : EReal) = 0 := by pointwise [noneT]
theorem none2 (p : Fin 128) (d : Fin 64) : ((noneT (F := Ideal)).2 (ix2 p d) : EReal) = 0 := by pointwise [noneT]

/-! ## A group's carry after the blocks from `b` on -/

variable (Z : ℕ → ℕ → ℝ) (V : ℕ → ℕ → EReal)

/-- The queries from `T` on have taken the keys of the blocks from `b` on. -/
def At (T b : ℕ) (s : Group Ideal) : Prop :=
  (∀ p : Fin 128, s.1 (ix2 p 0) = ((∑ u ∈ Finset.Ico (128 * b) 8192, see Z (T + p.val) u : ℝ) : EReal))
    ∧ ∀ (p : Fin 128) (d : Fin 64), s.2 (ix2 p d) = ∑ u ∈ Finset.Ico (128 * b) 8192, wt Z (T + p.val) u * V u d.val

theorem at_none (b : ℕ) : At Z V (128 * b) (b + 1) noneT := by
  constructor
  · intro p
    rw [none1, Finset.sum_eq_zero, EReal.coe_zero]
    intro u hu
    rw [Finset.mem_Ico] at hu
    exact if_neg (by have := p.isLt; omega)
  · intro p d
    rw [none2, Finset.sum_eq_zero]
    intro u hu
    rw [Finset.mem_Ico] at hu
    rw [wt, if_neg (by have := p.isLt; omega), zero_mul]

section Step

variable {T b : ℕ} (hb : b < 64) {sp w : FVec Ideal S128x128 .f32} {v : FVec Ideal S128x64 .bf16} {s : Group Ideal}
  (hs : At Z V T (b + 1) s)
  (hsp : ∀ p c : Fin 128, sp (ix2 p c) = (see Z (T + p.val) (128 * b + c.val) : EReal))
  (hv : ∀ (c : Fin 128) (d : Fin 64), v (ix2 c d) = V (128 * b + c.val) d.val)

include hb hs hsp in
theorem later (p c : Fin 128) :
    (s.1 (ix2 p 0) : EReal) + inT tri sp (ix2 p c) = ((∑ u ∈ Finset.Ico (128 * b + c.val + 1) 8192, see Z (T + p.val) u : ℝ) : EReal) := by
  have hc := c.isLt
  rw [inT_apply sp p c (fun x => see Z (T + p.val) (128 * b + x)) (fun x => hsp p x), hs.1 p, ← EReal.coe_add,
    sum_after (fun u => see Z (T + p.val) u) b c, sum_join _ _ b (by omega) hb]

include hb hs hsp hv in
theorem at_step (hw : ∀ p c : Fin 128, w (ix2 p c) = wt Z (T + p.val) (128 * b + c.val)) :
    At Z V T b (afterT s.1 sp, accT s.2 w v) := by
  constructor
  · intro p
    show afterT s.1 sp (ix2 p 0) = _
    rw [afterT_apply, hs.1 p]
    simp only [hsp]
    rw [← Stick.coe_sum, ← EReal.coe_add, sum_block (fun u => see Z (T + p.val) u) b, sum_join _ _ b (by omega) hb]
  · intro p d
    show accT s.2 w v (ix2 p d) = _
    rw [accT_apply, hs.2 p d]
    simp only [hw, hv]
    rw [sum_block (fun u => wt Z (T + p.val) u * V u d.val) b, sum_join _ _ b (by omega) hb]

include hb hs hsp in
/-- The weight of a key the query sees. -/
theorem weight (z : FVec Ideal S128x128 .f32) (hz : ∀ p c : Fin 128, z (ix2 p c) = (Z (T + p.val) (128 * b + c.val) : EReal))
    (p c : Fin 128) (h : 128 * b + c.val < T + p.val) : wT z s.1 (inT tri sp) (ix2 p c) = wt Z (T + p.val) (128 * b + c.val) := by
  rw [wT_apply, later Z V hb hs hsp p c, spT_apply z p c _ (hz p c), hz p c, ← EReal.coe_sub, ← EReal.coe_sub, Ideal.exp_coe,
    wt, if_pos h]

end Step

theorem open_step {T b : ℕ} (hb : b < 64) (hT : 128 * (b + 1) ≤ T) (q k v : FVec Ideal S128x64 .bf16) (s : Group Ideal)
    (hs : At Z V T (b + 1) s) (hz : ∀ p c : Fin 128, zT q k (ix2 p c) = (Z (T + p.val) (128 * b + c.val) : EReal))
    (hv : ∀ (c : Fin 128) (d : Fin 64), v (ix2 c d) = V (128 * b + c.val) d.val) : At Z V T b (openT tri q k v s) := by
  have hlt : ∀ p c : Fin 128, 128 * b + c.val < T + p.val := fun p c => by have := c.isLt; omega
  have hsp : ∀ p c : Fin 128, spT (zT q k) (ix2 p c) = (see Z (T + p.val) (128 * b + c.val) : EReal) := fun p c => by
    rw [spT_apply _ p c _ (hz p c), see, if_pos (hlt p c)]
  exact at_step Z V hb hs hsp hv fun p c => weight Z V hb hs hsp _ hz p c (hlt p c)

theorem diag_step {b : ℕ} (hb : b < 64) (q k v : FVec Ideal S128x64 .bf16) (s : Group Ideal)
    (hs : At Z V (128 * b) (b + 1) s) (hz : ∀ p c : Fin 128, zT q k (ix2 p c) = (Z (128 * b + p.val) (128 * b + c.val) : EReal))
    (hv : ∀ (c : Fin 128) (d : Fin 64), v (ix2 c d) = V (128 * b + c.val) d.val) : At Z V (128 * b) b (diagT tri q k v s) := by
  have hsp : ∀ p c : Fin 128, maskT (spT (zT q k)) (ix2 p c) = (see Z (128 * b + p.val) (128 * b + c.val) : EReal) := fun p c => by
    rw [maskT_apply, spT_apply _ p c _ (hz p c), see]
    by_cases h : c.val < p.val
    · rw [if_pos h, if_pos (by omega)]
    · rw [if_neg h, if_neg (by omega), EReal.coe_zero]
  refine at_step Z V hb hs hsp hv fun p c => ?_
  rw [maskT_apply]
  by_cases h : c.val < p.val
  · rw [if_pos h]; exact weight Z V hb hs hsp _ hz p c (by omega)
  · rw [if_neg h, wt, if_neg (by omega)]

/-! ## Whether a group is open -/

theorem lowT_lt (a b c d : FVec Ideal S128x1 .f32) (h : (a (ix2 0 0) : EReal) < ⊤) : (lowT a b c d : EReal) < ⊤ := by
  pointwise [lowT]
  rw [Finset.fold_min_lt]
  right
  refine ⟨(0, 0), Finset.mem_univ _, ?_⟩
  exact lt_of_le_of_lt ((min_le_left _ _).trans ((min_le_left _ _).trans (min_le_left _ _))) h

theorem open_flag (x : EReal) (h : x < ⊤) : Scalar.cmpf .olt (x : Ideal .f32) (Named.named κ "closed" 0x42DC0000#32 : Ideal .f32) = 1#1 := by
  show Ideal.cmp .olt x _ = 1#1
  rw [show (Named.named κ "closed" 0x42DC0000#32 : Ideal .f32) = (⊤ : EReal) from rfl]
  simp [Ideal.cmp, h]

end Cert.Kernel24Ideal.Sb
-- ==== Proof.SbRef.lean ====
/- The stick-breaking attention as the reference states it, over the extended reals: its sums of real logits. -/
module

public import proofs.«01_k».proof.Proof.SbStep
public import proofs.«01_k».proof.Proof.Gen.Reference24Ideal.Read
public import Idealize.ShloMosaic.Lib.WordCmp

@[expose] public section

set_option maxRecDepth 16384

noncomputable section

namespace Cert.Stick

open Finset

open Idealize.ShloMosaic

/-- The logits of head `h`. -/
def logit (q k : Vec Ideal ⟨3, ![8192, 16, 64]⟩ .f32) (h : Fin 16) (t s : ℕ) : ℝ :=
  if ht : t < 8192 then if hs : s < 8192 then
    ∑ d : Fin 64, EReal.toReal (q (ix3 ⟨t, ht⟩ h d)) * EReal.toReal (k (ix3 ⟨s, hs⟩ h d)) * (1 / 8) else 0 else 0

/-- The values of head `h`. -/
def value (v : Vec Ideal ⟨3, ![8192, 16, 64]⟩ .f32) (h : Fin 16) (s d : ℕ) : EReal :=
  if hs : s < 8192 then if hd : d < 64 then v (ix3 ⟨s, hs⟩ h ⟨d, hd⟩) else 0 else 0

/-- The attention's result. -/
def out (q k v : Vec Ideal ⟨3, ![8192, 16, 64]⟩ .f32) : Vec Ideal ⟨3, ![16, 8192, 64]⟩ .f32 := fun i =>
  ∑ u ∈ Finset.Ico 0 8192, wt (logit q k (i 0)) (i 1).val u * value v (i 0) u (i 2).val

/-- Every element is a real number. -/
def Real (q : Vec Ideal ⟨3, ![8192, 16, 64]⟩ .f32) : Prop :=
  ∀ (t : Fin 8192) (h : Fin 16) (d : Fin 64), (q (ix3 t h d) : EReal) = (EReal.toReal (q (ix3 t h d)) : EReal)

theorem eighth : Ideal.ofBits .f32 0x3E000000#32 = ((1 / 8 : ℝ) : EReal) := by
  simp [Ideal.ofBits, Ideal.ieee, -EReal.coe_mul]; norm_num

theorem eighth' : Ideal.ofBits .bf16 0x3E00#16 = ((1 / 8 : ℝ) : EReal) := by
  simp [Ideal.ofBits, Ideal.ieee, -EReal.coe_mul]; norm_num

theorem logsig (z : ℝ) : -spR (-z) = z - spR z := by
  unfold spR
  rw [abs_neg]
  rcases le_total z 0 with h | h
  · rw [max_eq_left (by linarith : (0 : ℝ) ≤ -z), max_eq_right h]; ring
  · rw [max_eq_right (by linarith : -z ≤ 0), max_eq_left h]; ring

theorem foldl_add {ι : Type} (g : ι → EReal) (l : List ι) (a : EReal) : l.foldl (fun r n => r + g n) a = a + (l.map g).sum := by
  induction l generalizing a with
  | nil => simp
  | cons x l ih => rw [List.foldl_cons, ih, List.map_cons, List.sum_cons, add_assoc]

/-- A sum over the window at an index. -/
theorem window_sum {s t u : Shape} (window strides lo hi : Fin s.rank → Nat) (x : s.Idx → EReal) (init : u.Idx → EReal)
    (h : s.ReduceWindows window strides lo hi t) (hu : 0 < u.numel) (j : t.Idx) (h0 : init (Shape.Idx.first hu) = 0) :
    Host.reduceWindow (· + ·) window strides lo hi x init h hu j
      = ∑ w : (⟨s.rank, window⟩ : Shape).Idx,
          if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0 := by
  unfold Host.reduceWindow
  simp only [h0]
  rw [foldl_add, zero_add, ← List.ofFn_eq_map, List.sum_ofFn]
  exact Equiv.sum_comp (⟨s.rank, window⟩ : Shape).rowMajor.symm (fun w =>
    if hin : ∀ a, lo a ≤ (j (a.cast h.1.symm)).val * strides a + (w a).val ∧ (j (a.cast h.1.symm)).val * strides a + (w a).val - lo a < s.size a
    then x (fun a => ⟨(j (a.cast h.1.symm)).val * strides a + (w a).val - lo a, (hin a).2⟩) else 0)

/-- The same of the sum the reference states. -/
theorem window_add {s t u : Shape} (window strides lo hi : Fin s.rank → Nat) (x : FVec Ideal s .f32) (init : u.Idx → Ideal .f32)
    (h : s.ReduceWindows window strides lo hi t) (hu : 0 < u.numel) (j : t.Idx) (h0 : (init (Shape.Idx.first hu) : EReal) = 0) :
    (Host.reduceWindowAdd (F := Ideal) (φ := .f32) window strides lo hi x init h hu j : EReal)
      = ∑ w : (⟨s.rank, window⟩ : Shape).Idx,
          if hin : ∀ a, lo a ≤ (j (a.cast h.1.symm)).val * strides a + (w a).val ∧ (j (a.cast h.1.symm)).val * strides a + (w a).val - lo a < s.size a
          then (x (fun a => ⟨(j (a.cast h.1.symm)).val * strides a + (w a).val - lo a, (hin a).2⟩) : EReal) else 0 :=
  window_sum (u := (⟨0, ![]⟩ : Shape)) window strides lo hi x (fun _ => init (Shape.Idx.first hu)) h (by decide) j h0

/-- The sum over a window that reaches past the end. -/
theorem sum_window (f : ℕ → ℝ) (s : ℕ) (hs : s ≤ 8192) :
    ∑ k : Fin 8192, (if s + k.val < 8192 then f (s + k.val) else 0) = ∑ u ∈ Ico s 8192, f u := by
  rw [← Finset.sum_range (fun k => if s + k < 8192 then f (s + k) else 0), ← Finset.sum_filter, Finset.sum_Ico_eq_sum_range]
  refine Finset.sum_congr ?_ fun _ _ => rfl
  ext x; simp only [Finset.mem_filter, Finset.mem_range]; omega

end Cert.Stick

namespace Cert.Reference24Ideal.Sb

open Cert.Reference24Ideal Cert.Reference24Ideal.Gen Cert.Reference24Ideal.Read Cert.Stick
open Idealize.ShloMosaic Idealize.ShloMosaic.TcCoe

/-- The running sum from the end. -/
theorem window_apply (x : Vec Ideal S16x8192x8192 .f32) (h : Fin 16) (t s : Fin 8192) (f : ℕ → ℝ)
    (hx : ∀ u : Fin 8192, x (ix3 h t u) = (f u.val : EReal)) (y : Vec Ideal S_ .f32) (hy : ∀ i, (y i : EReal) = 0)
    (hw) (hu) :
    (Host.reduceWindowAdd (F := Ideal) (φ := .f32) ![1, 1, 8192] ![1, 1, 1] ![0, 0, 0] ![0, 0, 8191] x y
      (t := S16x8192x8192) hw hu (ix3 h t s) : EReal)
      = ((∑ u ∈ Finset.Ico s.val 8192, f u : ℝ) : EReal) := by
  refine (Stick.window_add (s := S16x8192x8192) (t := S16x8192x8192) (u := S_) ![1, 1, 8192] ![1, 1, 1] ![0, 0, 0] ![0, 0, 8191] x y hw hu (ix3 h t s) (hy _)).trans ?_
  refine (sum_idx3 (n0 := 1) (n1 := 1) (n2 := 8192) _).trans ?_
  rw [← Stick.sum_window f s.val (by omega), Stick.coe_sum, Fin.sum_univ_one, Fin.sum_univ_one]
  refine Finset.sum_congr rfl fun w _ => ?_
  by_cases hc : s.val + w.val < 8192
  · rw [if_pos hc, dif_pos (by
      intro a
      match a with
      | ⟨0, _⟩ => exact ⟨Nat.zero_le _, by show h.val * 1 + 0 - 0 < 16; omega⟩
      | ⟨1, _⟩ => exact ⟨Nat.zero_le _, by show t.val * 1 + 0 - 0 < 8192; omega⟩
      | ⟨2, _⟩ => exact ⟨Nat.zero_le _, by show s.val * 1 + w.val - 0 < 8192; omega⟩)]
    rw [← hx ⟨s.val + w.val, hc⟩]
    congr 1
    funext a
    match a with
    | ⟨0, _⟩ => exact Fin.ext (by show h.val * 1 + 0 - 0 = h.val; omega)
    | ⟨1, _⟩ => exact Fin.ext (by show t.val * 1 + 0 - 0 = t.val; omega)
    | ⟨2, _⟩ => exact Fin.ext (by show s.val * 1 + w.val - 0 = s.val + w.val; omega)
  · rw [if_neg hc, EReal.coe_zero, dif_neg]
    intro hin
    have : s.val * 1 + w.val - 0 < 8192 := (hin (2 : Fin 3)).2
    omega

variable (q k v : Vec Ideal S8192x16x64 .f32) (hq : Real q) (hk : Real k)

include hq hk in
theorem z_apply (h : Fin 16) (t s : Fin 8192) : (val_main_v2 (F := Ideal) q k (ix3 h t s) : EReal) = (logit q k h t.val s.val : EReal) := by
  rw [val_main_v2_apply, val_main_v0_apply, logit, dif_pos t.isLt, dif_pos s.isLt]
  have hl : ∀ d : Fin 64, lidx_main_v0 (ix3 h t s) d = ix3 t h d := fun d => by
    funext a; match a with | ⟨0, _⟩ => rfl | ⟨1, _⟩ => rfl | ⟨2, _⟩ => rfl
  have hr : ∀ d : Fin 64, ridx_main_v0 (ix3 h t s) d = ix3 s h d := fun d => by
    funext a; match a with | ⟨0, _⟩ => rfl | ⟨1, _⟩ => rfl | ⟨2, _⟩ => rfl
  simp only [hl, hr]
  rw [val_main_v1_apply, val_main_cst_apply]
  show (∑ d : Fin 64, (q (ix3 t h d) : EReal) * (k (ix3 s h d) : EReal)) * Ideal.ofBits .f32 0x3E000000#32 = _
  rw [eighth, ← Finset.sum_mul, EReal.coe_mul, Stick.coe_sum]
  congr 1
  refine Finset.sum_congr rfl fun d _ => ?_
  rw [EReal.coe_mul, ← hq t h d, ← hk s h d]

theorem seen (h : Fin 16) (t s : Fin 8192) : val_main_call1_v1 (F := Ideal) (ix3 h t s) = if s.val < t.val then 1#1 else 0#1 := by
  rw [val_main_call1_v1_apply, val_main_v8_apply]
  show IntOp.cmpi .slt (BitVec.ofNat 32 s.val) (BitVec.ofNat 32 t.val) = _
  rw [WordCmp.cmpi_slt_ofNat (by have := s.isLt; omega) (by have := t.isLt; omega)]
  by_cases hc : s.val < t.val <;> simp [hc]

theorem seen' (h : Fin 16) (t s : Fin 8192) : val_main_call4_v1 (F := Ideal) (ix3 h t s) = if s.val < t.val then 1#1 else 0#1 :=
  seen h t s

theorem softplus (z : EReal) (r : ℝ) (hz : z = r) :
    (Scalar.select (FloatOps.cmpf (F := Ideal) (φ := .f32) .une (z - 0) (z - 0)) (z + 0 : EReal)
      (max z 0 + Ideal.log1p (Ideal.exp (-(max (z - 0) (-(z - 0)))))) : EReal) = (spR r : EReal) := by
  rw [Ideal.cmpf_def]
  simp only [Ideal.cmp, ne_eq, not_true_eq_false, decide_false]
  show (max z 0 + Ideal.log1p (Ideal.exp (-(max (z - 0) (-(z - 0))))) : EReal) = _
  rw [sub_zero, hz, ← EReal.coe_neg, ← Stick.coe_max, ← abs_eq_max_neg, ← EReal.coe_neg, Ideal.exp_coe, Ideal.log1p,
    ← EReal.coe_one, ← EReal.coe_add, Ideal.log_coe, if_neg (not_le.mpr (by positivity)), ← EReal.coe_zero, ← Stick.coe_max, ← EReal.coe_add]
  rfl

include hq hk in
theorem see_apply (h : Fin 16) (t s : Fin 8192) :
    (val_main_v10 (F := Ideal) q k (ix3 h t s) : EReal) = (see (logit q k h) t.val s.val : EReal) := by
  rw [val_main_v10_apply, seen h t s, see]
  by_cases hc : s.val < t.val
  · rw [if_pos hc, if_pos hc]
    show (val_main_v9 (F := Ideal) q k (ix3 h t s) : EReal) = _
    rw [← softplus _ _ (z_apply q k hq hk h t s), val_main_v9_apply]
    simp only [val_main_call0_v0_apply, val_main_call0_v1_apply, val_main_call0_v2_apply, val_main_call0_v3_apply, val_main_call0_v4_apply, val_main_call0_v5_apply, val_main_call0_v6_apply, val_main_call0_v7_apply, val_main_call0_v8_apply, val_main_call0_v9_apply, val_main_call0_v10_apply, val_main_call0_v11_apply, val_main_call0_cst_apply]
    rw [show (FloatOps.ofBits (F := Ideal) .f32 0x00000000#32 : EReal) = 0 from by simp]
    rfl
  · rw [if_neg hc, if_neg hc]
    show Ideal.ofBits .f32 0x00000000#32 = _
    simp

include hq hk in
theorem wt_apply (h : Fin 16) (t s : Fin 8192) :
    (val_main_v16 (F := Ideal) q k (ix3 h t s) : EReal) = wt (logit q k h) t.val s.val := by
  rw [val_main_v16_apply, seen' h t s, wt]
  by_cases hc : s.val < t.val
  · rw [if_pos hc, if_pos hc]
    show Ideal.exp ((val_main_v13 (F := Ideal) q k (ix3 h t s) : EReal)
      - ((val_main_v11 (F := Ideal) q k (ix3 h t s) : EReal) - (val_main_v10 (F := Ideal) q k (ix3 h t s) : EReal))) = _
    have h13 : (val_main_v13 (F := Ideal) q k (ix3 h t s) : EReal) = ((logit q k h t.val s.val - spR (logit q k h t.val s.val) : ℝ) : EReal) := by
      rw [← logsig, EReal.coe_neg, ← softplus (-(val_main_v2 (F := Ideal) q k (ix3 h t s) : EReal)) _ (by rw [z_apply q k hq hk h t s, EReal.coe_neg]), val_main_v13_apply, val_main_call3_v1_apply]
      simp only [val_main_call3_v0_apply, val_main_call3_call0_v0_apply, val_main_call3_call0_v1_apply, val_main_call3_call0_v2_apply, val_main_call3_call0_v3_apply, val_main_call3_call0_v4_apply, val_main_call3_call0_v5_apply, val_main_call3_call0_v6_apply, val_main_call3_call0_v7_apply, val_main_call3_call0_v8_apply, val_main_call3_call0_v9_apply, val_main_call3_call0_v10_apply, val_main_call3_call0_v11_apply, val_main_call3_call0_cst_apply]
      rw [show (FloatOps.ofBits (F := Ideal) .f32 0x00000000#32 : EReal) = 0 from by simp]
      rfl
    have h11 : (val_main_v11 (F := Ideal) q k (ix3 h t s) : EReal) = ((∑ u ∈ Finset.Ico s.val 8192, see (logit q k h) t.val u : ℝ) : EReal) := by
      unfold val_main_v11
      exact window_apply _ h t s (fun u => see (logit q k h) t.val u) (fun u => see_apply q k hq hk h t u) _ (fun i => by rw [val_main_call2_v0_apply, val_main_call2_cst_apply]; simp) _ _
    rw [h13, h11, see_apply q k hq hk h t s, ← EReal.coe_sub, ← EReal.coe_sub, Ideal.exp_coe,
      Finset.sum_eq_sum_Ico_succ_bot s.isLt, add_sub_cancel_left]
  · rw [if_neg hc, if_neg hc]
    show Ideal.ofBits .f32 0x00000000#32 = _
    simp

include hq hk in
theorem out_eq : val_main_v17 (F := Ideal) q k v = out q k v := by
  funext i
  rw [val_main_v17_apply]
  unfold out
  rw [← Finset.range_eq_Ico, Finset.sum_range]
  refine Finset.sum_congr rfl fun u _ => ?_
  have hw := wt_apply q k hq hk (i 0) (i 1) u
  have hv : value v (i 0) u.val (i 2).val = v (ix3 u (i 0) (i 2)) := by
    unfold value; exact (dif_pos u.isLt).trans (dif_pos (i 2).isLt)
  rw [hv, ← hw]
  congr 1
  · congr 1; funext a; fin_cases a <;> rfl
  · congr 1; funext a; fin_cases a <;> rfl

end Cert.Reference24Ideal.Sb
-- ==== Proof.SbValue.lean ====
/- The stick-breaking attention's body computes the reference's sums: the walk takes the keys block by block. -/
module

public import proofs.«01_k».proof.Proof.SbRef
public import proofs.«01_k».proof.Proof.SbRun

@[expose] public section

set_option maxRecDepth 16384

noncomputable section

namespace Cert.Kernel24Ideal.Sb

open Cert.Kernel24Ideal Cert.Kernel24Ideal.Gen Cert.Stick
open Idealize.ShloMosaic Idealize.ShloMosaic.TcCoe Idealize.ShloMosaic.Tactic

/-! ## The four groups -/

variable (Z : ℕ → ℕ → ℝ) (V K : ℕ → ℕ → EReal)

/-- The four groups from row block `4 n` on have taken the keys of the blocks from `b` on, and the walk goes on. -/
def AtAll (n b : ℕ) (s : Carry Ideal) : Prop :=
  s.1 = 1#1 ∧ At Z V (128 * (4 * n)) b (s.2.1, s.2.2.1) ∧ At Z V (128 * (4 * n + 1)) b (s.2.2.2.1, s.2.2.2.2.1)
    ∧ At Z V (128 * (4 * n + 2)) b (s.2.2.2.2.2.1, s.2.2.2.2.2.2.1) ∧ At Z V (128 * (4 * n + 3)) b (s.2.2.2.2.2.2.2.1, s.2.2.2.2.2.2.2.2)

theorem at_pack {n b : ℕ} {s0 s1 s2 s3 : Group Ideal} (h0 : At Z V (128 * (4 * n)) b s0) (h1 : At Z V (128 * (4 * n + 1)) b s1)
    (h2 : At Z V (128 * (4 * n + 2)) b s2) (h3 : At Z V (128 * (4 * n + 3)) b s3) : AtAll Z V n b (packT s0 s1 s2 s3) :=
  ⟨open_flag _ (lowT_lt _ _ _ _ (by rw [h0.1 0]; exact EReal.coe_lt_top _)), h0, h1, h2, h3⟩

/-- The matrix is block `b` of the keys or values. -/
def Is (K : ℕ → ℕ → EReal) (b : ℕ) (k : FVec Ideal S128x64 .bf16) : Prop :=
  ∀ (c : Fin 128) (d : Fin 64), (k (ix2 c d) : EReal) = K (128 * b + c.val) d.val

section Groups

variable {n : ℕ} (hn : n < 16) (q : Fin 4 → FVec Ideal S128x64 .bf16)
  (hq : ∀ (u : Fin 4) (p : Fin 128) (s : ℕ), s < 8192 →
    ∑ d : Fin 64, (q u (ix2 p d) : EReal) * K s d.val = (Z (128 * (4 * n + u.val) + p.val) s : EReal))

include hq in
theorem z_of {b : ℕ} (hb : b < 64) {k : FVec Ideal S128x64 .bf16} (hk : Is K b k) (u : Fin 4) (p c : Fin 128) :
    zT (q u) k (ix2 p c) = (Z (128 * (4 * n + u.val) + p.val) (128 * b + c.val) : EReal) := by
  have hc := c.isLt
  rw [zT_apply, ← hq u p _ (by omega)]
  exact Finset.sum_congr rfl fun d _ => by rw [hk c d]

include hn hq in
theorem at_open {b : ℕ} (u : Fin 4) (hb : b + 1 ≤ 4 * n + u.val) {k v : FVec Ideal S128x64 .bf16} (hk : Is K b k) (hv : Is V b v)
    {s : Group Ideal} (hs : At Z V (128 * (4 * n + u.val)) (b + 1) s) : At Z V (128 * (4 * n + u.val)) b (openT tri (q u) k v s) := by
  have hu := u.isLt
  exact open_step Z V (by omega) (by omega) _ _ _ _ hs (z_of Z K q hq (by omega) hk u) hv

include hn hq in
theorem at_diag (u : Fin 4) {k v : FVec Ideal S128x64 .bf16} (hk : Is K (4 * n + u.val) k) (hv : Is V (4 * n + u.val) v) :
    At Z V (128 * (4 * n + u.val)) (4 * n + u.val) (diagT tri (q u) k v noneT) := by
  have hu := u.isLt
  exact diag_step Z V (by omega) _ _ _ _ (at_none Z V _) (z_of Z K q hq (by omega) hk u) hv

include hn hq in
theorem at_start {k0 k1 k2 k3 v0 v1 v2 v3 : FVec Ideal S128x64 .bf16}
    (hk0 : Is K (4 * n) k0) (hk1 : Is K (4 * n + 1) k1) (hk2 : Is K (4 * n + 2) k2) (hk3 : Is K (4 * n + 3) k3)
    (hv0 : Is V (4 * n) v0) (hv1 : Is V (4 * n + 1) v1) (hv2 : Is V (4 * n + 2) v2) (hv3 : Is V (4 * n + 3) v3) :
    AtAll Z V n (4 * n) (startT tri q k3 v3 k2 v2 k1 v1 k0 v0) :=
  at_pack Z V (at_diag Z V K hn q hq 0 hk0 hv0)
    (at_open Z V K hn q hq 1 le_rfl hk0 hv0 (at_diag Z V K hn q hq 1 hk1 hv1))
    (at_open Z V K hn q hq 2 (by show 4 * n + 1 ≤ 4 * n + 2; omega) hk0 hv0 (at_open Z V K hn q hq 2 le_rfl hk1 hv1 (at_diag Z V K hn q hq 2 hk2 hv2)))
    (at_open Z V K hn q hq 3 (by show 4 * n + 1 ≤ 4 * n + 3; omega) hk0 hv0 (at_open Z V K hn q hq 3 (by show 4 * n + 1 + 1 ≤ 4 * n + 3; omega) hk1 hv1
      (at_open Z V K hn q hq 3 le_rfl hk2 hv2 (at_diag Z V K hn q hq 3 hk3 hv3))))

include hn hq in
theorem at_trip {b : ℕ} (hb : b + 2 ≤ 4 * n) {k0 k1 v0 v1 : FVec Ideal S128x64 .bf16} (hk1 : Is K (b + 1) k1) (hv1 : Is V (b + 1) v1)
    (hk0 : Is K b k0) (hv0 : Is V b v0) {s : Carry Ideal} (hs : AtAll Z V n (b + 2) s) : AtAll Z V n b (tripT tri q k1 v1 k0 v0 s) := by
  obtain ⟨-, h0, h1, h2, h3⟩ := hs
  have two : ∀ (u : Fin 4) (g : Group Ideal), At Z V (128 * (4 * n + u.val)) (b + 2) g →
      At Z V (128 * (4 * n + u.val)) b (openT tri (q u) k0 v0 (openT tri (q u) k1 v1 g)) := fun u g hg =>
    at_open Z V K hn q hq u (by omega) hk0 hv0 (at_open Z V K hn q hq u (by omega) hk1 hv1 hg)
  exact at_pack Z V (two 0 _ h0) (two 1 _ h1) (two 2 _ h2) (two 3 _ h3)

end Groups

/-! ## What the body loads -/

theorem off1 : ∀ (i : grid0.Coords) (r : Fin 4), k0_off1 i (BitVec.ofNat 32 r.val) = ![0, 128 * (4 * (i 1).val + r.val), 0] := by
  decide +kernel

theorem off2 : ∀ (i : grid0.Coords) (j : Fin 32) (r : Fin 2), j.val < 2 * (i 1).val →
    k0_off2 i (BitVec.ofNat 32 j.val) (BitVec.ofNat 32 r.val) = ![0, 128 * (4 * (i 1).val - 2 * (j.val + 1) + r.val), 0] := by
  decide +kernel

theorem ld_block (x : Vec Ideal S1x8192x64 .bf16) (hx : ∀ (s : Fin 8192) (d : Fin 64), (x (ix3 0 s d) : EReal) = K s.val d.val)
    (off : Fin 3 → ℕ) (inb : ∀ a, off a + S1x128x64.size a ≤ S1x8192x64.size a) (b : ℕ) (hoff : off = ![0, 128 * b, 0]) :
    Is K b (flat (View.ld x (Rect.unit (s := S1x8192x64) off S1x128x64.size inb))) := by
  subst hoff
  intro c d
  have h1 : 128 * b + 128 ≤ 8192 := inb 1
  have hc := c.isLt
  rw [flat_apply, ← hx ⟨128 * b + c.val, by omega⟩ d]
  show x _ = x _
  congr 1
  funext a
  match a with
  | ⟨0, _⟩ => exact Fin.ext (by simp)
  | ⟨1, _⟩ => exact Fin.ext (by simp)
  | ⟨2, _⟩ => exact Fin.ext (by simp)

section Body

variable (i : grid0.Coords) (x0 : Vec Ideal S1x512x64 .bf16) (x1 x2 : Vec Ideal S1x8192x64 .bf16)
  (h1 : ∀ (s : Fin 8192) (d : Fin 64), (x1 (ix3 0 s d) : EReal) = K s.val d.val)
  (h2 : ∀ (s : Fin 8192) (d : Fin 64), (x2 (ix3 0 s d) : EReal) = V s.val d.val)
  (h0 : ∀ (r : Fin 512) (s : ℕ), s < 8192 →
    ∑ d : Fin 64, (x0 (ix3 0 r d) : EReal) * Ideal.ofBits .bf16 0x3E00#16 * K s d.val = (Z (512 * (i 1).val + r.val) s : EReal))

include h0 in
theorem qs_read (u : Fin 4) (p : Fin 128) (s : ℕ) (hs : s < 8192) :
    ∑ d : Fin 64, ((![qs0 x0, qs1 x0, qs2 x0, qs3 x0] : Fin 4 → FVec Ideal S128x64 .bf16) u (ix2 p d) : EReal) * K s d.val
      = (Z (128 * (4 * (i 1).val + u.val) + p.val) s : EReal) := by
  have hp := p.isLt
  have key : ∀ r : Fin 512, r.val = 128 * u.val + p.val →
      (∀ d : Fin 64, ((![qs0 x0, qs1 x0, qs2 x0, qs3 x0] : Fin 4 → FVec Ideal S128x64 .bf16) u (ix2 p d) : EReal)
        = (x0 (ix3 0 r d) : EReal) * Ideal.ofBits .bf16 0x3E00#16) →
      ∑ d : Fin 64, ((![qs0 x0, qs1 x0, qs2 x0, qs3 x0] : Fin 4 → FVec Ideal S128x64 .bf16) u (ix2 p d) : EReal) * K s d.val
        = (Z (128 * (4 * (i 1).val + u.val) + p.val) s : EReal) := fun r hr hd => by
    rw [show 128 * (4 * (i 1).val + u.val) + p.val = 512 * (i 1).val + r.val by omega, ← h0 r s hs]
    exact Finset.sum_congr rfl fun d _ => by rw [hd d]
  match u with
  | ⟨0, _⟩ => exact key ⟨p.val, by omega⟩ (by simp) fun d => by show qs0 x0 (ix2 p d) = _; pointwise [qs0, k0_pay7]
  | ⟨1, _⟩ => exact key ⟨128 + p.val, by omega⟩ (by simp) fun d => by show qs1 x0 (ix2 p d) = _; pointwise [qs1, k0_pay8]
  | ⟨2, _⟩ => exact key ⟨256 + p.val, by omega⟩ (by simp) fun d => by show qs2 x0 (ix2 p d) = _; pointwise [qs2, k0_pay9]
  | ⟨3, _⟩ => exact key ⟨384 + p.val, by omega⟩ (by simp) fun d => by show qs3 x0 (ix2 p d) = _; pointwise [qs3, k0_pay10]

include h0 h1 h2 in
theorem at_first : AtAll Z V (i 1).val (4 * (i 1).val) (first i x0 x1 x2) := by
  unfold first
  rw [start_eq]
  have hk := fun r : Fin 4 => ld_block K x1 h1 (k0_off1 i (BitVec.ofNat 32 r.val)) (k0_off1_inb i r) _ (off1 i r)
  have hv := fun r : Fin 4 => ld_block V x2 h2 (k0_off1 i (BitVec.ofNat 32 r.val)) (k0_off1_inb i r) _ (off1 i r)
  exact at_start Z V K (i 1).isLt _ (qs_read Z K i x0 h0) (hk 0) (hk 1) (hk 2) (hk 3) (hv 0) (hv 1) (hv 2) (hv 3)

include h0 h1 h2 in
theorem at_walk : ∀ (k j : ℕ) (s : Carry Ideal), j + k = trips i → AtAll Z V (i 1).val (4 * (i 1).val - 2 * j) s →
    AtAll Z V (i 1).val 0 (walk i (qs0 x0) (qs1 x0) (qs2 x0) (qs3 x0) tri x1 x2 k j s).2
  | 0, j, s, hj, hs => by
    unfold trips at hj
    rw [show 4 * (i 1).val - 2 * j = 0 by omega] at hs
    exact hs
  | k + 1, j, s, hj, hs => by
    have hlt : j < trips i := by omega
    have h32 : j < 32 := hlt.trans (trips_lt i)
    rw [walk, if_pos hs.1, dif_pos hlt]
    refine at_walk k (j + 1) _ (by omega) ?_
    unfold tripAt
    rw [trip_eq]
    have hlt' : j < 2 * (i 1).val := hlt
    have hk := fun r : Fin 2 => ld_block K x1 h1 (k0_off2 i (BitVec.ofNat 32 j) (BitVec.ofNat 32 r.val))
      (k0_off2_inb i (BitVec.ofNat 32 j) (chk i j hlt) r) _ (off2 i ⟨j, h32⟩ r hlt')
    have hv := fun r : Fin 2 => ld_block V x2 h2 (k0_off2 i (BitVec.ofNat 32 j) (BitVec.ofNat 32 r.val))
      (k0_off2_inb i (BitVec.ofNat 32 j) (chk i j hlt) r) _ (off2 i ⟨j, h32⟩ r hlt')
    refine at_trip Z V K (i 1).isLt _ (qs_read Z K i x0 h0) (by omega) (hk 1) (hv 1) (hk 0) (hv 0) ?_
    rw [show 4 * (i 1).val - 2 * (j + 1) + 2 = 4 * (i 1).val - 2 * j by omega]
    exact hs

include h0 h1 h2 in
theorem at_last : AtAll Z V (i 1).val 0 (last i x0 x1 x2) := by
  unfold last
  exact at_walk Z V K i x0 x1 x2 h1 h2 h0 _ 0 _ (by omega) (at_first Z V K i x0 x1 x2 h1 h2 h0)

/-- The body's row `r`. -/
def rowOf (r d : ℕ) : EReal := ∑ u ∈ Finset.Ico 0 8192, wt Z (512 * (i 1).val + r) u * V u d

theorem row_at (a b r d : ℕ) (ha : a = 512 * (i 1).val + r) (hb : b = d) :
    ∑ u ∈ Finset.Ico (128 * 0) 8192, wt Z a u * V u b = rowOf Z V i r d := by
  subst ha hb; rfl

include h0 h1 h2 in
theorem outO_apply (y : S1x512x64.Idx) : outO i x0 x1 x2 y = (rowOf Z V i (y 1).val (y 2).val : Elt Ideal .f32) := by
  unfold outO
  obtain ⟨-, g0, g1, g2, g3⟩ := at_last Z V K i x0 x1 x2 h1 h2 h0
  generalize last i x0 x1 x2 = s at g0 g1 g2 g3
  refine View.canon_apply_of_pieces (Val := Elt Ideal) (fun y => (rowOf Z V i (y 1).val (y 2).val : Elt Ideal .f32)) _ ?_ y (cover_o _ _ _ _ y)
  intro pc hpc x
  unfold rowsO at hpc
  simp only [List.mem_cons, List.not_mem_nil, or_false] at hpc
  rcases hpc with rfl | rfl | rfl | rfl
  · have e : k0_pay1 s.2.2.2.2.2.2.2.2 x = s.2.2.2.2.2.2.2.2 (ix2 (x 1) (x 2)) := by pointwise [k0_pay1]
    refine e.trans ((g3.2 (x 1) (x 2)).trans ?_)
    refine row_at Z V i _ _ _ _ ?_ ?_
    · show _ = 512 * (i 1).val + ((rq3.emb x) 1).val
      blk_simp; omega
    · show _ = ((rq3.emb x) 2).val
      blk_simp
  · have e : k0_pay106 s.2.2.2.2.2.2.1 x = s.2.2.2.2.2.2.1 (ix2 (x 1) (x 2)) := by pointwise [k0_pay106]
    refine e.trans ((g2.2 (x 1) (x 2)).trans ?_)
    refine row_at Z V i _ _ _ _ ?_ ?_
    · show _ = 512 * (i 1).val + ((rq2.emb x) 1).val
      blk_simp; omega
    · show _ = ((rq2.emb x) 2).val
      blk_simp
  · have e : k0_pay104 s.2.2.2.2.1 x = s.2.2.2.2.1 (ix2 (x 1) (x 2)) := by pointwise [k0_pay104]
    refine e.trans ((g1.2 (x 1) (x 2)).trans ?_)
    refine row_at Z V i _ _ _ _ ?_ ?_
    · show _ = 512 * (i 1).val + ((rq1.emb x) 1).val
      blk_simp; omega
    · show _ = ((rq1.emb x) 2).val
      blk_simp
  · have e : k0_pay102 s.2.2.1 x = s.2.2.1 (ix2 (x 1) (x 2)) := by pointwise [k0_pay102]
    refine e.trans ((g0.2 (x 1) (x 2)).trans ?_)
    refine row_at Z V i _ _ _ _ ?_ ?_
    · show _ = 512 * (i 1).val + ((rq0.emb x) 1).val
      blk_simp; omega
    · show _ = ((rq0.emb x) 2).val
      blk_simp

include h0 h1 h2 in
theorem outB_apply (y : S1x512x64.Idx) : outB i x0 x1 x2 y = (rowOf Z V i (y 1).val (y 2).val : Elt Ideal .bf16) := by
  unfold outB
  obtain ⟨-, g0, g1, g2, g3⟩ := at_last Z V K i x0 x1 x2 h1 h2 h0
  generalize last i x0 x1 x2 = s at g0 g1 g2 g3
  refine View.canon_apply_of_pieces (Val := Elt Ideal) (fun y => (rowOf Z V i (y 1).val (y 2).val : Elt Ideal .bf16)) _ ?_ y (cover_b _ _ _ _ y)
  intro pc hpc x
  unfold rowsB at hpc
  simp only [List.mem_cons, List.not_mem_nil, or_false] at hpc
  rcases hpc with rfl | rfl | rfl | rfl
  · have e : k0_pay2 s.2.2.2.2.2.2.2.2 x = s.2.2.2.2.2.2.2.2 (ix2 (x 1) (x 2)) := by pointwise [k0_pay2]
    refine e.trans ((g3.2 (x 1) (x 2)).trans ?_)
    refine row_at Z V i _ _ _ _ ?_ ?_
    · show _ = 512 * (i 1).val + ((rq3.emb x) 1).val
      blk_simp; omega
    · show _ = ((rq3.emb x) 2).val
      blk_simp
  · have e : k0_pay107 s.2.2.2.2.2.2.1 x = s.2.2.2.2.2.2.1 (ix2 (x 1) (x 2)) := by pointwise [k0_pay107]
    refine e.trans ((g2.2 (x 1) (x 2)).trans ?_)
    refine row_at Z V i _ _ _ _ ?_ ?_
    · show _ = 512 * (i 1).val + ((rq2.emb x) 1).val
      blk_simp; omega
    · show _ = ((rq2.emb x) 2).val
      blk_simp
  · have e : k0_pay105 s.2.2.2.2.1 x = s.2.2.2.2.1 (ix2 (x 1) (x 2)) := by pointwise [k0_pay105]
    refine e.trans ((g1.2 (x 1) (x 2)).trans ?_)
    refine row_at Z V i _ _ _ _ ?_ ?_
    · show _ = 512 * (i 1).val + ((rq1.emb x) 1).val
      blk_simp; omega
    · show _ = ((rq1.emb x) 2).val
      blk_simp
  · have e : k0_pay103 s.2.2.1 x = s.2.2.1 (ix2 (x 1) (x 2)) := by pointwise [k0_pay103]
    refine e.trans ((g0.2 (x 1) (x 2)).trans ?_)
    refine row_at Z V i _ _ _ _ ?_ ?_
    · show _ = 512 * (i 1).val + ((rq0.emb x) 1).val
      blk_simp; omega
    · show _ = ((rq0.emb x) 2).val
      blk_simp

end Body

end Cert.Kernel24Ideal.Sb
-- ==== Proof.FfnDact.lean ====
/- The gradient of the gated unit `silu(gate) * up` taken back through its down projection, at the ideal instance: the kernel's
   result array and the reference's are one function of the four arguments, when the cotangent, the weight and `up` are finite. -/
module

public import proofs.«01_k».proof.Defs
public import proofs.«01_k».proof.Proof.Gen.Kernel2Ideal.Value
public import proofs.«01_k».proof.Proof.Gen.Reference2Ideal.Read
public import Idealize.ShloMosaic.Lib.Pipeline.ValueKit
public import Idealize.ShloMosaic.Lib.Claim
public import Idealize.ShloMosaic.Lib.ReduceAll
public import Idealize.ShloMosaic.Lib.Pointwise

@[expose] public section

noncomputable section

open Idealize.ShloMosaic Idealize.ShloMosaic.TcCoe Idealize.SL.Sem
open Idealize.ShloMosaic.Pipeline (Dat)

namespace Cert.FfnDact

/-- The logistic function as both programs compute it. -/
def sigm (g : EReal) : EReal := Ideal.div 1 (1 + Ideal.exp (-g))

/-- The element of the gradient with respect to `gate`: `x` is the gradient of the product, `u` the element of `up`. -/
def dGate (x g u : EReal) : EReal := x * u * (sigm g * (1 + g * (1 - sigm g)))

/-- The element of the gradient with respect to `up`. -/
def dUp (x g : EReal) : EReal := x * (g * sigm g)

/-- The whole result: the gradient of `gate` above the gradient of `up`. -/
def grad (dy : Vec Ideal ⟨2, ![8192, 1024]⟩ .f32) (w : Vec Ideal ⟨2, ![2816, 1024]⟩ .f32)
    (gate up : Vec Ideal ⟨2, ![8192, 2816]⟩ .f32) : Vec Ideal ⟨3, ![2, 8192, 2816]⟩ .bf16 := fun i =>
  if (i 0).val = 0 then
    dGate (∑ k : Fin 1024, dy (ix2 (i 1) k) * w (ix2 (i 2) k)) (gate (ix2 (i 1) (i 2))) (up (ix2 (i 1) (i 2)))
  else
    dUp (∑ k : Fin 1024, dy (ix2 (i 1) k) * w (ix2 (i 2) k)) (gate (ix2 (i 1) (i 2)))

theorem sigm_top : sigm ⊤ = 1 := by
  rw [sigm, EReal.neg_top, Ideal.exp_bot, add_zero]
  have h := Ideal.div_coe (y := 1) one_ne_zero 1
  rwa [EReal.coe_one, one_div, inv_one, EReal.coe_one, mul_one] at h

theorem sigm_bot : sigm ⊥ = 0 := by
  rw [sigm, EReal.neg_bot, Ideal.exp_top, EReal.add_top_of_ne_bot (by decide), Ideal.div, if_neg (by decide),
    EReal.inv_top, mul_zero]

theorem sigm_coe (g : ℝ) : sigm g = ((1 / (1 + Real.exp (-g)) : ℝ) : EReal) := by
  have hp : (1 + Real.exp (-g) : ℝ) ≠ 0 := by positivity
  rw [sigm, ← EReal.coe_neg, Ideal.exp_coe, ← EReal.coe_one, ← EReal.coe_add, Ideal.div_coe hp, ← EReal.coe_mul, one_mul]

/-- The derivative of `g * sigm g` in its two spellings: the kernel's factored one and the sum of the two product-rule terms. -/
theorem dGate_eq (x g u : EReal) (hx : ∃ r : ℝ, x = r) (hu : ∃ r : ℝ, u = r) :
    x * u * sigm g + g * (x * u) * (sigm g * (1 - sigm g)) = dGate x g u := by
  obtain ⟨x, rfl⟩ := hx
  obtain ⟨u, rfl⟩ := hu
  unfold dGate
  induction g using EReal.rec with
  | bot => simp [sigm_bot]
  | top =>
    have h : (1 : EReal) - 1 = 0 := by rw [← EReal.coe_one, ← EReal.coe_sub, sub_self, EReal.coe_zero]
    simp [sigm_top, h]
  | coe g =>
    rw [sigm_coe]
    generalize (1 / (1 + Real.exp (-g)) : ℝ) = s
    norm_cast
    ring

/-- A number whose absolute value is below the top one is real. -/
theorem real_of_abs_lt (x : EReal) (h : max x (-x) < ⊤) : ∃ r : ℝ, x = r := by
  induction x using EReal.rec with
  | bot => simp at h
  | top => simp at h
  | coe r => exact ⟨r, rfl⟩

/-- The same of the comparison the precondition makes. -/
theorem real_of_cmp (x : Ideal .f32)
    (h : FloatOps.cmpf .olt (FloatOps.hostAbsf x) (FloatOps.ofBits (F := Ideal) .f32 0x7F800000#32) = 1#1) : ∃ r : ℝ, (x : EReal) = r := by
  refine real_of_abs_lt x ?_
  change BitVec.ofBool (decide (max (x : EReal) (-(x : EReal)) < Ideal.ofBits .f32 0x7F800000#32)) = 1#1 at h
  have hi : Ideal.ofBits .f32 0x7F800000#32 = ⊤ := by
    simp [Ideal.ofBits, Ideal.ieee]
  rw [hi] at h
  by_contra hn
  rw [decide_eq_false hn] at h
  exact absurd h (by decide)

/-- A sum of products of reals is real. -/
theorem real_sum {n : Nat} (f g : Fin n → EReal) (hf : ∀ k, ∃ r : ℝ, f k = r) (hg : ∀ k, ∃ r : ℝ, g k = r) :
    ∃ r : ℝ, ∑ k, f k * g k = r := by
  refine Finset.sum_induction _ (fun x : EReal => ∃ r : ℝ, x = r) ?_ ⟨0, EReal.coe_zero.symm⟩ fun k _ => ?_
  · rintro _ _ ⟨a, rfl⟩ ⟨b, rfl⟩
    exact ⟨a + b, (EReal.coe_add a b).symm⟩
  · obtain ⟨a, ha⟩ := hf k
    obtain ⟨b, hb⟩ := hg k
    exact ⟨a * b, by rw [ha, hb, EReal.coe_mul]⟩

end Cert.FfnDact

namespace Cert.Kernel2Ideal.RefValue

open Cert.Kernel2Ideal Cert.Kernel2Ideal.Gen Cert.FfnDact

variable (m : (ℓ : Loc nD τ sig) → Buf (Elt Ideal) ℓ)

/-- The kernel's first half at an index of its block. -/
theorem pay4_apply (a : Vec Ideal S512x1024 .bf16) (b : Vec Ideal S1408x1024 .bf16) (g u : Vec Ideal S512x1408 .bf16)
    (j : S1x512x1408.Idx) :
    k0_pay4 (F := Ideal) a b g u j
      = dGate (∑ k : Fin 1024, a (ix2 (j 1) k) * b (ix2 (j 2) k)) (g (ix2 (j 1) (j 2))) (u (ix2 (j 1) (j 2))) := by
  pointwise [k0_pay4, k0_pay3, k0_pay2, k0_pay1, dGate, sigm]
  rw [zero_sub]

/-- The kernel's second half at an index of its block. -/
theorem pay5_apply (a : Vec Ideal S512x1024 .bf16) (b : Vec Ideal S1408x1024 .bf16) (g : Vec Ideal S512x1408 .bf16)
    (j : S1x512x1408.Idx) :
    k0_pay5 (F := Ideal) a b g j
      = dUp (∑ k : Fin 1024, a (ix2 (j 1) k) * b (ix2 (j 2) k)) (g (ix2 (j 1) (j 2))) := by
  pointwise [k0_pay5, k0_pay3, k0_pay2, k0_pay1, dUp, sigm]
  rw [zero_sub]

/-- The block indices of the five windows at a point, and the point's place in the result. -/
theorem idx : ∀ t : Fin cfg0.N, win0_0.index t = ![win0_4.index t 1, 0] ∧ win0_1.index t = ![win0_4.index t 2, 0]
    ∧ win0_2.index t = ![win0_4.index t 1, win0_4.index t 2] ∧ win0_3.index t = ![win0_4.index t 1, win0_4.index t 2]
    ∧ win0_4.index t 0 = 0 :=
  (by decide +kernel : ∀ t : Fin grid0.N, _)

/-- The arrays the windows read are the arguments: a change of format is the identity. -/
theorem V0 (c : Dev nD) : V m c main_v0 = m ((c : Thread nD τ).loc main_arg0) := by
  dsimp only [V, hostOps0]
  after_results
  rfl
theorem V1 (c : Dev nD) : V m c main_v1 = m ((c : Thread nD τ).loc main_arg1) := by
  dsimp only [V, hostOps0]
  after_results
  rfl
theorem V2 (c : Dev nD) : V m c main_v2 = m ((c : Thread nD τ).loc main_arg2) := by
  dsimp only [V, hostOps0]
  after_results
  rfl
theorem V3 (c : Dev nD) : V m c main_v3 = m ((c : Thread nD τ).loc main_arg3) := by
  dsimp only [V, hostOps0]
  after_results
  rfl

theorem off0 : (![0, 0] : Fin 2 → Nat) = fun _ => 0 := by decide

/-- What the body loads of its four input blocks, where `p` is the place in the result of row `a` and column `b` of its block. -/
theorem loads (c : Dev nD) (t : Fin cfg0.N) (p : S2x8192x2816.Idx) (a : Fin 512) (b : Fin 1408)
    (hp1 : (p 1).val = win0_4.index t 1 * 512 + a.val) (hp2 : (p 2).val = win0_4.index t 2 * 1408 + b.val) :
    (∀ k : Fin 1024, View.ld (iblk m c 0 t) r0_0 (ix2 a k) = m ((c : Thread nD τ).loc main_arg0) (ix2 (p 1) k))
    ∧ (∀ k : Fin 1024, View.ld (iblk m c 1 t) r0_1 (ix2 b k) = m ((c : Thread nD τ).loc main_arg1) (ix2 (p 2) k))
    ∧ View.ld (iblk m c 2 t) r0_2 (ix2 a b) = m ((c : Thread nD τ).loc main_arg2) (ix2 (p 1) (p 2))
    ∧ View.ld (iblk m c 3 t) r0_2 (ix2 a b) = m ((c : Thread nD τ).loc main_arg3) (ix2 (p 1) (p 2)) := by
  obtain ⟨e0, e1, e2, e3, -⟩ := idx t
  have z0 : View.ld (iblk m c 0 t) r0_0 = iblk m c 0 t := View.ld_unit_zero off0 _ _
  have z1 : View.ld (iblk m c 1 t) r0_1 = iblk m c 1 t := View.ld_unit_zero off0 _ _
  have z2 : View.ld (iblk m c 2 t) r0_2 = iblk m c 2 t := View.ld_unit_zero off0 _ _
  have z3 : View.ld (iblk m c 3 t) r0_2 = iblk m c 3 t := View.ld_unit_zero off0 _ _
  refine ⟨fun k => ?_, fun k => ?_, ?_, ?_⟩
  · rw [z0]; blk_simp [iblk, V0]; congr 1; blk_ext [e0, hp1]
  · rw [z1]; blk_simp [iblk, V1]; congr 1; blk_ext [e1, hp2]
  · rw [z2]; blk_simp [iblk, V2]; congr 1; blk_ext [e2, hp1, hp2]
  · rw [z3]; blk_simp [iblk, V3]; congr 1; blk_ext [e3, hp1, hp2]

/-- The result array after the run. -/
theorem final (c : Dev nD) : (dats m 0 c).arrAt 4 cfg0.N
    = grad (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  have e4 := (idx t).2.2.2.2
  unfold out0_4
  generalize hG : grad _ _ _ _ = G
  refine View.canon_apply_of_pieces (fun y => G (((cfg0.win 4).blk t).view.emb y)) _ ?_ y (cover0_4 _ _ y)
  intro pc hpc x
  rcases List.mem_cons.mp hpc with rfl | hpc
  · refine (pay5_apply _ _ _ _).trans ?_
    show _ = G ((win0_4.blk t).view.emb (r0_4.emb x))
    generalize hp : (win0_4.blk t).view.emb (r0_4.emb x) = p
    have h0 : (p 0).val = 1 := by subst hp; idx_bounds x; blk_simp [e4]
    obtain ⟨i0, i1, i2, -⟩ := loads m c t p (x 1) (x 2) (by subst hp; blk_simp) (by subst hp; blk_simp)
    subst hG
    simp only [i0, i1, i2, grad, h0, one_ne_zero, if_false]
  · obtain rfl := List.mem_singleton.mp hpc
    refine (pay4_apply _ _ _ _ _).trans ?_
    show _ = G ((win0_4.blk t).view.emb (r0_3.emb x))
    generalize hp : (win0_4.blk t).view.emb (r0_3.emb x) = p
    have h0 : (p 0).val = 0 := by subst hp; idx_bounds x; blk_simp [e4]
    obtain ⟨i0, i1, i2, i3⟩ := loads m c t p (x 1) (x 2) (by subst hp; blk_simp) (by subst hp; blk_simp)
    subst hG
    simp only [i0, i1, i2, i3, grad, h0, if_true]

end Cert.Kernel2Ideal.RefValue

namespace Cert.Reference2Ideal.RefValue

open Cert.Reference2Ideal Cert.Reference2Ideal.Read Cert.FfnDact

/-- The reference's result at an index, when the cotangent, the weight and `up` are real. -/
theorem ref_apply (x0 : Vec Ideal S8192x1024 .f32) (x1 : Vec Ideal S2816x1024 .f32) (x2 x3 : Vec Ideal S8192x2816 .f32)
    (h0 : ∀ i, ∃ r : ℝ, x0 i = r) (h1 : ∀ i, ∃ r : ℝ, x1 i = r) (h3 : ∀ i, ∃ r : ℝ, x3 i = r) (i : S2x8192x2816.Idx) :
    val_main_v10 (F := Ideal) x0 x1 x2 x3 i = grad x0 x1 x2 x3 i := by
  pointwise [val_main_v10, val_main_v9, val_main_v8, val_main_v7, val_main_v6, val_main_call1_v1, val_main_call1_v2, val_main_call1_v0,
    val_main_v5, val_main_v4, val_main_v3, val_main_v0_0, val_main_v0_1, val_main_v0_2, val_main_call0_v0, val_main_call0_v1,
    val_main_call0_v2, val_main_call0_v3, val_main_call0_v4, val_main_call0_v6, val_main_call0_v7, val_main_call0_cst,
    val_main_call0_cst_0, val_main_call0_cst_1, grad]
  have hX := real_sum (fun k : Fin 1024 => x0 (ix2 (i 1) k)) (fun k => x1 (ix2 (i 2) k)) (fun _ => h0 _) (fun _ => h1 _)
  by_cases h : (i 0).val = 0
  · rw [dif_pos (by omega), if_pos h]
    exact dGate_eq _ _ _ hX (h3 _)
  · rw [dif_neg (by omega), if_neg h, mul_comm]
    rfl

end Cert.Reference2Ideal.RefValue

namespace Cert.Pre_finite

/-- The side conditions the precondition states. -/
instance facts : Facts where
  bcast_S_S8192x1024 := by decide
  reducesTo_S8192x1024_S_d0_1 := by decide
  h_S_ := by decide
  bcast_S_S2816x1024 := by decide
  reducesTo_S2816x1024_S_d0_1 := by decide
  bcast_S_S8192x2816 := by decide
  reducesTo_S8192x2816_S_d0_1 := by decide

theorem real_of_fn [Facts] (x0 : Vec Ideal S8192x1024 .f32) (x1 : Vec Ideal S2816x1024 .f32) (x2 x3 : Vec Ideal S8192x2816 .f32)
    (h : fn (F := Ideal) x0 x1 x2 x3 = fun _ => 1#1) :
    (∀ i, ∃ r : ℝ, x0 i = r) ∧ (∀ i, ∃ r : ℝ, x1 i = r) ∧ (∀ i, ∃ r : ℝ, x3 i = r) := by
  have h := congrFun h ix0
  dsimp only [fn] at h
  have key : ∀ a b : BitVec 1, IntOp.andi a b = 1#1 → a = 1#1 ∧ b = 1#1 := by decide
  obtain ⟨h, h3⟩ := key _ _ h
  obtain ⟨h0, h1⟩ := key _ _ h
  refine ⟨fun i => ?_, fun i => ?_, fun i => ?_⟩
  · have e := Host.reduce_andi_all _ _ _ _ _ h0 i
    exact Cert.FfnDact.real_of_cmp _ e
  · have e := Host.reduce_andi_all _ _ _ _ _ h1 i
    exact Cert.FfnDact.real_of_cmp _ e
  · have e := Host.reduce_andi_all _ _ _ _ _ h3 i
    exact Cert.FfnDact.real_of_cmp _ e

end Cert.Pre_finite

namespace Cert.FfnDact

theorem algebraic [hPre_finite : Cert.Pre_finite.Facts] : Cert.algebraic_Kernel2Ideal_Reference2Ideal_pre_finite := by
  pair_intro
  · run_from Cert.Kernel2Ideal.Value.run_blocks m g
  · run_from Cert.Reference2Ideal.Value.run m' g'
    rw [Cert.Kernel2Ideal.RefValue.final m c, Cert.Reference2Ideal.Read.val_main_v10_eq]
    obtain ⟨h0, h1, h3⟩ := Cert.Pre_finite.real_of_fn _ _ _ _ (hpre c)
    obtain ⟨-, -, -, e3⟩ := hagree c
    rw [e3]
    funext i
    exact Cert.Reference2Ideal.RefValue.ref_apply _ _ _ _ h0 h1 h3 i

end Cert.FfnDact

end
-- ==== Proof.SbFwd.lean ====
/- The stick-breaking attention's forward call and the reference agree. -/
module

public import proofs.«01_k».proof.Proof.SbValue
public import proofs.«01_k».proof.Proof.FfnDact
public import proofs.«01_k».proof.Proof.Gen.Reference24Ideal.Run

@[expose] public section

set_option maxRecDepth 16384

noncomputable section

namespace Cert.Kernel24Ideal.Sb

open Cert.Kernel24Ideal Cert.Kernel24Ideal.Gen Cert.Stick
open Idealize.ShloMosaic Idealize.ShloMosaic.TcCoe Idealize.ShloMosaic.Tactic Idealize.SL.Sem

variable (m : (ℓ : Loc nD τ sig) → Buf (Elt Ideal) ℓ)

/-- What the host makes of an argument: the heads in front. -/
def front {F : FTy → Type} [FloatOps F] (x : Vec F S8192x16x64 .f32) : Vec F S16x8192x64 .bf16 :=
  transpose S16x8192x64 [1, 0, 2] (truncf .bf16 (x : FVec F S8192x16x64 .f32) bitsLt_bf16_f32 : FVec F S8192x16x64 .bf16) transposes_S8192x16x64_S16x8192x64_1_0_2

theorem front_apply (x : Vec Ideal S8192x16x64 .f32) (h : Fin 16) (t : Fin 8192) (d : Fin 64) : (front (F := Ideal) x (ix3 h t d) : EReal) = x (ix3 t h d) := by
  pointwise [front]

/-- The arrays the windows read. -/
theorem V1 (c : Dev nD) : V m c main_v1 = front (F := Ideal) (m ((c : Thread nD τ).loc main_arg0)) := by
  dsimp only [V, hostOps0, List.flatten_cons, List.flatten_nil, List.append_nil, List.cons_append, List.nil_append]
  after_results
  rfl
theorem V3 (c : Dev nD) : V m c main_v3 = front (F := Ideal) (m ((c : Thread nD τ).loc main_arg1)) := by
  dsimp only [V, hostOps0, List.flatten_cons, List.flatten_nil, List.append_nil, List.cons_append, List.nil_append]
  after_results
  rfl
theorem V5 (c : Dev nD) : V m c main_v5 = front (F := Ideal) (m ((c : Thread nD τ).loc main_arg2)) := by
  dsimp only [V, hostOps0, List.flatten_cons, List.flatten_nil, List.append_nil, List.cons_append, List.nil_append]
  after_results
  rfl

/-- The blocks' places. -/
theorem idx : ∀ t : Fin grid0.N, win0_0.index t = ![((grid0.coords t) 0).val, ((grid0.coords t) 1).val, 0]
    ∧ win0_1.index t = ![((grid0.coords t) 0).val, 0, 0] ∧ win0_2.index t = ![((grid0.coords t) 0).val, 0, 0]
    ∧ win0_3.index t = ![((grid0.coords t) 0).val, ((grid0.coords t) 1).val, 0]
    ∧ win0_4.index t = ![((grid0.coords t) 0).val, ((grid0.coords t) 1).val, 0] := by decide +kernel

theorem block0 (c : Dev nD) (t : Fin grid0.N) (h : Fin 16) (hh : h.val = ((grid0.coords t) 0).val) (r : Fin 512) (p : Fin 8192)
    (hp : p.val = 512 * ((grid0.coords t) 1).val + r.val) (d : Fin 64) :
    (iblk m c 0 t (ix3 0 r d) : EReal) = m ((c : Thread nD τ).loc main_arg0) (ix3 p h d) := by
  obtain ⟨e, -⟩ := idx t
  refine Eq.trans ?_ (front_apply (m ((c : Thread nD τ).loc main_arg0)) h p d)
  rw [← V1 m c]
  blk_simp [iblk]
  congr 1
  blk_ext [e, hh, hp]

theorem block1 (c : Dev nD) (t : Fin grid0.N) (h : Fin 16) (hh : h.val = ((grid0.coords t) 0).val) (s : Fin 8192) (d : Fin 64) :
    (iblk m c 1 t (ix3 0 s d) : EReal) = m ((c : Thread nD τ).loc main_arg1) (ix3 s h d) := by
  obtain ⟨-, e, -⟩ := idx t
  refine Eq.trans ?_ (front_apply (m ((c : Thread nD τ).loc main_arg1)) h s d)
  rw [← V3 m c]
  blk_simp [iblk]
  congr 1
  blk_ext [e, hh]

theorem block2 (c : Dev nD) (t : Fin grid0.N) (h : Fin 16) (hh : h.val = ((grid0.coords t) 0).val) (s : Fin 8192) (d : Fin 64) :
    (iblk m c 2 t (ix3 0 s d) : EReal) = m ((c : Thread nD τ).loc main_arg2) (ix3 s h d) := by
  obtain ⟨-, -, e, -⟩ := idx t
  refine Eq.trans ?_ (front_apply (m ((c : Thread nD τ).loc main_arg2)) h s d)
  rw [← V5 m c]
  blk_simp [iblk]
  congr 1
  blk_ext [e, hh]

theorem value_eq (v : Vec Ideal ⟨3, ![8192, 16, 64]⟩ .f32) (h : Fin 16) (s : Fin 8192) (d : Fin 64) :
    value v h s.val d.val = v (ix3 s h d) := by
  unfold value; exact (dif_pos s.isLt).trans (dif_pos d.isLt)

/-- A row of the body at its place in the result. -/
theorem row_out (q k v : Vec Ideal ⟨3, ![8192, 16, 64]⟩ .f32) (i : grid0.Coords) (h : Fin 16) (r d : ℕ) (j : S16x8192x64.Idx)
    (h0 : (j 0).val = h.val) (h1 : (j 1).val = 512 * (i 1).val + r) (h2 : (j 2).val = d) :
    rowOf (logit q k h) (value v h) i r d = out q k v j := by
  obtain rfl : h = j 0 := Fin.ext h0.symm
  unfold rowOf out
  rw [← h1, ← h2]

section Finite

variable (c : Dev nD) (hq : Real (m ((c : Thread nD τ).loc main_arg0))) (hk : Real (m ((c : Thread nD τ).loc main_arg1)))

include hq hk in
theorem logits (x0 : Vec Ideal S1x512x64 .bf16) (t : Fin grid0.N) (hx : x0 = iblk m c 0 t) (h : Fin 16) (hh : h.val = ((grid0.coords t) 0).val) (r : Fin 512) (s : ℕ) (hs : s < 8192) :
    ∑ d : Fin 64, (x0 (ix3 0 r d) : EReal) * Ideal.ofBits .bf16 0x3E00#16 * value (m ((c : Thread nD τ).loc main_arg1)) h s d.val
      = (logit (m ((c : Thread nD τ).loc main_arg0)) (m ((c : Thread nD τ).loc main_arg1)) h (512 * ((grid0.coords t) 1).val + r.val) s : EReal) := by
  have hr := r.isLt
  have hi : ((grid0.coords t) 1).val < 16 := ((grid0.coords t) 1).isLt
  have hp : 512 * ((grid0.coords t) 1).val + r.val < 8192 := by omega
  rw [logit, dif_pos hp, dif_pos hs, Stick.coe_sum]
  refine Finset.sum_congr rfl fun d _ => ?_
  rw [hx, block0 m c t h hh r ⟨_, hp⟩ rfl d, value_eq _ h ⟨s, hs⟩ d, eighth', EReal.coe_mul, EReal.coe_mul, ← hq, ← hk]
  exact mul_right_comm _ _ _

include hq hk in
/-- The first result after the run, -/
theorem final3 : (data m 0 c).arrAt 3 (cfg0 (F := Ideal)).N
    = out (m ((c : Thread nD τ).loc main_arg0)) (m ((c : Thread nD τ).loc main_arg1)) (m ((c : Thread nD τ).loc main_arg2)) := by
  refine (data m 0 c).arrAt_eq_of_covers 3 _ (by decide +kernel) fun t hf y => ?_
  obtain ⟨-, -, -, e, -⟩ := idx t
  blk_simp
  rw [left3]
  have hb0 : ((grid0.coords t) 0).val < 16 := ((grid0.coords t) 0).isLt
  refine (outO_apply (logit (m ((c : Thread nD τ).loc main_arg0)) (m ((c : Thread nD τ).loc main_arg1)) ⟨_, hb0⟩)
    (value (m ((c : Thread nD τ).loc main_arg2)) ⟨_, hb0⟩) (value (m ((c : Thread nD τ).loc main_arg1)) ⟨_, hb0⟩) (grid0.coords t) _ _ _
    (fun s d => by rw [block1 m c t ⟨_, hb0⟩ rfl, value_eq]) (fun s d => by rw [block2 m c t ⟨_, hb0⟩ rfl, value_eq])
    (fun r s hs => logits m c hq hk _ t rfl ⟨_, hb0⟩ rfl r s hs) y).trans ?_
  refine row_out _ _ _ _ _ _ _ _ ?_ ?_ ?_
  · blk_simp [e]
  · blk_simp [e]; omega
  · blk_simp [e]

include hq hk in
/-- and the second. -/
theorem final4 : (data m 0 c).arrAt 4 (cfg0 (F := Ideal)).N
    = out (m ((c : Thread nD τ).loc main_arg0)) (m ((c : Thread nD τ).loc main_arg1)) (m ((c : Thread nD τ).loc main_arg2)) := by
  refine (data m 0 c).arrAt_eq_of_covers 4 _ (by decide +kernel) fun t hf y => ?_
  obtain ⟨-, -, -, -, e⟩ := idx t
  blk_simp
  rw [left4]
  have hb0 : ((grid0.coords t) 0).val < 16 := ((grid0.coords t) 0).isLt
  refine (outB_apply (logit (m ((c : Thread nD τ).loc main_arg0)) (m ((c : Thread nD τ).loc main_arg1)) ⟨_, hb0⟩)
    (value (m ((c : Thread nD τ).loc main_arg2)) ⟨_, hb0⟩) (value (m ((c : Thread nD τ).loc main_arg1)) ⟨_, hb0⟩) (grid0.coords t) _ _ _
    (fun s d => by rw [block1 m c t ⟨_, hb0⟩ rfl, value_eq]) (fun s d => by rw [block2 m c t ⟨_, hb0⟩ rfl, value_eq])
    (fun r s hs => logits m c hq hk _ t rfl ⟨_, hb0⟩ rfl r s hs) y).trans ?_
  refine row_out _ _ _ _ _ _ _ _ ?_ ?_ ?_
  · blk_simp [e]
  · blk_simp [e]; omega
  · blk_simp [e]

end Finite

/-- What the run leaves in the two results. -/
theorem run_out (ρ : Dev nD → PrngReg) (hq : ∀ c : Dev nD, Cert.Stick.Real (m ((c.tc : Thread nD τ).loc main_arg0))) (hk : ∀ c : Dev nD, Cert.Stick.Real (m ((c.tc : Thread nD τ).loc main_arg1))) :
    θ_run defs (onTc (τ := τ) (main (F := Ideal))) ⟨m, fun _ => 0, ρ⟩ (fun r => ∀ c : Dev nD,
      r.2.mem ((c.tc : Thread nD τ).loc main_v6_0) = out (m ((c : Thread nD τ).loc main_arg0)) (m ((c : Thread nD τ).loc main_arg1)) (m ((c : Thread nD τ).loc main_arg2))
      ∧ r.2.mem ((c.tc : Thread nD τ).loc main_v6_1) = out (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final3 m c (hq c) (hk c)), ((h.1 c).1 4).trans (final4 m c (hq c) (hk c)),
    ((h.1 c).2 main_arg0 (Pipeline.mem_restRefs_of main_arg0 (by decide) (arr_ne main_arg0 (by decide) (by decide) (by decide) (by decide) (by decide)))).trans (V_main_arg0 m c),
    ((h.1 c).2 main_arg1 (Pipeline.mem_restRefs_of main_arg1 (by decide) (arr_ne main_arg1 (by decide) (by decide) (by decide) (by decide) (by decide)))).trans (V_main_arg1 m c),
    ((h.1 c).2 main_arg2 (Pipeline.mem_restRefs_of main_arg2 (by decide) (arr_ne main_arg2 (by decide) (by decide) (by decide) (by decide) (by decide)))).trans (V_main_arg2 m c)⟩) (run m ρ)

end Cert.Kernel24Ideal.Sb

namespace Cert.Pre_finite_qk

open Idealize.ShloMosaic

/-- The side conditions the precondition states. -/
instance facts : Facts where
  bcast_S_S8192x16x64 := by decide
  reducesTo_S8192x16x64_S_d0_1_2 := by decide
  h_S_ := by decide

theorem real_of_fn [Facts] (x0 x1 x2 : Vec Ideal S8192x16x64 .f32) (h : fn (F := Ideal) x0 x1 x2 = fun _ => 1#1) :
    Cert.Stick.Real x0 ∧ Cert.Stick.Real x1 := by
  have h := congrFun h ix0
  dsimp only [fn] at h
  have key : ∀ a b : BitVec 1, IntOp.andi a b = 1#1 → a = 1#1 ∧ b = 1#1 := by decide
  obtain ⟨h0, h1⟩ := key _ _ h
  have real : ∀ x : EReal, (∃ r : ℝ, x = r) → x = (EReal.toReal x : EReal) := by
    rintro _ ⟨r, rfl⟩; rw [EReal.toReal_coe]
  refine ⟨fun t h d => real _ ?_, fun t h d => real _ ?_⟩
  · have e := Host.reduce_andi_all _ _ _ _ _ h0 (ix3 t h d)
    exact Cert.FfnDact.real_of_cmp _ e
  · have e := Host.reduce_andi_all _ _ _ _ _ h1 (ix3 t h d)
    exact Cert.FfnDact.real_of_cmp _ e

end Cert.Pre_finite_qk

namespace Cert.SbFwd

open Idealize.ShloMosaic Idealize.ShloMosaic.TcCoe Idealize.SL.Sem

theorem algebraic [hPre_finite_qk : Cert.Pre_finite_qk.Facts] : Cert.algebraic_Kernel24Ideal_Reference24Ideal_pre_finite_qk := by
  intro m g m' g' hpre hagree
  have hr := fun c => Cert.Pre_finite_qk.real_of_fn _ _ _ (hpre c)
  refine ⟨_, _, Cert.Kernel24Ideal.Sb.run_out m g (fun c => (hr c).1) (fun c => (hr c).2), ?_⟩
  refine (θ_run _ _ _).mono (fun r h c => ?_) (Cert.Reference24Ideal.Value.run m' g')
  obtain ⟨h17, h18, hkeep⟩ := h c
  obtain ⟨e0, e1, e2⟩ := hagree c
  refine ⟨h17.trans ?_, h18.trans ?_, hkeep⟩
  · rw [Cert.Reference24Ideal.Read.val_main_v17_eq, e0, e1, e2]
    exact Cert.Reference24Ideal.Sb.out_eq _ _ _ (hr c).1 (hr c).2
  · rw [Cert.Reference24Ideal.Read.val_main_v18_eq, e0, e1, e2]
    exact Cert.Reference24Ideal.Sb.out_eq _ _ _ (hr c).1 (hr c).2

end Cert.SbFwd
-- ==== Proof.DwOut.lean ====
/- The gradient of the down projection's weight, `act` transposed times the cotangent, at the ideal instance: the kernel adds the
   products of four blocks of 2048 rows in a scratch array, the reference is one contraction over all 8192 rows. -/
module

public import proofs.«01_k».proof.Defs
public import proofs.«01_k».proof.Proof.Gen.Kernel3Ideal.Value
public import proofs.«01_k».proof.Proof.Gen.Reference3Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.Kernel3Ideal.RefValue

open Cert.Kernel3Ideal Cert.Kernel3Ideal.Gen

variable (m : (ℓ : Loc nD τ sig) → Buf (Elt Ideal) ℓ)

/-- The product: row `i 0` of the transposed activations with column `i 1` of the cotangent. -/
def grad (x : Vec Ideal S8192x2816 .f32) (dy : Vec Ideal S8192x1024 .f32) : Vec Ideal S2816x1024 .f32 := fun i =>
  ∑ r : Fin 8192, x (ix2 r (i 0)) * dy (ix2 r (i 1))

/-- One point's product over its block of rows, added to what the scratch holds. -/
theorem pay2_apply (a : Vec Ideal S2048x1408 .bf16) (b : Vec Ideal S2048x1024 .bf16) (acc : Vec Ideal S1408x1024 .f32)
    (j : S1408x1024.Idx) :
    k0_pay2 (F := Ideal) a b acc j = acc j + ∑ k : Fin 2048, a (ix2 k (j 0)) * b (ix2 k (j 1)) := by
  pointwise [k0_pay2]

theorem pay1_apply (j : S1408x1024.Idx) : k0_pay1 (F := Ideal) j = 0 := by
  pointwise [k0_pay1]

/-- The block indices of the three windows at a point. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

theorem V0 (c : Dev nD) : V m c main_v0 = m ((c : Thread nD τ).loc main_arg0) := by
  dsimp only [V, hostOps0]
  after_results
  rfl
theorem V1 (c : Dev nD) : V m c main_v1 = m ((c : Thread nD τ).loc main_arg1) := by
  dsimp only [V, hostOps0]
  after_results
  rfl

/-- At a point that writes back, the result block is what the scratch holds. -/
theorem out_eq_scratch (c : Dev nD) (t : Fin cfg0.N) (h0 : ¬t.val % 4 = 0) (h1 : t.val % 4 = 3) :
    (outsAt0 m c t.val t.isLt).1 = (outsAt0 m c t.val t.isLt).2 := by
  rw [outsAt0_C m c t h0 h1]
  frame_out

/-- The product of two blocks. -/
def prod (a : Vec Ideal S2048x1408 .bf16) (b : Vec Ideal S2048x1024 .bf16) (j : S1408x1024.Idx) : EReal :=
  ∑ k : Fin 2048, a (ix2 k (j 0)) * b (ix2 k (j 1))

/-- The product of one point. -/
def term (c : Dev nD) (t : Fin cfg0.N) (j : S1408x1024.Idx) : EReal := prod (iblk m c 0 t) (iblk m c 1 t) j

/-- What the scratch holds at a point that writes back: the sum of its run's four products. -/
theorem scratch_eq (c : Dev nD) (t : Fin cfg0.N) (h : t.val % 4 = 3) (j : S1408x1024.Idx) :
    (outsAt0 m c t.val t.isLt).2 j
      = ∑ s : Fin 4, term m c ⟨4 * (t.val / 4) + s.val, Pipeline.run_point_lt_of_flush t h s⟩ j := by
  rw [Pipeline.eq_sum_fin_of_reset_step_apply_of_flush (fun n h => (outsAt0 m c n h).2) 4 (fun _ => 0) (term m c)
    (fun t h0 j => by
      rw [outsAt0_A m c t h0 (by omega)]
      frame_out
      rw [pay2_apply, pay1_apply]
      rfl)
    (fun t h0 j => by
      by_cases h1 : t.val % 4 = 3
      · rw [outsAt0_C m c t h0 h1]
        frame_out
        rw [pay2_apply, Memref.IsWhole.read_unread (m := Memref.whole cc0_scratch0)]
        rfl
      · rw [outsAt0_B m c t h0 h1]
        frame_out
        rw [pay2_apply, Memref.IsWhole.read_unread (m := Memref.whole cc0_scratch0)]
        rfl) t h j, zero_add]

/-- The result array after the run. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, out_eq_scratch m c t (by omega) h3, scratch_eq m c t h3]
  unfold term prod grad
  refine Fin.sum_mul_add_congr fun s k hl => ?_
  congr 1 <;> blk_ext [iblk, V0, V1, idx ⟨4 * (t.val / 4) + s.val, Pipeline.run_point_lt_of_flush t h3 s⟩, idx t]

end Cert.Kernel3Ideal.RefValue

namespace Cert.Reference3Ideal.RefValue

open Cert.Reference3Ideal Cert.Reference3Ideal.Read

/-- The reference's result at an index. -/
theorem ref_apply (x : Vec Ideal S8192x2816 .f32) (dy : Vec Ideal S8192x1024 .f32) (i : S2816x1024.Idx) :
    val_main_v3 (F := Ideal) x dy i = Cert.Kernel3Ideal.RefValue.grad x dy i := by
  pointwise [val_main_v3, val_main_v2, Cert.Kernel3Ideal.RefValue.grad]
  exact Finset.sum_congr rfl fun _ _ => mul_comm _ _

end Cert.Reference3Ideal.RefValue

namespace Cert.DwOut

theorem algebraic : Cert.algebraic_Kernel3Ideal_Reference3Ideal := by
  pair_intro
  · run_from Cert.Kernel3Ideal.Value.run_blocks m g
  · have h := Cert.Reference3Ideal.Value.run m' g'
    refine (θ_run _ _ _).mono (fun r h c => ?_) h
    obtain ⟨h1, h2, h3⟩ := h c
    refine ⟨h1.trans ?_, h2, h3⟩
    rw [Cert.Kernel3Ideal.RefValue.final m c, Cert.Reference3Ideal.Read.val_main_v3_eq]
    obtain ⟨e0, e1⟩ := hagree c
    rw [e0, e1]
    funext i
    exact Cert.Reference3Ideal.RefValue.ref_apply _ _ i

end Cert.DwOut

end
-- ==== Proof.DwIn.lean ====
/- The gradient of the gated projection's weight, the input transposed times the two halves' cotangents, at the ideal instance:
   the kernel takes the halves stacked and adds the products of four blocks of 2048 rows in a scratch array, the reference
   contracts all 8192 rows with the halves side by side. -/
module

public import proofs.«01_k».proof.Defs
public import proofs.«01_k».proof.Proof.Gen.Kernel4Ideal.Value
public import proofs.«01_k».proof.Proof.Gen.Reference4Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.Kernel4Ideal.RefValue

open Cert.Kernel4Ideal Cert.Kernel4Ideal.Gen

variable (m : (ℓ : Loc nD τ sig) → Buf (Elt Ideal) ℓ)

/-- The two halves side by side. -/
def beside (dg du : Vec Ideal S8192x2816 .f32) (r : Fin 8192) (n : Fin 5632) : EReal :=
  if h : n.val < 2816 then dg (ix2 r ⟨n.val, h⟩) else du (ix2 r ⟨n.val - 2816, by omega⟩)

/-- The product: row `i 0` of the transposed input with column `i 1` of the halves side by side. -/
def grad (x : Vec Ideal S8192x1024 .f32) (dg du : Vec Ideal S8192x2816 .f32) : Vec Ideal S1024x5632 .f32 := fun i =>
  ∑ r : Fin 8192, x (ix2 r (i 0)) * beside dg du r (i 1)

/-- One point's product over its block of rows, added to what the scratch holds. -/
theorem pay2_apply (a : Vec Ideal S2048x1024 .bf16) (b : Vec Ideal S1x2048x1408 .bf16) (acc : Vec Ideal S1024x1408 .f32)
    (j : S1024x1408.Idx) :
    k0_pay2 (F := Ideal) a b acc j = acc j + ∑ k : Fin 2048, a (ix2 k (j 0)) * b (ix3 0 k (j 1)) := by
  pointwise [k0_pay2]

theorem pay1_apply (j : S1024x1408.Idx) : k0_pay1 (F := Ideal) j = 0 := by
  pointwise [k0_pay1]

/-- The block indices of the three windows at a point. -/
theorem idx : ∀ t : Fin cfg0.N, win0_0.index t = ![t.val % 4, 0] ∧ win0_1.index t = ![t.val / 4 / 2, t.val % 4, t.val / 4 % 2]
    ∧ win0_2.index t = ![0, t.val / 4] :=
  (by decide +kernel : ∀ t : Fin grid0.N, _)

/-- The two halves stacked. -/
def stacked (dg du : Vec Ideal S8192x2816 .f32) : Vec Ideal S2x8192x2816 .bf16 :=
  truncf (F := Ideal) .bf16 (concatenate (α := Elt Ideal .f32) S2x8192x2816 0
    [⟨S1x8192x2816, broadcastInDim S1x8192x2816 ![1, 2] bcast_S8192x2816_S1x8192x2816_1_2 dg⟩,
     ⟨S1x8192x2816, broadcastInDim S1x8192x2816 ![1, 2] bcast_S8192x2816_S1x8192x2816_1_2 du⟩]
    concatenates_S1x8192x2816_S1x8192x2816_S2x8192x2816_d0 : Vec Ideal S2x8192x2816 .f32) bitsLt_bf16_f32

theorem stacked_apply (dg du : Vec Ideal S8192x2816 .f32) (a : Fin 2) (r : Fin 8192) (n : Fin 2816) :
    stacked dg du (ix3 a r n) = if a.val = 0 then dg (ix2 r n) else du (ix2 r n) := by
  pointwise [stacked]
  by_cases h : a.val = 0
  · rw [if_pos h, dif_pos (by omega)]
  · rw [if_neg h, dif_neg (by omega)]

theorem V0 (c : Dev nD) : V m c main_v4 = m ((c : Thread nD τ).loc main_arg0) := by
  dsimp only [V, hostOps0]
  after_results
  rfl
theorem V1 (c : Dev nD) : V m c main_v3
    = stacked (m ((c : Thread nD τ).loc main_arg1)) (m ((c : Thread nD τ).loc main_arg2)) := by
  dsimp only [V, hostOps0]
  after_results
  rfl

/-- At a point that writes back, the result block is what the scratch holds. -/
theorem out_eq_scratch (c : Dev nD) (t : Fin cfg0.N) (h0 : ¬t.val % 4 = 0) (h1 : t.val % 4 = 3) :
    (outsAt0 m c t.val t.isLt).1 = (outsAt0 m c t.val t.isLt).2 := by
  rw [outsAt0_C m c t h0 h1]
  frame_out

/-- The product of two blocks. -/
def prod (a : Vec Ideal S2048x1024 .bf16) (b : Vec Ideal S1x2048x1408 .bf16) (j : S1024x1408.Idx) : EReal :=
  ∑ k : Fin 2048, a (ix2 k (j 0)) * b (ix3 0 k (j 1))

/-- The product of one point. -/
def term (c : Dev nD) (t : Fin cfg0.N) (j : S1024x1408.Idx) : EReal := prod (iblk m c 0 t) (iblk m c 1 t) j

/-- What the scratch holds at a point that writes back: the sum of its run's four products. -/
theorem scratch_eq (c : Dev nD) (t : Fin cfg0.N) (h : t.val % 4 = 3) (j : S1024x1408.Idx) :
    (outsAt0 m c t.val t.isLt).2 j
      = ∑ s : Fin 4, term m c ⟨4 * (t.val / 4) + s.val, Pipeline.run_point_lt_of_flush t h s⟩ j := by
  rw [Pipeline.eq_sum_fin_of_reset_step_apply_of_flush (fun n h => (outsAt0 m c n h).2) 4 (fun _ => 0) (term m c)
    (fun t h0 j => by
      rw [outsAt0_A m c t h0 (by omega)]
      frame_out
      rw [pay2_apply, pay1_apply]
      rfl)
    (fun t h0 j => by
      by_cases h1 : t.val % 4 = 3
      · rw [outsAt0_C m c t h0 h1]
        frame_out
        rw [pay2_apply, Memref.IsWhole.read_unread (m := Memref.whole cc0_scratch0)]
        rfl
      · rw [outsAt0_B m c t h0 h1]
        frame_out
        rw [pay2_apply, Memref.IsWhole.read_unread (m := Memref.whole cc0_scratch0)]
        rfl) t h j, zero_add]

/-- The result array after the run. -/
theorem final (c : Dev nD) : (dats m 0 c).arrAt 2 cfg0.N
    = grad (m ((c : Thread nD τ).loc main_arg0)) (m ((c : Thread nD τ).loc main_arg1)) (m ((c : Thread nD τ).loc main_arg2)) := by
  refine (dats m 0 c).arrAt_eq_of_covers 2 _ (by decide +kernel) fun t hf y => ?_
  have h3 : t.val % 4 = 3 := (flush0_2 t).mp hf
  blk_simp
  rw [after0_2, out_eq_scratch m c t (by omega) h3, scratch_eq m c t h3]
  unfold term prod grad
  refine Fin.sum_mul_add_congr fun s k hl => ?_
  obtain ⟨e0, e1, -⟩ := idx ⟨4 * (t.val / 4) + s.val, Pipeline.run_point_lt_of_flush t h3 s⟩
  obtain ⟨-, -, e2⟩ := idx t
  have hs := s.isLt
  congr 1
  · blk_ext [iblk, V0, e0, e2]
  · have hN : cfg0.N = 16 := N_0
    have ht := t.isLt
    have ht' : t.val < 16 := by rw [← hN]; exact t.isLt
    have hy : (y 1).val < 1408 := (y 1).isLt
    have hi : iblk m c 1 ⟨4 * (t.val / 4) + s.val, Pipeline.run_point_lt_of_flush t h3 s⟩ (ix3 0 k (y 1))
        = stacked (m ((c : Thread nD τ).loc main_arg1)) (m ((c : Thread nD τ).loc main_arg2))
          (ix3 ⟨t.val / 4 / 2, by omega⟩ ⟨s.val * 2048 + k.val, hl⟩ ⟨t.val / 4 % 2 * 1408 + (y 1).val, by omega⟩) := by
      blk_ext [iblk, V1, e1]
    have hv : ((win0_2.blk t).view.emb y 1).val = t.val / 4 * 1408 + (y 1).val := by
      blk_simp [e2]
    rw [hi, stacked_apply]
    unfold beside
    by_cases h : t.val / 4 < 2
    · rw [if_pos (show t.val / 4 / 2 = 0 by omega), dif_pos (by omega)]
      refine congrArg (m _) (congrArg (ix2 _) (Fin.ext ?_))
      show t.val / 4 % 2 * 1408 + (y 1).val = ((win0_2.blk t).view.emb y 1).val
      omega
    · rw [if_neg (show ¬t.val / 4 / 2 = 0 by omega), dif_neg (by omega)]
      refine congrArg (m _) (congrArg (ix2 _) (Fin.ext ?_))
      show t.val / 4 % 2 * 1408 + (y 1).val = ((win0_2.blk t).view.emb y 1).val - 2816
      omega

end Cert.Kernel4Ideal.RefValue

namespace Cert.Reference4Ideal.RefValue

open Cert.Reference4Ideal Cert.Reference4Ideal.Read

/-- The reference's result at an index. -/
theorem ref_apply (x : Vec Ideal S8192x1024 .f32) (dg du : Vec Ideal S8192x2816 .f32) (i : S1024x5632.Idx) :
    val_main_v6 (F := Ideal) x dg du i = Cert.Kernel4Ideal.RefValue.grad x dg du i := by
  pointwise [val_main_v6, val_main_v5, val_main_v4, Cert.Kernel4Ideal.RefValue.grad, Cert.Kernel4Ideal.RefValue.beside]
  exact Finset.sum_congr rfl fun _ _ => mul_comm _ _

end Cert.Reference4Ideal.RefValue

namespace Cert.DwIn

theorem algebraic : Cert.algebraic_Kernel4Ideal_Reference4Ideal := by
  pair_intro
  · run_from Cert.Kernel4Ideal.Value.run_blocks m g
  · refine (θ_run _ _ _).mono (fun r h c => ?_) (Cert.Reference4Ideal.Value.run m' g')
    obtain ⟨h, h0, h1, h2⟩ := h c
    refine ⟨h.trans ?_, h0, h1, h2⟩
    rw [Cert.Kernel4Ideal.RefValue.final m c, Cert.Reference4Ideal.Read.val_main_v6_eq]
    obtain ⟨e0, e1, e2⟩ := hagree c
    rw [e0, e1, e2]
    funext i
    exact Cert.Reference4Ideal.RefValue.ref_apply _ _ _ i

end Cert.DwIn

end
-- ==== Proof.Dx.lean ====
/- The gradient of the gated projection's input, the two halves' cotangents times the transposed weight, at the ideal instance:
   the kernel takes the halves stacked and adds the products of four blocks of 1408 columns in a scratch array, the reference
   contracts all 5632 columns of the halves side by side. -/
module

public import proofs.«01_k».proof.Defs
public import proofs.«01_k».proof.Proof.Gen.Kernel5Ideal.Value
public import proofs.«01_k».proof.Proof.Gen.Reference5Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.Kernel5Ideal.RefValue

open Cert.Kernel5Ideal Cert.Kernel5Ideal.Gen

variable (m : (ℓ : Loc nD τ sig) → Buf (Elt Ideal) ℓ)

/-- The two halves side by side. -/
def beside (dg du : Vec Ideal S8192x2816 .f32) (r : Fin 8192) (n : Fin 5632) : EReal :=
  if h : n.val < 2816 then dg (ix2 r ⟨n.val, h⟩) else du (ix2 r ⟨n.val - 2816, by omega⟩)

/-- The product: row `i 0` of the halves side by side with row `i 1` of the weight. -/
def grad (w : Vec Ideal S1024x5632 .f32) (dg du : Vec Ideal S8192x2816 .f32) : Vec Ideal S8192x1024 .f32 := fun i =>
  ∑ n : Fin 5632, beside dg du (i 0) n * w (ix2 (i 1) n)

/-- One point's product over its block of rows, added to what the scratch holds. -/
theorem pay2_apply (a : Vec Ideal S1x1024x1408 .bf16) (b : Vec Ideal S1024x1408 .bf16) (acc : Vec Ideal S1024x1024 .f32)
    (j : S1024x1024.Idx) :
    k0_pay2 (F := Ideal) a b acc j = acc j + ∑ k : Fin 1408, a (ix3 0 (j 0) k) * b (ix2 (j 1) k) := by
  pointwise [k0_pay2]

theorem pay1_apply (j : S1024x1024.Idx) : k0_pay1 (F := Ideal) j = 0 := by
  pointwise [k0_pay1]

/-- The block indices of the three windows at a point. -/
theorem idx : ∀ t : Fin cfg0.N, win0_0.index t = ![t.val % 4 / 2, t.val / 4, t.val % 4 % 2] ∧ win0_1.index t = ![0, t.val % 4]
    ∧ win0_2.index t = ![t.val / 4, 0] :=
  (by decide +kernel : ∀ t : Fin grid0.N, _)

/-- The two halves stacked. -/
def stacked (dg du : Vec Ideal S8192x2816 .f32) : Vec Ideal S2x8192x2816 .bf16 :=
  truncf (F := Ideal) .bf16 (concatenate (α := Elt Ideal .f32) S2x8192x2816 0
    [⟨S1x8192x2816, broadcastInDim S1x8192x2816 ![1, 2] bcast_S8192x2816_S1x8192x2816_1_2 dg⟩,
     ⟨S1x8192x2816, broadcastInDim S1x8192x2816 ![1, 2] bcast_S8192x2816_S1x8192x2816_1_2 du⟩]
    concatenates_S1x8192x2816_S1x8192x2816_S2x8192x2816_d0 : Vec Ideal S2x8192x2816 .f32) bitsLt_bf16_f32

theorem stacked_apply (dg du : Vec Ideal S8192x2816 .f32) (a : Fin 2) (r : Fin 8192) (n : Fin 2816) :
    stacked dg du (ix3 a r n) = if a.val = 0 then dg (ix2 r n) else du (ix2 r n) := by
  pointwise [stacked]
  by_cases h : a.val = 0
  · rw [if_pos h, dif_pos (by omega)]
  · rw [if_neg h, dif_neg (by omega)]

theorem V0 (c : Dev nD) : V m c main_v4 = m ((c : Thread nD τ).loc main_arg0) := by
  dsimp only [V, hostOps0]
  after_results
  rfl
theorem V1 (c : Dev nD) : V m c main_v3
    = stacked (m ((c : Thread nD τ).loc main_arg1)) (m ((c : Thread nD τ).loc main_arg2)) := by
  dsimp only [V, hostOps0]
  after_results
  rfl

/-- At a point that writes back, the result block is what the scratch holds. -/
theorem out_eq_scratch (c : Dev nD) (t : Fin cfg0.N) (h0 : ¬t.val % 4 = 0) (h1 : t.val % 4 = 3) :
    (outsAt0 m c t.val t.isLt).1 = (outsAt0 m c t.val t.isLt).2 := by
  rw [outsAt0_C m c t h0 h1]
  frame_out

/-- The product of two blocks. -/
def prod (a : Vec Ideal S1x1024x1408 .bf16) (b : Vec Ideal S1024x1408 .bf16) (j : S1024x1024.Idx) : EReal :=
  ∑ k : Fin 1408, a (ix3 0 (j 0) k) * b (ix2 (j 1) k)

/-- The product of one point. -/
def term (c : Dev nD) (t : Fin cfg0.N) (j : S1024x1024.Idx) : EReal := prod (iblk m c 0 t) (iblk m c 1 t) j

/-- What the scratch holds at a point that writes back: the sum of its run's four products. -/
theorem scratch_eq (c : Dev nD) (t : Fin cfg0.N) (h : t.val % 4 = 3) (j : S1024x1024.Idx) :
    (outsAt0 m c t.val t.isLt).2 j
      = ∑ s : Fin 4, term m c ⟨4 * (t.val / 4) + s.val, Pipeline.run_point_lt_of_flush t h s⟩ j := by
  rw [Pipeline.eq_sum_fin_of_reset_step_apply_of_flush (fun n h => (outsAt0 m c n h).2) 4 (fun _ => 0) (term m c)
    (fun t h0 j => by
      rw [outsAt0_A m c t h0 (by omega)]
      frame_out
      rw [pay2_apply, pay1_apply]
      rfl)
    (fun t h0 j => by
      by_cases h1 : t.val % 4 = 3
      · rw [outsAt0_C m c t h0 h1]
        frame_out
        rw [pay2_apply, Memref.IsWhole.read_unread (m := Memref.whole cc0_scratch0)]
        rfl
      · rw [outsAt0_B m c t h0 h1]
        frame_out
        rw [pay2_apply, Memref.IsWhole.read_unread (m := Memref.whole cc0_scratch0)]
        rfl) t h j, zero_add]

/-- The result array after the run. -/
theorem final (c : Dev nD) : (dats m 0 c).arrAt 2 cfg0.N
    = grad (m ((c : Thread nD τ).loc main_arg0)) (m ((c : Thread nD τ).loc main_arg1)) (m ((c : Thread nD τ).loc main_arg2)) := by
  refine (dats m 0 c).arrAt_eq_of_covers 2 _ (by decide +kernel) fun t hf y => ?_
  have h3 : t.val % 4 = 3 := (flush0_2 t).mp hf
  blk_simp
  rw [after0_2, out_eq_scratch m c t (by omega) h3, scratch_eq m c t h3]
  unfold term prod grad
  refine Fin.sum_mul_add_congr fun s k hl => ?_
  obtain ⟨e0, e1, -⟩ := idx ⟨4 * (t.val / 4) + s.val, Pipeline.run_point_lt_of_flush t h3 s⟩
  obtain ⟨-, -, e2⟩ := idx t
  have hs := s.isLt
  congr 1
  · have hN : cfg0.N = 32 := N_0
    have ht' : t.val < 32 := by rw [← hN]; exact t.isLt
    have hy : (y 0).val < 1024 := (y 0).isLt
    have hi : iblk m c 0 ⟨4 * (t.val / 4) + s.val, Pipeline.run_point_lt_of_flush t h3 s⟩ (ix3 0 (y 0) k)
        = stacked (m ((c : Thread nD τ).loc main_arg1)) (m ((c : Thread nD τ).loc main_arg2))
          (ix3 ⟨s.val / 2, by omega⟩ ⟨t.val / 4 * 1024 + (y 0).val, by omega⟩ ⟨s.val % 2 * 1408 + k.val, by omega⟩) := by
      blk_ext [iblk, V1, e0]
    have hv : (win0_2.blk t).view.emb y 0 = (⟨t.val / 4 * 1024 + (y 0).val, by omega⟩ : Fin 8192) := by
      apply Fin.ext
      blk_simp [e2]
    rw [hi, stacked_apply, hv]
    unfold beside
    by_cases h : s.val < 2
    · rw [if_pos (show s.val / 2 = 0 by omega), dif_pos (by show s.val * 1408 + k.val < 2816; omega)]
      refine congrArg (m _) (congrArg (ix2 _) (Fin.ext ?_))
      show s.val % 2 * 1408 + k.val = s.val * 1408 + k.val
      omega
    · rw [if_neg (show ¬s.val / 2 = 0 by omega), dif_neg (by show ¬s.val * 1408 + k.val < 2816; omega)]
      refine congrArg (m _) (congrArg (ix2 _) (Fin.ext ?_))
      show s.val % 2 * 1408 + k.val = s.val * 1408 + k.val - 2816
      omega
  · blk_ext [iblk, V0, e1, e2]

end Cert.Kernel5Ideal.RefValue

namespace Cert.Reference5Ideal.RefValue

open Cert.Reference5Ideal Cert.Reference5Ideal.Read

/-- The reference's result at an index. -/
theorem ref_apply (w : Vec Ideal S1024x5632 .f32) (dg du : Vec Ideal S8192x2816 .f32) (i : S8192x1024.Idx) :
    val_main_v5 (F := Ideal) w dg du i = Cert.Kernel5Ideal.RefValue.grad w dg du i := by
  pointwise [val_main_v5, val_main_v4, Cert.Kernel5Ideal.RefValue.grad, Cert.Kernel5Ideal.RefValue.beside]

end Cert.Reference5Ideal.RefValue

namespace Cert.Dx

theorem algebraic : Cert.algebraic_Kernel5Ideal_Reference5Ideal := by
  pair_intro
  · run_from Cert.Kernel5Ideal.Value.run_blocks m g
  · refine (θ_run _ _ _).mono (fun r h c => ?_) (Cert.Reference5Ideal.Value.run m' g')
    obtain ⟨h, h0, h1, h2⟩ := h c
    refine ⟨h.trans ?_, h0, h1, h2⟩
    rw [Cert.Kernel5Ideal.RefValue.final m c, Cert.Reference5Ideal.Read.val_main_v5_eq]
    obtain ⟨e0, e1, e2⟩ := hagree c
    rw [e0, e1, e2]
    funext i
    exact Cert.Reference5Ideal.RefValue.ref_apply _ _ _ i

end Cert.Dx

end
-- ==== Proof.FfnIn.lean ====
/- The feed-forward layer's two up projections and their gated product: the kernel takes them in blocks of rows and columns, the
   reference is one product with the joined weight, cut in two. -/
module

public import proofs.«01_k».proof.Defs
public import proofs.«01_k».proof.Proof.Gen.Kernel6Ideal.Value
public import proofs.«01_k».proof.Proof.Gen.Reference6Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.FfnIn

/-- The logistic function as both programs compute it. -/
def sigm (g : EReal) : EReal := Ideal.div 1 (1 + Ideal.exp (-g))

/-- Row `r` of the input with column `n` of the weight's first half. -/
def gateAt (x0 : Vec Ideal ⟨2, ![8192, 1024]⟩ .f32) (x1 : Vec Ideal ⟨2, ![1024, 5632]⟩ .f32) (r : Fin 8192) (n : Fin 2816) : EReal :=
  ∑ k : Fin 1024, x0 (ix2 r k) * x1 (ix2 k ⟨n.val, by omega⟩)

/-- Row `r` of the input with column `n` of the weight's second half. -/
def upAt (x0 : Vec Ideal ⟨2, ![8192, 1024]⟩ .f32) (x1 : Vec Ideal ⟨2, ![1024, 5632]⟩ .f32) (r : Fin 8192) (n : Fin 2816) : EReal :=
  ∑ k : Fin 1024, x0 (ix2 r k) * x1 (ix2 k ⟨2816 + n.val, by omega⟩)

def gate (x0 : Vec Ideal ⟨2, ![8192, 1024]⟩ .f32) (x1 : Vec Ideal ⟨2, ![1024, 5632]⟩ .f32) :
    Vec Ideal ⟨2, ![8192, 2816]⟩ .bf16 := fun i => gateAt x0 x1 (i 0) (i 1)

def up (x0 : Vec Ideal ⟨2, ![8192, 1024]⟩ .f32) (x1 : Vec Ideal ⟨2, ![1024, 5632]⟩ .f32) :
    Vec Ideal ⟨2, ![8192, 2816]⟩ .bf16 := fun i => upAt x0 x1 (i 0) (i 1)

def act (x0 : Vec Ideal ⟨2, ![8192, 1024]⟩ .f32) (x1 : Vec Ideal ⟨2, ![1024, 5632]⟩ .f32) :
    Vec Ideal ⟨2, ![8192, 2816]⟩ .bf16 := fun i =>
  gateAt x0 x1 (i 0) (i 1) * sigm (gateAt x0 x1 (i 0) (i 1)) * upAt x0 x1 (i 0) (i 1)

end Cert.FfnIn

namespace Cert.Kernel6Ideal.RefValue

open Cert.Kernel6Ideal Cert.Kernel6Ideal.Gen Cert.FfnIn

variable (m : (ℓ : Loc nD τ sig) → Buf (Elt Ideal) ℓ)

/-- Row `r` of a block of the input with column `n` of a block of the weight. -/
def blockAt (a : Vec Ideal S512x1024 .bf16) (b : Vec Ideal S1024x1408 .bf16) (r : Fin 512) (n : Fin 1408) : EReal :=
  ∑ k : Fin 1024, a (ix2 r k) * b (ix2 k n)

theorem pay4_apply (a : Vec Ideal S512x1024 .bf16) (b : Vec Ideal S1024x1408 .bf16) (j : S512x1408.Idx) :
    k0_pay4 (F := Ideal) a b j = blockAt a b (j 0) (j 1) := by
  pointwise [k0_pay4, k0_pay2, k0_pay1, blockAt]

theorem pay5_apply (a : Vec Ideal S512x1024 .bf16) (b : Vec Ideal S1024x1408 .bf16) (j : S512x1408.Idx) :
    k0_pay5 (F := Ideal) a b j = blockAt a b (j 0) (j 1) := by
  pointwise [k0_pay5, k0_pay3, k0_pay1, blockAt]

theorem pay6_apply (a : Vec Ideal S512x1024 .bf16) (b u : Vec Ideal S1024x1408 .bf16) (j : S512x1408.Idx) :
    k0_pay6 (F := Ideal) a b u j
      = blockAt a b (j 0) (j 1) * sigm (blockAt a b (j 0) (j 1)) * blockAt a u (j 0) (j 1) := by
  pointwise [k0_pay6, k0_pay3, k0_pay2, k0_pay1, blockAt, sigm]
  rw [zero_sub]

/-- The block indices of the six windows at a point. -/
theorem idx : ∀ t : Fin cfg0.N, win0_0.index t = ![t.val / 2, 0] ∧ win0_1.index t = ![0, t.val % 2]
    ∧ win0_2.index t = ![0, t.val % 2 + 2] ∧ win0_3.index t = ![t.val / 2, t.val % 2]
    ∧ win0_4.index t = ![t.val / 2, t.val % 2] ∧ win0_5.index t = ![t.val / 2, t.val % 2] :=
  (by decide +kernel : ∀ t : Fin grid0.N, _)

theorem V0 (c : Dev nD) : V m c main_v0 = m ((c : Thread nD τ).loc main_arg0) := by
  dsimp only [V, hostOps0]
  after_results
  rfl
theorem V1 (c : Dev nD) : V m c main_v1 = m ((c : Thread nD τ).loc main_arg1) := by
  dsimp only [V, hostOps0]
  after_results
  rfl

/-- A point's products are the whole arrays' at the place of its block. -/
theorem gate_block (c : Dev nD) (t : Fin cfg0.N) (a : Fin 512) (b : Fin 1408) (p : Fin 8192) (q : Fin 2816)
    (hp : p.val = t.val / 2 * 512 + a.val) (hq : q.val = t.val % 2 * 1408 + b.val) :
    blockAt (iblk m c 0 t) (iblk m c 1 t) a b
      = gateAt (m ((c : Thread nD τ).loc main_arg0)) (m ((c : Thread nD τ).loc main_arg1)) p q := by
  obtain ⟨e0, e1, -⟩ := idx t
  unfold blockAt gateAt
  refine Finset.sum_congr rfl fun k _ => ?_
  congr 1
  · blk_simp [iblk, V0]; congr 1; blk_ext [e0, hp]
  · blk_simp [iblk, V1]; congr 1; blk_ext [e1, hq]

theorem up_block (c : Dev nD) (t : Fin cfg0.N) (a : Fin 512) (b : Fin 1408) (p : Fin 8192) (q : Fin 2816)
    (hp : p.val = t.val / 2 * 512 + a.val) (hq : q.val = t.val % 2 * 1408 + b.val) :
    blockAt (iblk m c 0 t) (iblk m c 2 t) a b
      = upAt (m ((c : Thread nD τ).loc main_arg0)) (m ((c : Thread nD τ).loc main_arg1)) p q := by
  obtain ⟨e0, -, e2, -⟩ := idx t
  unfold blockAt upAt
  refine Finset.sum_congr rfl fun k _ => ?_
  congr 1
  · blk_simp [iblk, V0]; congr 1; blk_ext [e0, hp]
  · blk_simp [iblk, V1]; congr 1; blk_ext [e2, hq]

theorem off0 : (![0, 0] : Fin 2 → Nat) = fun _ => 0 := by decide

/-- The three result arrays after the run. -/
theorem final3 (c : Dev nD) : (dats m 0 c).arrAt 3 cfg0.N
    = gate (m ((c : Thread nD τ).loc main_arg0)) (m ((c : Thread nD τ).loc main_arg1)) := by
  refine (dats m 0 c).arrAt_eq_of_covers 3 _ (by decide +kernel) fun t hf y => ?_
  obtain ⟨-, -, -, e, -⟩ := idx t
  blk_simp
  rw [after0_3]
  unfold out0_3
  frame_out
  rw [pay4_apply]
  exact gate_block m c t (y 0) (y 1) _ _ (by blk_simp [e]) (by blk_simp [e])

theorem final4 (c : Dev nD) : (dats m 0 c).arrAt 4 cfg0.N
    = up (m ((c : Thread nD τ).loc main_arg0)) (m ((c : Thread nD τ).loc main_arg1)) := by
  refine (dats m 0 c).arrAt_eq_of_covers 4 _ (by decide +kernel) fun t hf y => ?_
  obtain ⟨-, -, -, -, e, -⟩ := idx t
  blk_simp
  rw [after0_4]
  unfold out0_4
  frame_out
  rw [pay5_apply]
  exact up_block m c t (y 0) (y 1) _ _ (by blk_simp [e]) (by blk_simp [e])

theorem final5 (c : Dev nD) : (dats m 0 c).arrAt 5 cfg0.N
    = act (m ((c : Thread nD τ).loc main_arg0)) (m ((c : Thread nD τ).loc main_arg1)) := by
  refine (dats m 0 c).arrAt_eq_of_covers 5 _ (by decide +kernel) fun t hf y => ?_
  obtain ⟨-, -, -, -, -, e⟩ := idx t
  blk_simp
  rw [after0_5]
  unfold out0_5
  frame_out
  rw [pay6_apply,
    gate_block m c t (y 0) (y 1) ((((cfg0.win 5).blk t).view.emb y) 0) ((((cfg0.win 5).blk t).view.emb y) 1)
      (by blk_simp [e]) (by blk_simp [e]),
    up_block m c t (y 0) (y 1) ((((cfg0.win 5).blk t).view.emb y) 0) ((((cfg0.win 5).blk t).view.emb y) 1)
      (by blk_simp [e]) (by blk_simp [e])]
  rfl

end Cert.Kernel6Ideal.RefValue

namespace Cert.Reference6Ideal.RefValue

open Cert.Reference6Ideal Cert.Reference6Ideal.Read Cert.FfnIn

variable (x0 : Vec Ideal S8192x1024 .f32) (x1 : Vec Ideal S1024x5632 .f32)

theorem gate_apply (i : S8192x2816.Idx) : val_main_v1 (F := Ideal) x0 x1 i = gateAt x0 x1 (i 0) (i 1) := by
  pointwise [val_main_v1, val_main_v0, gateAt]

theorem up_apply (i : S8192x2816.Idx) : val_main_v2 (F := Ideal) x0 x1 i = upAt x0 x1 (i 0) (i 1) := by
  pointwise [val_main_v2, val_main_v0, upAt]

theorem act_apply (i : S8192x2816.Idx) : val_main_v7 (F := Ideal) x0 x1 i = act x0 x1 i := by
  pointwise [val_main_v7, val_main_v6, val_main_v5, val_main_call0_v5, val_main_call0_v4, val_main_call0_v3, val_main_call0_v2,
    val_main_call0_v1, val_main_call0_v0, val_main_call0_cst, val_main_call0_cst_0, act, sigm]
  simp only [gate_apply, up_apply]

end Cert.Reference6Ideal.RefValue

namespace Cert.FfnIn

theorem algebraic : Cert.algebraic_Kernel6Ideal_Reference6Ideal := by
  pair_intro
  · run_from Cert.Kernel6Ideal.Value.run_blocks m g
  · refine (θ_run _ _ _).mono (fun r h c => ?_) (Cert.Reference6Ideal.Value.run m' g')
    obtain ⟨h3, h4, h7, hk⟩ := h c
    obtain ⟨e0, e1⟩ := hagree c
    refine ⟨h3.trans ?_, h4.trans ?_, h7.trans ?_, hk⟩
    · rw [Cert.Kernel6Ideal.RefValue.final3 m c, Cert.Reference6Ideal.Read.val_main_v3_eq, e0, e1]
      exact funext fun i => Cert.Reference6Ideal.RefValue.gate_apply _ _ i
    · rw [Cert.Kernel6Ideal.RefValue.final4 m c, Cert.Reference6Ideal.Read.val_main_v4_eq, e0, e1]
      exact funext fun i => Cert.Reference6Ideal.RefValue.up_apply _ _ i
    · rw [Cert.Kernel6Ideal.RefValue.final5 m c, Cert.Reference6Ideal.Read.val_main_v7_eq, e0, e1]
      exact funext fun i => Cert.Reference6Ideal.RefValue.act_apply _ _ i

end Cert.FfnIn

end
-- ==== Proof.FfnOutLn.lean ====
/- The feed-forward layer's output: the down projection, the residual and the normalisation of each row, with the normalised rows
   and the reciprocal roots the backward pass takes. -/
module

public import proofs.«01_k».proof.Defs
public import proofs.«01_k».proof.Proof.Gen.Kernel7Ideal.Value
public import proofs.«01_k».proof.Proof.Gen.Reference7Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.FfnOutLn

/-- One row before its normalisation: the row `x` of the residual, and the row `a` through the weight `w`, both scaled. -/
def pre (a : Fin 2816 → EReal) (w : Fin 2816 → Fin 1024 → EReal) (x : Fin 1024 → EReal) (n : Fin 1024) : EReal :=
  Ideal.ofBits .f32 0x3FD744FD#32 * x n + Ideal.ofBits .f32 0x3F000000#32 * ∑ k, a k * w k n

/-- A row less its mean. -/
def cen (r : Fin 1024 → EReal) (n : Fin 1024) : EReal := r n - Ideal.div (∑ k, r k) (Ideal.ofBits .f32 0x44800000#32)

/-- The reciprocal root of a row's variance, with the small number added. -/
def rstd (r : Fin 1024 → EReal) : EReal :=
  Ideal.rsqrt (Ideal.div (∑ k, cen r k * cen r k) (Ideal.ofBits .f32 0x44800000#32) + Ideal.ofBits .f32 0x3727C5AC#32)

/-- The normalised row. -/
def xhat (r : Fin 1024 → EReal) (n : Fin 1024) : EReal := cen r n * rstd r

/-- Row `r` of the arrays before its normalisation. -/
def preAt (x0 : Vec Ideal ⟨2, ![8192, 2816]⟩ .f32) (x1 : Vec Ideal ⟨2, ![2816, 1024]⟩ .f32) (x2 : Vec Ideal ⟨2, ![8192, 1024]⟩ .f32)
    (r : Fin 8192) : Fin 1024 → EReal :=
  pre (fun k => x0 (ix2 r k)) (fun k n => x1 (ix2 k n)) (fun n => x2 (ix2 r n))

/-- The layer's output. -/
def out (x0 : Vec Ideal ⟨2, ![8192, 2816]⟩ .f32) (x1 : Vec Ideal ⟨2, ![2816, 1024]⟩ .f32) (x2 : Vec Ideal ⟨2, ![8192, 1024]⟩ .f32)
    (x3 x4 : Vec Ideal ⟨1, ![1024]⟩ .f32) : Vec Ideal ⟨2, ![8192, 1024]⟩ .f32 := fun i =>
  xhat (preAt x0 x1 x2 (i 0)) (i 1) * x3 (ix1 (i 1)) + x4 (ix1 (i 1))

/-- The output in the short format. -/
def outb (x0 : Vec Ideal ⟨2, ![8192, 2816]⟩ .f32) (x1 : Vec Ideal ⟨2, ![2816, 1024]⟩ .f32) (x2 : Vec Ideal ⟨2, ![8192, 1024]⟩ .f32)
    (x3 x4 : Vec Ideal ⟨1, ![1024]⟩ .f32) : Vec Ideal ⟨2, ![8192, 1024]⟩ .bf16 := fun i => out x0 x1 x2 x3 x4 i

/-- The normalised rows. -/
def hats (x0 : Vec Ideal ⟨2, ![8192, 2816]⟩ .f32) (x1 : Vec Ideal ⟨2, ![2816, 1024]⟩ .f32) (x2 : Vec Ideal ⟨2, ![8192, 1024]⟩ .f32) :
    Vec Ideal ⟨2, ![8192, 1024]⟩ .f32 := fun i => xhat (preAt x0 x1 x2 (i 0)) (i 1)

/-- The reciprocal roots, one for each row. -/
def rstds (x0 : Vec Ideal ⟨2, ![8192, 2816]⟩ .f32) (x1 : Vec Ideal ⟨2, ![2816, 1024]⟩ .f32) (x2 : Vec Ideal ⟨2, ![8192, 1024]⟩ .f32) :
    Vec Ideal ⟨2, ![8192, 1]⟩ .f32 := fun i => rstd (preAt x0 x1 x2 (i 0))

end Cert.FfnOutLn

namespace Cert.Kernel7Ideal.RefValue

open Cert.Kernel7Ideal Cert.Kernel7Ideal.Gen Cert.FfnOutLn

variable (m : (ℓ : Loc nD τ sig) → Buf (Elt Ideal) ℓ)

/-- Row `r` of a block before its normalisation. -/
def blockPre (a : Vec Ideal S512x2816 .bf16) (b : Vec Ideal S2816x1024 .bf16) (x : Vec Ideal S512x1024 .f32) (r : Fin 512) :
    Fin 1024 → EReal :=
  pre (fun k => a (ix2 r k)) (fun k n => b (ix2 k n)) (fun n => x (ix2 r n))

theorem pay1_apply (a : Vec Ideal S512x2816 .bf16) (b : Vec Ideal S2816x1024 .bf16) (x : Vec Ideal S512x1024 .f32)
    (j : S512x1024.Idx) : k0_pay1 (F := Ideal) a b x j = cen (blockPre a b x (j 0)) (j 1) := by
  pointwise [k0_pay1, cen, blockPre, pre]

theorem pay2_apply (a : Vec Ideal S512x2816 .bf16) (b : Vec Ideal S2816x1024 .bf16) (x : Vec Ideal S512x1024 .f32)
    (j : S512x1.Idx) : k0_pay2 (F := Ideal) a b x j = rstd (blockPre a b x (j 0)) := by
  pointwise [k0_pay2, rstd]
  simp only [pay1_apply]
  rfl

theorem pay3_apply (a : Vec Ideal S512x2816 .bf16) (b : Vec Ideal S2816x1024 .bf16) (x : Vec Ideal S512x1024 .f32)
    (j : S512x1024.Idx) : k0_pay3 (F := Ideal) a b x j = xhat (blockPre a b x (j 0)) (j 1) := by
  pointwise [k0_pay3, xhat]
  simp only [pay1_apply, pay2_apply]
  rfl

theorem pay4_apply (a : Vec Ideal S512x2816 .bf16) (b : Vec Ideal S2816x1024 .bf16) (x : Vec Ideal S512x1024 .f32)
    (g h : Vec Ideal S1x1024 .f32) (j : S512x1024.Idx) :
    k0_pay4 (F := Ideal) a b x g h j = xhat (blockPre a b x (j 0)) (j 1) * g (ix2 0 (j 1)) + h (ix2 0 (j 1)) := by
  pointwise [k0_pay4]
  simp only [pay3_apply]

theorem pay5_apply (a : Vec Ideal S512x2816 .bf16) (b : Vec Ideal S2816x1024 .bf16) (x : Vec Ideal S512x1024 .f32)
    (g h : Vec Ideal S1x1024 .f32) (j : S512x1024.Idx) :
    k0_pay5 (F := Ideal) a b x g h j = xhat (blockPre a b x (j 0)) (j 1) * g (ix2 0 (j 1)) + h (ix2 0 (j 1)) := by
  pointwise [k0_pay5]
  simp only [pay4_apply]

/-- The block indices of the nine windows at a point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

theorem V0 (c : Dev nD) : V m c main_v0 = m ((c : Thread nD τ).loc main_arg0) := by
  dsimp only [V, hostOps0]
  after_results
  rfl
theorem V1 (c : Dev nD) : V m c main_v1 = m ((c : Thread nD τ).loc main_arg1) := by
  dsimp only [V, hostOps0]
  after_results
  rfl
theorem V2 (c : Dev nD) : V m c main_arg2 = m ((c : Thread nD τ).loc main_arg2) := by
  dsimp only [V, hostOps0]
  after_results
/-- A vector laid as one row. -/
def asRow (v : Vec Ideal S1024 .f32) : Vec Ideal S1x1024 .f32 := shapeCast S1x1024 v (by decide)
theorem V3 (c : Dev nD) : V m c main_v2 = asRow (m ((c : Thread nD τ).loc main_arg3)) := by
  dsimp only [V, hostOps0]
  after_results
  rfl
theorem V4 (c : Dev nD) : V m c main_v3 = asRow (m ((c : Thread nD τ).loc main_arg4)) := by
  dsimp only [V, hostOps0]
  after_results
  rfl
theorem asRow_apply (v : Vec Ideal S1024 .f32) (i : S1x1024.Idx) : asRow v i = v (ix1 (i 1)) := by
  pointwise [asRow]

/-- The rows a point works on, where `p` is the row of the result that row `a` of its block is. -/
theorem rows (c : Dev nD) (t : Fin cfg0.N) (p : Fin 8192) (a : Fin 512) (hp : p.val = t.val * 512 + a.val) :
    blockPre (iblk m c 0 t) (iblk m c 1 t) (iblk m c 2 t) a
      = preAt (m ((c : Thread nD τ).loc main_arg0)) (m ((c : Thread nD τ).loc main_arg1)) (m ((c : Thread nD τ).loc main_arg2)) p := by
  obtain ⟨e0, e1, e2, -⟩ := idx t
  unfold blockPre preAt
  congr 1
  · funext k; blk_simp [iblk, V0]; congr 1; blk_ext [e0, hp]
  · funext k n; blk_simp [iblk, V1]; congr 1; blk_ext [e1]
  · funext n; blk_simp [iblk, V2]; congr 1; blk_ext [e2, hp]

theorem gain (c : Dev nD) (t : Fin cfg0.N) (n : Fin 1024) :
    iblk m c 3 t (ix2 (0 : Fin 1) n) = m ((c : Thread nD τ).loc main_arg3) (ix1 n) := by
  obtain ⟨-, -, -, e3, -⟩ := idx t
  have h : ∀ j : S1x1024.Idx, V m c main_v2 j = m ((c : Thread nD τ).loc main_arg3) (ix1 (j 1)) := fun j => by
    rw [V3]
    exact asRow_apply _ j
  blk_simp [iblk]
  refine (h _).trans ?_
  congr 1; blk_ext [e3]

theorem bias (c : Dev nD) (t : Fin cfg0.N) (n : Fin 1024) :
    iblk m c 4 t (ix2 (0 : Fin 1) n) = m ((c : Thread nD τ).loc main_arg4) (ix1 n) := by
  obtain ⟨-, -, -, -, e4, -⟩ := idx t
  have h : ∀ j : S1x1024.Idx, V m c main_v3 j = m ((c : Thread nD τ).loc main_arg4) (ix1 (j 1)) := fun j => by
    rw [V4]
    exact asRow_apply _ j
  blk_simp [iblk]
  refine (h _).trans ?_
  congr 1; blk_ext [e4]

/-- A point's outputs are the whole array's at the place of its block. -/
theorem out_block (c : Dev nD) (t : Fin cfg0.N) (a : Fin 512) (b : Fin 1024) (p : Fin 8192) (q : Fin 1024)
    (hp : p.val = t.val * 512 + a.val) (hq : q.val = b.val) :
    xhat (blockPre (iblk m c 0 t) (iblk m c 1 t) (iblk m c 2 t) a) b * iblk m c 3 t (ix2 (0 : Fin 1) b)
        + iblk m c 4 t (ix2 (0 : Fin 1) b)
      = out (m ((c : Thread nD τ).loc main_arg0)) (m ((c : Thread nD τ).loc main_arg1)) (m ((c : Thread nD τ).loc main_arg2))
          (m ((c : Thread nD τ).loc main_arg3)) (m ((c : Thread nD τ).loc main_arg4)) (ix2 p q) := by
  obtain rfl : q = b := Fin.ext hq
  rw [gain, bias, rows m c t p a hp]
  rfl

/-- The four result arrays after the run. -/
theorem final5 (c : Dev nD) : (dats m 0 c).arrAt 5 cfg0.N
    = out (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  obtain ⟨-, -, -, -, -, e, -⟩ := idx t
  blk_simp
  rw [after0_5]
  unfold outsAt0
  frame_out
  rw [pay4_apply]
  exact out_block m c t (y 0) (y 1) ((((cfg0.win 5).blk t).view.emb y) 0) ((((cfg0.win 5).blk t).view.emb y) 1)
    (by blk_simp [e]) (by blk_simp [e])

theorem final6 (c : Dev nD) : (dats m 0 c).arrAt 6 cfg0.N
    = outb (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  obtain ⟨-, -, -, -, -, -, e, -⟩ := idx t
  blk_simp
  rw [after0_6]
  unfold outsAt0
  frame_out
  rw [pay5_apply]
  exact out_block m c t (y 0) (y 1) ((((cfg0.win 6).blk t).view.emb y) 0) ((((cfg0.win 6).blk t).view.emb y) 1)
    (by blk_simp [e]) (by blk_simp [e])

theorem final7 (c : Dev nD) : (dats m 0 c).arrAt 7 cfg0.N
    = hats (m ((c : Thread nD τ).loc main_arg0)) (m ((c : Thread nD τ).loc main_arg1)) (m ((c : Thread nD τ).loc main_arg2)) := by
  refine (dats m 0 c).arrAt_eq_of_covers 7 _ (by decide +kernel) fun t hf y => ?_
  obtain ⟨-, -, -, -, -, -, -, e, -⟩ := idx t
  blk_simp
  rw [after0_7]
  unfold outsAt0
  frame_out
  rw [pay3_apply, rows m c t ((((cfg0.win 7).blk t).view.emb y) 0) (y 0) (by blk_simp [e])]
  have h1 : (((cfg0.win 7).blk t).view.emb y) 1 = y 1 := Fin.ext (by blk_simp [e])
  unfold hats
  rw [h1]

theorem final8 (c : Dev nD) : (dats m 0 c).arrAt 8 cfg0.N
    = rstds (m ((c : Thread nD τ).loc main_arg0)) (m ((c : Thread nD τ).loc main_arg1)) (m ((c : Thread nD τ).loc main_arg2)) := by
  refine (dats m 0 c).arrAt_eq_of_covers 8 _ (by decide +kernel) fun t hf y => ?_
  obtain ⟨-, -, -, -, -, -, -, -, e⟩ := idx t
  blk_simp
  rw [after0_8]
  unfold outsAt0
  frame_out
  rw [pay2_apply, rows m c t ((((cfg0.win 8).blk t).view.emb y) 0) (y 0) (by blk_simp [e])]
  rfl

end Cert.Kernel7Ideal.RefValue

namespace Cert.Reference7Ideal.RefValue

open Cert.Reference7Ideal Cert.Reference7Ideal.Read Cert.FfnOutLn

variable (x0 : Vec Ideal S8192x2816 .f32) (x1 : Vec Ideal S2816x1024 .f32) (x2 : Vec Ideal S8192x1024 .f32)
  (x3 x4 : Vec Ideal S1024 .f32)

/-- The reference's rows less their means. -/
theorem cen_apply (i : S8192x1024.Idx) :
    val_main_v11 (F := Ideal) x0 x1 x2 i = cen (preAt x0 x1 x2 (i 0)) (i 1) := by
  pointwise [val_main_v11, val_main_v10, val_main_v9, val_main_v8, val_main_v7, val_main_v6, val_main_v5, val_main_v4, val_main_v3, val_main_v2, val_main_v1, val_main_v0, val_main_cst, val_main_cst_1, val_main_cst_2, val_main_cst_0, cen, preAt, pre]

theorem rstd_apply (i : S8192x1.Idx) : val_main_v21 (F := Ideal) x0 x1 x2 i = rstd (preAt x0 x1 x2 (i 0)) := by
  pointwise [val_main_v21, val_main_v20, val_main_v19, val_main_v16, val_main_v15, val_main_v14, val_main_v13, val_main_v12, val_main_cst_5, val_main_cst_4, val_main_cst_3, rstd]
  simp only [cen_apply]
  rfl

theorem rstd_eq : val_main_v40 (F := Ideal) x0 x1 x2 = val_main_v21 (F := Ideal) x0 x1 x2 := rfl

theorem rstds_eq : val_main_v40 (F := Ideal) x0 x1 x2 = rstds x0 x1 x2 := by
  rw [rstd_eq]
  exact funext fun i => rstd_apply x0 x1 x2 i

theorem hat_apply (i : S8192x1024.Idx) : val_main_v23 (F := Ideal) x0 x1 x2 i = xhat (preAt x0 x1 x2 (i 0)) (i 1) := by
  have hc : val_main_v18 (F := Ideal) x0 x1 x2 = val_main_v11 (F := Ideal) x0 x1 x2 := rfl
  pointwise [val_main_v23, val_main_v22, xhat]
  simp only [hc, cen_apply, rstd_apply]
  rfl

theorem hats_eq : val_main_v37 (F := Ideal) x0 x1 x2 = hats x0 x1 x2 := by
  have h : val_main_v37 (F := Ideal) x0 x1 x2 = val_main_v23 (F := Ideal) x0 x1 x2 := rfl
  rw [h]
  exact funext fun i => hat_apply x0 x1 x2 i

theorem out_apply (i : S8192x1024.Idx) : val_main_v29 (F := Ideal) x0 x1 x2 x3 x4 i = out x0 x1 x2 x3 x4 i := by
  pointwise [val_main_v29, val_main_v28, val_main_v27, val_main_v26, val_main_v25, val_main_v24, out]
  simp only [hat_apply]

theorem out_eq : val_main_v29 (F := Ideal) x0 x1 x2 x3 x4 = out x0 x1 x2 x3 x4 :=
  funext fun i => out_apply x0 x1 x2 x3 x4 i

theorem outb_eq : val_main_v30 (F := Ideal) x0 x1 x2 x3 x4 = outb x0 x1 x2 x3 x4 :=
  funext fun i => out_apply x0 x1 x2 x3 x4 i

end Cert.Reference7Ideal.RefValue

namespace Cert.FfnOutLn

theorem algebraic : Cert.algebraic_Kernel7Ideal_Reference7Ideal := by
  pair_intro
  · run_from Cert.Kernel7Ideal.Value.run_blocks m g
  · refine (θ_run _ _ _).mono (fun r h c => ?_) (Cert.Reference7Ideal.Value.run m' g')
    obtain ⟨h5, h6, h7, h8, hk⟩ := h c
    obtain ⟨e0, e1, e2, e3, e4⟩ := hagree c
    refine ⟨h5.trans ?_, h6.trans ?_, h7.trans ?_, h8.trans ?_, hk⟩
    · rw [Cert.Kernel7Ideal.RefValue.final5 m c, Cert.Reference7Ideal.Read.val_main_v29_eq, e0, e1, e2, e3, e4]
      exact Cert.Reference7Ideal.RefValue.out_eq _ _ _ _ _
    · rw [Cert.Kernel7Ideal.RefValue.final6 m c, Cert.Reference7Ideal.Read.val_main_v30_eq, e0, e1, e2, e3, e4]
      exact Cert.Reference7Ideal.RefValue.outb_eq _ _ _ _ _
    · rw [Cert.Kernel7Ideal.RefValue.final7 m c, Cert.Reference7Ideal.Read.val_main_v37_eq, e0, e1, e2]
      exact Cert.Reference7Ideal.RefValue.hats_eq _ _ _
    · rw [Cert.Kernel7Ideal.RefValue.final8 m c, Cert.Reference7Ideal.Read.val_main_v40_eq, e0, e1, e2]
      exact Cert.Reference7Ideal.RefValue.rstds_eq _ _ _

end Cert.FfnOutLn

end
-- ==== Proof.ProjLn.lean ====
/- A mixer's output projection, the residual and the normalisation of each row, with the normalised rows and the reciprocal roots
   the backward pass takes. -/
module

public import proofs.«01_k».proof.Defs
public import proofs.«01_k».proof.Proof.Gen.Kernel8Ideal.Value
public import proofs.«01_k».proof.Proof.Gen.Reference8Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.ProjLn

/-- One row before its normalisation: the row `x` of the residual, and the row `a` through the weight `w`, both scaled. -/
def pre (a : Fin 1024 → EReal) (w : Fin 1024 → Fin 1024 → EReal) (x : Fin 1024 → EReal) (n : Fin 1024) : EReal :=
  Ideal.ofBits .f32 0x3FD744FD#32 * x n + ∑ k, a k * w k n

/-- A row less its mean. -/
def cen (r : Fin 1024 → EReal) (n : Fin 1024) : EReal := r n - Ideal.div (∑ k, r k) (Ideal.ofBits .f32 0x44800000#32)

/-- The reciprocal root of a row's variance, with the small number added. -/
def rstd (r : Fin 1024 → EReal) : EReal :=
  Ideal.rsqrt (Ideal.div (∑ k, cen r k * cen r k) (Ideal.ofBits .f32 0x44800000#32) + Ideal.ofBits .f32 0x3727C5AC#32)

/-- The normalised row. -/
def xhat (r : Fin 1024 → EReal) (n : Fin 1024) : EReal := cen r n * rstd r

/-- Row `r` of the arrays before its normalisation. -/
def preAt (x0 : Vec Ideal ⟨2, ![8192, 1024]⟩ .f32) (x1 : Vec Ideal ⟨2, ![1024, 1024]⟩ .f32) (x2 : Vec Ideal ⟨2, ![8192, 1024]⟩ .f32)
    (r : Fin 8192) : Fin 1024 → EReal :=
  pre (fun k => x0 (ix2 r k)) (fun k n => x1 (ix2 k n)) (fun n => x2 (ix2 r n))

/-- The layer's output. -/
def out (x0 : Vec Ideal ⟨2, ![8192, 1024]⟩ .f32) (x1 : Vec Ideal ⟨2, ![1024, 1024]⟩ .f32) (x2 : Vec Ideal ⟨2, ![8192, 1024]⟩ .f32)
    (x3 x4 : Vec Ideal ⟨1, ![1024]⟩ .f32) : Vec Ideal ⟨2, ![8192, 1024]⟩ .f32 := fun i =>
  xhat (preAt x0 x1 x2 (i 0)) (i 1) * x3 (ix1 (i 1)) + x4 (ix1 (i 1))

/-- The output in the short format. -/
def outb (x0 : Vec Ideal ⟨2, ![8192, 1024]⟩ .f32) (x1 : Vec Ideal ⟨2, ![1024, 1024]⟩ .f32) (x2 : Vec Ideal ⟨2, ![8192, 1024]⟩ .f32)
    (x3 x4 : Vec Ideal ⟨1, ![1024]⟩ .f32) : Vec Ideal ⟨2, ![8192, 1024]⟩ .bf16 := fun i => out x0 x1 x2 x3 x4 i

/-- The normalised rows. -/
def hats (x0 : Vec Ideal ⟨2, ![8192, 1024]⟩ .f32) (x1 : Vec Ideal ⟨2, ![1024, 1024]⟩ .f32) (x2 : Vec Ideal ⟨2, ![8192, 1024]⟩ .f32) :
    Vec Ideal ⟨2, ![8192, 1024]⟩ .f32 := fun i => xhat (preAt x0 x1 x2 (i 0)) (i 1)

/-- The reciprocal roots, one for each row. -/
def rstds (x0 : Vec Ideal ⟨2, ![8192, 1024]⟩ .f32) (x1 : Vec Ideal ⟨2, ![1024, 1024]⟩ .f32) (x2 : Vec Ideal ⟨2, ![8192, 1024]⟩ .f32) :
    Vec Ideal ⟨2, ![8192, 1]⟩ .f32 := fun i => rstd (preAt x0 x1 x2 (i 0))

end Cert.ProjLn

namespace Cert.Kernel8Ideal.RefValue

open Cert.Kernel8Ideal Cert.Kernel8Ideal.Gen Cert.ProjLn

variable (m : (ℓ : Loc nD τ sig) → Buf (Elt Ideal) ℓ)

/-- Row `r` of a block before its normalisation. -/
def blockPre (a : Vec Ideal S512x1024 .bf16) (b : Vec Ideal S1024x1024 .bf16) (x : Vec Ideal S512x1024 .f32) (r : Fin 512) :
    Fin 1024 → EReal :=
  pre (fun k => a (ix2 r k)) (fun k n => b (ix2 k n)) (fun n => x (ix2 r n))

theorem pay1_apply (a : Vec Ideal S512x1024 .bf16) (b : Vec Ideal S1024x1024 .bf16) (x : Vec Ideal S512x1024 .f32)
    (j : S512x1024.Idx) : k0_pay1 (F := Ideal) a b x j = cen (blockPre a b x (j 0)) (j 1) := by
  pointwise [k0_pay1, cen, blockPre, pre]

theorem pay2_apply (a : Vec Ideal S512x1024 .bf16) (b : Vec Ideal S1024x1024 .bf16) (x : Vec Ideal S512x1024 .f32)
    (j : S512x1.Idx) : k0_pay2 (F := Ideal) a b x j = rstd (blockPre a b x (j 0)) := by
  pointwise [k0_pay2, rstd]
  simp only [pay1_apply]
  rfl

theorem pay3_apply (a : Vec Ideal S512x1024 .bf16) (b : Vec Ideal S1024x1024 .bf16) (x : Vec Ideal S512x1024 .f32)
    (j : S512x1024.Idx) : k0_pay3 (F := Ideal) a b x j = xhat (blockPre a b x (j 0)) (j 1) := by
  pointwise [k0_pay3, xhat]
  simp only [pay1_apply, pay2_apply]
  rfl

theorem pay4_apply (a : Vec Ideal S512x1024 .bf16) (b : Vec Ideal S1024x1024 .bf16) (x : Vec Ideal S512x1024 .f32)
    (g h : Vec Ideal S1x1024 .f32) (j : S512x1024.Idx) :
    k0_pay4 (F := Ideal) a b x g h j = xhat (blockPre a b x (j 0)) (j 1) * g (ix2 0 (j 1)) + h (ix2 0 (j 1)) := by
  pointwise [k0_pay4]
  simp only [pay3_apply]

theorem pay5_apply (a : Vec Ideal S512x1024 .bf16) (b : Vec Ideal S1024x1024 .bf16) (x : Vec Ideal S512x1024 .f32)
    (g h : Vec Ideal S1x1024 .f32) (j : S512x1024.Idx) :
    k0_pay5 (F := Ideal) a b x g h j = xhat (blockPre a b x (j 0)) (j 1) * g (ix2 0 (j 1)) + h (ix2 0 (j 1)) := by
  pointwise [k0_pay5]
  simp only [pay4_apply]

/-- The block indices of the nine windows at a point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

theorem V0 (c : Dev nD) : V m c main_v0 = m ((c : Thread nD τ).loc main_arg0) := by
  dsimp only [V, hostOps0]
  after_results
  rfl
theorem V1 (c : Dev nD) : V m c main_v1 = m ((c : Thread nD τ).loc main_arg1) := by
  dsimp only [V, hostOps0]
  after_results
  rfl
theorem V2 (c : Dev nD) : V m c main_arg2 = m ((c : Thread nD τ).loc main_arg2) := by
  dsimp only [V, hostOps0]
  after_results
/-- A vector laid as one row. -/
def asRow (v : Vec Ideal S1024 .f32) : Vec Ideal S1x1024 .f32 := shapeCast S1x1024 v (by decide)
theorem V3 (c : Dev nD) : V m c main_v2 = asRow (m ((c : Thread nD τ).loc main_arg3)) := by
  dsimp only [V, hostOps0]
  after_results
  rfl
theorem V4 (c : Dev nD) : V m c main_v3 = asRow (m ((c : Thread nD τ).loc main_arg4)) := by
  dsimp only [V, hostOps0]
  after_results
  rfl
theorem asRow_apply (v : Vec Ideal S1024 .f32) (i : S1x1024.Idx) : asRow v i = v (ix1 (i 1)) := by
  pointwise [asRow]

/-- The rows a point works on, where `p` is the row of the result that row `a` of its block is. -/
theorem rows (c : Dev nD) (t : Fin cfg0.N) (p : Fin 8192) (a : Fin 512) (hp : p.val = t.val * 512 + a.val) :
    blockPre (iblk m c 0 t) (iblk m c 1 t) (iblk m c 2 t) a
      = preAt (m ((c : Thread nD τ).loc main_arg0)) (m ((c : Thread nD τ).loc main_arg1)) (m ((c : Thread nD τ).loc main_arg2)) p := by
  obtain ⟨e0, e1, e2, -⟩ := idx t
  unfold blockPre preAt
  congr 1
  · funext k; blk_simp [iblk, V0]; congr 1; blk_ext [e0, hp]
  · funext k n; blk_simp [iblk, V1]; congr 1; blk_ext [e1]
  · funext n; blk_simp [iblk, V2]; congr 1; blk_ext [e2, hp]

theorem gain (c : Dev nD) (t : Fin cfg0.N) (n : Fin 1024) :
    iblk m c 3 t (ix2 (0 : Fin 1) n) = m ((c : Thread nD τ).loc main_arg3) (ix1 n) := by
  obtain ⟨-, -, -, e3, -⟩ := idx t
  have h : ∀ j : S1x1024.Idx, V m c main_v2 j = m ((c : Thread nD τ).loc main_arg3) (ix1 (j 1)) := fun j => by
    rw [V3]
    exact asRow_apply _ j
  blk_simp [iblk]
  refine (h _).trans ?_
  congr 1; blk_ext [e3]

theorem bias (c : Dev nD) (t : Fin cfg0.N) (n : Fin 1024) :
    iblk m c 4 t (ix2 (0 : Fin 1) n) = m ((c : Thread nD τ).loc main_arg4) (ix1 n) := by
  obtain ⟨-, -, -, -, e4, -⟩ := idx t
  have h : ∀ j : S1x1024.Idx, V m c main_v3 j = m ((c : Thread nD τ).loc main_arg4) (ix1 (j 1)) := fun j => by
    rw [V4]
    exact asRow_apply _ j
  blk_simp [iblk]
  refine (h _).trans ?_
  congr 1; blk_ext [e4]

/-- A point's outputs are the whole array's at the place of its block. -/
theorem out_block (c : Dev nD) (t : Fin cfg0.N) (a : Fin 512) (b : Fin 1024) (p : Fin 8192) (q : Fin 1024)
    (hp : p.val = t.val * 512 + a.val) (hq : q.val = b.val) :
    xhat (blockPre (iblk m c 0 t) (iblk m c 1 t) (iblk m c 2 t) a) b * iblk m c 3 t (ix2 (0 : Fin 1) b)
        + iblk m c 4 t (ix2 (0 : Fin 1) b)
      = out (m ((c : Thread nD τ).loc main_arg0)) (m ((c : Thread nD τ).loc main_arg1)) (m ((c : Thread nD τ).loc main_arg2))
          (m ((c : Thread nD τ).loc main_arg3)) (m ((c : Thread nD τ).loc main_arg4)) (ix2 p q) := by
  obtain rfl : q = b := Fin.ext hq
  rw [gain, bias, rows m c t p a hp]
  rfl

/-- The four result arrays after the run. -/
theorem final5 (c : Dev nD) : (dats m 0 c).arrAt 5 cfg0.N
    = out (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  obtain ⟨-, -, -, -, -, e, -⟩ := idx t
  blk_simp
  rw [after0_5]
  unfold outsAt0
  frame_out
  rw [pay4_apply]
  exact out_block m c t (y 0) (y 1) ((((cfg0.win 5).blk t).view.emb y) 0) ((((cfg0.win 5).blk t).view.emb y) 1)
    (by blk_simp [e]) (by blk_simp [e])

theorem final6 (c : Dev nD) : (dats m 0 c).arrAt 6 cfg0.N
    = outb (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  obtain ⟨-, -, -, -, -, -, e, -⟩ := idx t
  blk_simp
  rw [after0_6]
  unfold outsAt0
  frame_out
  rw [pay5_apply]
  exact out_block m c t (y 0) (y 1) ((((cfg0.win 6).blk t).view.emb y) 0) ((((cfg0.win 6).blk t).view.emb y) 1)
    (by blk_simp [e]) (by blk_simp [e])

theorem final7 (c : Dev nD) : (dats m 0 c).arrAt 7 cfg0.N
    = hats (m ((c : Thread nD τ).loc main_arg0)) (m ((c : Thread nD τ).loc main_arg1)) (m ((c : Thread nD τ).loc main_arg2)) := by
  refine (dats m 0 c).arrAt_eq_of_covers 7 _ (by decide +kernel) fun t hf y => ?_
  obtain ⟨-, -, -, -, -, -, -, e, -⟩ := idx t
  blk_simp
  rw [after0_7]
  unfold outsAt0
  frame_out
  rw [pay3_apply, rows m c t ((((cfg0.win 7).blk t).view.emb y) 0) (y 0) (by blk_simp [e])]
  have h1 : (((cfg0.win 7).blk t).view.emb y) 1 = y 1 := Fin.ext (by blk_simp [e])
  unfold hats
  rw [h1]

theorem final8 (c : Dev nD) : (dats m 0 c).arrAt 8 cfg0.N
    = rstds (m ((c : Thread nD τ).loc main_arg0)) (m ((c : Thread nD τ).loc main_arg1)) (m ((c : Thread nD τ).loc main_arg2)) := by
  refine (dats m 0 c).arrAt_eq_of_covers 8 _ (by decide +kernel) fun t hf y => ?_
  obtain ⟨-, -, -, -, -, -, -, -, e⟩ := idx t
  blk_simp
  rw [after0_8]
  unfold outsAt0
  frame_out
  rw [pay2_apply, rows m c t ((((cfg0.win 8).blk t).view.emb y) 0) (y 0) (by blk_simp [e])]
  rfl

end Cert.Kernel8Ideal.RefValue

namespace Cert.Reference8Ideal.RefValue

open Cert.Reference8Ideal Cert.Reference8Ideal.Read Cert.ProjLn

variable (x0 : Vec Ideal S8192x1024 .f32) (x1 : Vec Ideal S1024x1024 .f32) (x2 : Vec Ideal S8192x1024 .f32)
  (x3 x4 : Vec Ideal S1024 .f32)

/-- The reference's rows less their means. -/
theorem cen_apply (i : S8192x1024.Idx) :
    val_main_v9 (F := Ideal) x0 x1 x2 i = cen (preAt x0 x1 x2 (i 0)) (i 1) := by
  pointwise [val_main_v9, val_main_v8, val_main_v7, val_main_v6, val_main_v5, val_main_v4, val_main_v3, val_main_v2, val_main_v1, val_main_v0, val_main_cst, val_main_cst_0, val_main_cst_1, cen, preAt, pre]

theorem rstd_apply (i : S8192x1.Idx) : val_main_v19 (F := Ideal) x0 x1 x2 i = rstd (preAt x0 x1 x2 (i 0)) := by
  pointwise [val_main_v19, val_main_v18, val_main_v17, val_main_v14, val_main_v13, val_main_v12, val_main_v11, val_main_v10, val_main_cst_4, val_main_cst_3, val_main_cst_2, rstd]
  simp only [cen_apply]
  rfl

theorem rstd_eq : val_main_v38 (F := Ideal) x0 x1 x2 = val_main_v19 (F := Ideal) x0 x1 x2 := rfl

theorem rstds_eq : val_main_v38 (F := Ideal) x0 x1 x2 = rstds x0 x1 x2 := by
  rw [rstd_eq]
  exact funext fun i => rstd_apply x0 x1 x2 i

theorem hat_apply (i : S8192x1024.Idx) : val_main_v21 (F := Ideal) x0 x1 x2 i = xhat (preAt x0 x1 x2 (i 0)) (i 1) := by
  have hc : val_main_v16 (F := Ideal) x0 x1 x2 = val_main_v9 (F := Ideal) x0 x1 x2 := rfl
  pointwise [val_main_v21, val_main_v20, xhat]
  simp only [hc, cen_apply, rstd_apply]
  rfl

theorem hats_eq : val_main_v35 (F := Ideal) x0 x1 x2 = hats x0 x1 x2 := by
  have h : val_main_v35 (F := Ideal) x0 x1 x2 = val_main_v21 (F := Ideal) x0 x1 x2 := rfl
  rw [h]
  exact funext fun i => hat_apply x0 x1 x2 i

theorem out_apply (i : S8192x1024.Idx) : val_main_v27 (F := Ideal) x0 x1 x2 x3 x4 i = out x0 x1 x2 x3 x4 i := by
  pointwise [val_main_v27, val_main_v26, val_main_v25, val_main_v24, val_main_v23, val_main_v22, out]
  simp only [hat_apply]

theorem out_eq : val_main_v27 (F := Ideal) x0 x1 x2 x3 x4 = out x0 x1 x2 x3 x4 :=
  funext fun i => out_apply x0 x1 x2 x3 x4 i

theorem outb_eq : val_main_v28 (F := Ideal) x0 x1 x2 x3 x4 = outb x0 x1 x2 x3 x4 :=
  funext fun i => out_apply x0 x1 x2 x3 x4 i

end Cert.Reference8Ideal.RefValue

namespace Cert.ProjLn

theorem algebraic : Cert.algebraic_Kernel8Ideal_Reference8Ideal := by
  pair_intro
  · run_from Cert.Kernel8Ideal.Value.run_blocks m g
  · refine (θ_run _ _ _).mono (fun r h c => ?_) (Cert.Reference8Ideal.Value.run m' g')
    obtain ⟨h5, h6, h7, h8, hk⟩ := h c
    obtain ⟨e0, e1, e2, e3, e4⟩ := hagree c
    refine ⟨h5.trans ?_, h6.trans ?_, h7.trans ?_, h8.trans ?_, hk⟩
    · rw [Cert.Kernel8Ideal.RefValue.final5 m c, Cert.Reference8Ideal.Read.val_main_v27_eq, e0, e1, e2, e3, e4]
      exact Cert.Reference8Ideal.RefValue.out_eq _ _ _ _ _
    · rw [Cert.Kernel8Ideal.RefValue.final6 m c, Cert.Reference8Ideal.Read.val_main_v28_eq, e0, e1, e2, e3, e4]
      exact Cert.Reference8Ideal.RefValue.outb_eq _ _ _ _ _
    · rw [Cert.Kernel8Ideal.RefValue.final7 m c, Cert.Reference8Ideal.Read.val_main_v35_eq, e0, e1, e2]
      exact Cert.Reference8Ideal.RefValue.hats_eq _ _ _
    · rw [Cert.Kernel8Ideal.RefValue.final8 m c, Cert.Reference8Ideal.Read.val_main_v38_eq, e0, e1, e2]
      exact Cert.Reference8Ideal.RefValue.rstds_eq _ _ _

end Cert.ProjLn

end
-- ==== Proof.DilDwIn.lean ====
/- The gradient of the weight of the dilated mixer's input projection: the kernel adds the products of four blocks of
   2048 rows, the reference is one contraction. -/
module

public import proofs.«01_k».proof.Defs
public import proofs.«01_k».proof.Proof.Gen.Kernel9Ideal.Value
public import proofs.«01_k».proof.Proof.Gen.Reference9Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.Kernel9Ideal.RefValue

open Cert.Kernel9Ideal Cert.Kernel9Ideal.Gen

variable (m : (ℓ : Loc nD τ sig) → Buf (Elt Ideal) ℓ)

/-- Row `i 0` of the transposed input with column `i 1` of the cotangent. -/
def grad (x0 : Vec Ideal S8192x1024 .f32) (x1 : Vec Ideal S8192x9216 .f32) : Vec Ideal S1024x9216 .f32 := fun i =>
  ∑ r : Fin 8192, x0 (ix2 r (i 0)) * x1 (ix2 r (i 1))

/-- One point's product of two blocks, added to what the scratch holds. -/
theorem pay2_apply (a : Vec Ideal S2048x1024 .bf16) (b : Vec Ideal S2048x1152 .bf16) (acc : Vec Ideal S1024x1152 .f32)
    (j : S1024x1152.Idx) :
    k0_pay2 (F := Ideal) a b acc j = acc j + ∑ k : Fin 2048, a (ix2 k (j 0)) * b (ix2 k (j 1)) := by
  pointwise [k0_pay2]

theorem pay1_apply (j : S1024x1152.Idx) : k0_pay1 (F := Ideal) j = 0 := by
  pointwise [k0_pay1]

/-- The block indices of the three windows at a point. -/
theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

theorem V0 (c : Dev nD) : V m c main_v0 = m ((c : Thread nD τ).loc main_arg0) := by
  dsimp only [V, hostOps0]
  after_results
  rfl
theorem V1 (c : Dev nD) : V m c main_v1 = m ((c : Thread nD τ).loc main_arg1) := by
  dsimp only [V, hostOps0]
  after_results
  rfl

/-- At a point that writes back, the result block is what the scratch holds. -/
theorem out_eq_scratch (c : Dev nD) (t : Fin cfg0.N) (h0 : ¬t.val % 4 = 0) (h1 : t.val % 4 = 3) :
    (outsAt0 m c t.val t.isLt).1 = (outsAt0 m c t.val t.isLt).2 := by
  rw [outsAt0_C m c t h0 h1]
  frame_out

/-- The product of two blocks. -/
def prod (a : Vec Ideal S2048x1024 .bf16) (b : Vec Ideal S2048x1152 .bf16) (j : S1024x1152.Idx) : EReal :=
  ∑ k : Fin 2048, a (ix2 k (j 0)) * b (ix2 k (j 1))

/-- The product of one point. -/
def term (c : Dev nD) (t : Fin cfg0.N) (j : S1024x1152.Idx) : EReal := prod (iblk m c 0 t) (iblk m c 1 t) j

/-- What the scratch holds at a point that writes back: the sum of its run's 4 products. -/
theorem scratch_eq (c : Dev nD) (t : Fin cfg0.N) (h : t.val % 4 = 3) (j : S1024x1152.Idx) :
    (outsAt0 m c t.val t.isLt).2 j
      = ∑ s : Fin 4, term m c ⟨4 * (t.val / 4) + s.val, Pipeline.run_point_lt_of_flush t h s⟩ j := by
  rw [Pipeline.eq_sum_fin_of_reset_step_apply_of_flush (fun n h => (outsAt0 m c n h).2) 4 (fun _ => 0) (term m c)
    (fun t h0 j => by
      rw [outsAt0_A m c t h0 (by omega)]
      frame_out
      rw [pay2_apply, pay1_apply]
      rfl)
    (fun t h0 j => by
      by_cases h1 : t.val % 4 = 3
      · rw [outsAt0_C m c t h0 h1]
        frame_out
        rw [pay2_apply, Memref.IsWhole.read_unread (m := Memref.whole cc0_scratch0)]
        rfl
      · rw [outsAt0_B m c t h0 h1]
        frame_out
        rw [pay2_apply, Memref.IsWhole.read_unread (m := Memref.whole cc0_scratch0)]
        rfl) t h j, zero_add]

/-- The result array after the run. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, out_eq_scratch m c t (by omega) h3, scratch_eq m c t h3]
  unfold term prod grad
  refine Fin.sum_mul_add_congr fun s k hl => ?_
  congr 1 <;> blk_ext [iblk, V0, V1, idx ⟨4 * (t.val / 4) + s.val, Pipeline.run_point_lt_of_flush t h3 s⟩, idx t]

end Cert.Kernel9Ideal.RefValue

namespace Cert.Reference9Ideal.RefValue

open Cert.Reference9Ideal Cert.Reference9Ideal.Read

/-- The reference's result at an index. -/
theorem ref_apply (x0 : Vec Ideal S8192x1024 .f32) (x1 : Vec Ideal S8192x9216 .f32) (i : S1024x9216.Idx) :
    val_main_v3 (F := Ideal) x0 x1 i = Cert.Kernel9Ideal.RefValue.grad x0 x1 i := by
  pointwise [val_main_v3, val_main_v2, Cert.Kernel9Ideal.RefValue.grad]
  exact Finset.sum_congr rfl fun _ _ => mul_comm _ _

end Cert.Reference9Ideal.RefValue

namespace Cert.DilDwIn

theorem algebraic : Cert.algebraic_Kernel9Ideal_Reference9Ideal := by
  pair_intro
  · run_from Cert.Kernel9Ideal.Value.run_blocks m g
  · refine (θ_run _ _ _).mono (fun r h c => ?_) (Cert.Reference9Ideal.Value.run m' g')
    obtain ⟨h, h0, h1⟩ := h c
    refine ⟨h.trans ?_, h0, h1⟩
    rw [Cert.Kernel9Ideal.RefValue.final m c, Cert.Reference9Ideal.Read.val_main_v3_eq]
    obtain ⟨e0, e1⟩ := hagree c
    rw [e0, e1]
    funext i
    exact Cert.Reference9Ideal.RefValue.ref_apply _ _ i

end Cert.DilDwIn

end
-- ==== Proof.DilDx.lean ====
/- The gradient of the input of the dilated mixer's input projection: the kernel adds the products of 6 blocks of
   1536 columns,
   the reference is one contraction. -/
module

public import proofs.«01_k».proof.Defs
public import proofs.«01_k».proof.Proof.Gen.Kernel10Ideal.Value
public import proofs.«01_k».proof.Proof.Gen.Reference10Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.Kernel10Ideal.RefValue

open Cert.Kernel10Ideal Cert.Kernel10Ideal.Gen

variable (m : (ℓ : Loc nD τ sig) → Buf (Elt Ideal) ℓ)

/-- Row `i 0` of the cotangent with row `i 1` of the weight. -/
def grad (x0 : Vec Ideal S1024x9216 .f32) (x1 : Vec Ideal S8192x9216 .f32) : Vec Ideal S8192x1024 .f32 := fun i =>
  ∑ r : Fin 9216, x1 (ix2 (i 0) r) * x0 (ix2 (i 1) r)

/-- One point's product of two blocks, added to what the scratch holds. -/
theorem pay2_apply (a : Vec Ideal S1024x1536 .bf16) (b : Vec Ideal S1024x1536 .bf16) (acc : Vec Ideal S1024x1024 .f32)
    (j : S1024x1024.Idx) :
    k0_pay2 (F := Ideal) a b acc j = acc j + ∑ k : Fin 1536, a (ix2 (j 0) k) * b (ix2 (j 1) k) := by
  pointwise [k0_pay2]

theorem pay1_apply (j : S1024x1024.Idx) : k0_pay1 (F := Ideal) j = 0 := by
  pointwise [k0_pay1]

/-- The block indices of the three windows at a point. -/
theorem idx : ∀ t : Fin cfg0.N, win0_0.index t = ![t.val / 6, t.val % 6] ∧ win0_1.index t = ![0, t.val % 6]
    ∧ win0_2.index t = ![t.val / 6, 0] :=
  (by decide +kernel : ∀ t : Fin grid0.N, _)

theorem V0 (c : Dev nD) : V m c main_v0 = m ((c : Thread nD τ).loc main_arg1) := by
  dsimp only [V, hostOps0]
  after_results
  rfl
theorem V1 (c : Dev nD) : V m c main_v1 = m ((c : Thread nD τ).loc main_arg0) := by
  dsimp only [V, hostOps0]
  after_results
  rfl

/-- At a point that writes back, the result block is what the scratch holds. -/
theorem out_eq_scratch (c : Dev nD) (t : Fin cfg0.N) (h0 : ¬t.val % 6 = 0) (h1 : t.val % 6 = 5) :
    (outsAt0 m c t.val t.isLt).1 = (outsAt0 m c t.val t.isLt).2 := by
  rw [outsAt0_C m c t h0 h1]
  frame_out

/-- The product of two blocks. -/
def prod (a : Vec Ideal S1024x1536 .bf16) (b : Vec Ideal S1024x1536 .bf16) (j : S1024x1024.Idx) : EReal :=
  ∑ k : Fin 1536, a (ix2 (j 0) k) * b (ix2 (j 1) k)

/-- The product of one point. -/
def term (c : Dev nD) (t : Fin cfg0.N) (j : S1024x1024.Idx) : EReal := prod (iblk m c 0 t) (iblk m c 1 t) j

/-- What the scratch holds at a point that writes back: the sum of its run's 6 products. -/
theorem scratch_eq (c : Dev nD) (t : Fin cfg0.N) (h : t.val % 6 = 5) (j : S1024x1024.Idx) :
    (outsAt0 m c t.val t.isLt).2 j
      = ∑ s : Fin 6, term m c ⟨6 * (t.val / 6) + s.val, Pipeline.run_point_lt_of_flush t h s⟩ j := by
  rw [Pipeline.eq_sum_fin_of_reset_step_apply_of_flush (fun n h => (outsAt0 m c n h).2) 6 (fun _ => 0) (term m c)
    (fun t h0 j => by
      rw [outsAt0_A m c t h0 (by omega)]
      frame_out
      rw [pay2_apply, pay1_apply]
      rfl)
    (fun t h0 j => by
      by_cases h1 : t.val % 6 = 5
      · rw [outsAt0_C m c t h0 h1]
        frame_out
        rw [pay2_apply, Memref.IsWhole.read_unread (m := Memref.whole cc0_scratch0)]
        rfl
      · rw [outsAt0_B m c t h0 h1]
        frame_out
        rw [pay2_apply, Memref.IsWhole.read_unread (m := Memref.whole cc0_scratch0)]
        rfl) t h j, zero_add]

/-- The result array after the run. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  have h3 : t.val % 6 = 5 := (flush0_2 t).mp hf
  blk_simp
  rw [after0_2, out_eq_scratch m c t (by omega) h3, scratch_eq m c t h3]
  unfold term prod grad
  refine Fin.sum_mul_add_congr fun s k hl => ?_
  congr 1 <;> blk_ext [iblk, V0, V1, idx ⟨6 * (t.val / 6) + s.val, Pipeline.run_point_lt_of_flush t h3 s⟩, idx t]

end Cert.Kernel10Ideal.RefValue

namespace Cert.Reference10Ideal.RefValue

open Cert.Reference10Ideal Cert.Reference10Ideal.Read

/-- The reference's result at an index. -/
theorem ref_apply (x0 : Vec Ideal S1024x9216 .f32) (x1 : Vec Ideal S8192x9216 .f32) (i : S8192x1024.Idx) :
    val_main_v2 (F := Ideal) x0 x1 i = Cert.Kernel10Ideal.RefValue.grad x0 x1 i := by
  pointwise [val_main_v2, Cert.Kernel10Ideal.RefValue.grad]

end Cert.Reference10Ideal.RefValue

namespace Cert.DilDx

theorem algebraic : Cert.algebraic_Kernel10Ideal_Reference10Ideal := by
  pair_intro
  · run_from Cert.Kernel10Ideal.Value.run_blocks m g
  · refine (θ_run _ _ _).mono (fun r h c => ?_) (Cert.Reference10Ideal.Value.run m' g')
    obtain ⟨h, h0, h1⟩ := h c
    refine ⟨h.trans ?_, h0, h1⟩
    rw [Cert.Kernel10Ideal.RefValue.final m c, Cert.Reference10Ideal.Read.val_main_v2_eq]
    obtain ⟨e0, e1⟩ := hagree c
    rw [e0, e1]
    funext i
    exact Cert.Reference10Ideal.RefValue.ref_apply _ _ i

end Cert.DilDx

end
-- ==== Proof.DilQkv.lean ====
/- The input projection of the dilated mixer: the kernel takes it in blocks of rows and columns, the reference is one product. -/
module

public import proofs.«01_k».proof.Defs
public import proofs.«01_k».proof.Proof.Gen.Kernel11Ideal.Value
public import proofs.«01_k».proof.Proof.Gen.Reference11Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.Kernel11Ideal.RefValue

open Cert.Kernel11Ideal Cert.Kernel11Ideal.Gen

variable (m : (ℓ : Loc nD τ sig) → Buf (Elt Ideal) ℓ)

/-- Row `i 0` of the input with column `i 1` of the weight. -/
def grad (x0 : Vec Ideal S8192x1024 .f32) (x1 : Vec Ideal S1024x9216 .f32) : Vec Ideal S8192x9216 .f32 := fun i =>
  ∑ r : Fin 1024, x0 (ix2 (i 0) r) * x1 (ix2 r (i 1))

/-- One point's product of two blocks. -/
theorem pay1_apply (a : Vec Ideal S1024x1024 .bf16) (b : Vec Ideal S1024x1152 .bf16) (j : S1024x1152.Idx) :
    k0_pay1 (F := Ideal) a b j = ∑ k : Fin 1024, a (ix2 (j 0) k) * b (ix2 k (j 1)) := by
  pointwise [k0_pay1]

/-- The block indices of the three windows at a point. -/
theorem idx : ∀ t : Fin cfg0.N, win0_0.index t = ![t.val / 8, 0] ∧ win0_1.index t = ![0, t.val % 8]
    ∧ win0_2.index t = ![t.val / 8, t.val % 8] :=
  (by decide +kernel : ∀ t : Fin grid0.N, _)

theorem V0 (c : Dev nD) : V m c main_v0 = m ((c : Thread nD τ).loc main_arg0) := by
  dsimp only [V, hostOps0]
  after_results
  rfl
theorem V1 (c : Dev nD) : V m c main_v1 = m ((c : Thread nD τ).loc main_arg1) := by
  dsimp only [V, hostOps0]
  after_results
  rfl

/-- The result array after the run. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [pay1_apply]
  unfold grad
  show (_ : EReal) = _
  refine Finset.sum_congr rfl fun k _ => ?_
  congr 1 <;> blk_ext [iblk, V0, V1, idx t]

end Cert.Kernel11Ideal.RefValue

namespace Cert.Reference11Ideal.RefValue

open Cert.Reference11Ideal Cert.Reference11Ideal.Read

/-- The reference's result at an index. -/
theorem ref_apply (x0 : Vec Ideal S8192x1024 .f32) (x1 : Vec Ideal S1024x9216 .f32) (i : S8192x9216.Idx) :
    val_main_v0 (F := Ideal) x0 x1 i = Cert.Kernel11Ideal.RefValue.grad x0 x1 i := by
  pointwise [val_main_v0, Cert.Kernel11Ideal.RefValue.grad]

end Cert.Reference11Ideal.RefValue

namespace Cert.DilQkv

theorem algebraic : Cert.algebraic_Kernel11Ideal_Reference11Ideal := by
  pair_intro
  · run_from Cert.Kernel11Ideal.Value.run_blocks m g
  · refine (θ_run _ _ _).mono (fun r h c => ?_) (Cert.Reference11Ideal.Value.run m' g')
    obtain ⟨h, h0, h1⟩ := h c
    refine ⟨h.trans ?_, h0, h1⟩
    rw [Cert.Kernel11Ideal.RefValue.final m c, Cert.Reference11Ideal.Read.val_main_v0_eq]
    obtain ⟨e0, e1⟩ := hagree c
    rw [e0, e1]
    funext i
    exact Cert.Reference11Ideal.RefValue.ref_apply _ _ i

end Cert.DilQkv

end
-- ==== Proof.SbDwIn.lean ====
/- The gradient of the weight of the stick-breaking mixer's input projection: the kernel adds the products of four blocks of
   2048 rows, the reference is one contraction. -/
module

public import proofs.«01_k».proof.Defs
public import proofs.«01_k».proof.Proof.Gen.Kernel12Ideal.Value
public import proofs.«01_k».proof.Proof.Gen.Reference12Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.Kernel12Ideal.RefValue

open Cert.Kernel12Ideal Cert.Kernel12Ideal.Gen

variable (m : (ℓ : Loc nD τ sig) → Buf (Elt Ideal) ℓ)

/-- Row `i 0` of the transposed input with column `i 1` of the cotangent. -/
def grad (x0 : Vec Ideal S8192x1024 .f32) (x1 : Vec Ideal S8192x3072 .f32) : Vec Ideal S1024x3072 .f32 := fun i =>
  ∑ r : Fin 8192, x0 (ix2 r (i 0)) * x1 (ix2 r (i 1))

/-- One point's product of two blocks, added to what the scratch holds. -/
theorem pay2_apply (a : Vec Ideal S2048x1024 .bf16) (b : Vec Ideal S2048x1024 .bf16) (acc : Vec Ideal S1024x1024 .f32)
    (j : S1024x1024.Idx) :
    k0_pay2 (F := Ideal) a b acc j = acc j + ∑ k : Fin 2048, a (ix2 k (j 0)) * b (ix2 k (j 1)) := by
  pointwise [k0_pay2]

theorem pay1_apply (j : S1024x1024.Idx) : k0_pay1 (F := Ideal) j = 0 := by
  pointwise [k0_pay1]

/-- The block indices of the three windows at a point. -/
theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

theorem V0 (c : Dev nD) : V m c main_v0 = m ((c : Thread nD τ).loc main_arg0) := by
  dsimp only [V, hostOps0]
  after_results
  rfl
theorem V1 (c : Dev nD) : V m c main_v1 = m ((c : Thread nD τ).loc main_arg1) := by
  dsimp only [V, hostOps0]
  after_results
  rfl

/-- At a point that writes back, the result block is what the scratch holds. -/
theorem out_eq_scratch (c : Dev nD) (t : Fin cfg0.N) (h0 : ¬t.val % 4 = 0) (h1 : t.val % 4 = 3) :
    (outsAt0 m c t.val t.isLt).1 = (outsAt0 m c t.val t.isLt).2 := by
  rw [outsAt0_C m c t h0 h1]
  frame_out

/-- The product of two blocks. -/
def prod (a : Vec Ideal S2048x1024 .bf16) (b : Vec Ideal S2048x1024 .bf16) (j : S1024x1024.Idx) : EReal :=
  ∑ k : Fin 2048, a (ix2 k (j 0)) * b (ix2 k (j 1))

/-- The product of one point. -/
def term (c : Dev nD) (t : Fin cfg0.N) (j : S1024x1024.Idx) : EReal := prod (iblk m c 0 t) (iblk m c 1 t) j

/-- What the scratch holds at a point that writes back: the sum of its run's 4 products. -/
theorem scratch_eq (c : Dev nD) (t : Fin cfg0.N) (h : t.val % 4 = 3) (j : S1024x1024.Idx) :
    (outsAt0 m c t.val t.isLt).2 j
      = ∑ s : Fin 4, term m c ⟨4 * (t.val / 4) + s.val, Pipeline.run_point_lt_of_flush t h s⟩ j := by
  rw [Pipeline.eq_sum_fin_of_reset_step_apply_of_flush (fun n h => (outsAt0 m c n h).2) 4 (fun _ => 0) (term m c)
    (fun t h0 j => by
      rw [outsAt0_A m c t h0 (by omega)]
      frame_out
      rw [pay2_apply, pay1_apply]
      rfl)
    (fun t h0 j => by
      by_cases h1 : t.val % 4 = 3
      · rw [outsAt0_C m c t h0 h1]
        frame_out
        rw [pay2_apply, Memref.IsWhole.read_unread (m := Memref.whole cc0_scratch0)]
        rfl
      · rw [outsAt0_B m c t h0 h1]
        frame_out
        rw [pay2_apply, Memref.IsWhole.read_unread (m := Memref.whole cc0_scratch0)]
        rfl) t h j, zero_add]

/-- The result array after the run. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, out_eq_scratch m c t (by omega) h3, scratch_eq m c t h3]
  unfold term prod grad
  refine Fin.sum_mul_add_congr fun s k hl => ?_
  congr 1 <;> blk_ext [iblk, V0, V1, idx ⟨4 * (t.val / 4) + s.val, Pipeline.run_point_lt_of_flush t h3 s⟩, idx t]

end Cert.Kernel12Ideal.RefValue

namespace Cert.Reference12Ideal.RefValue

open Cert.Reference12Ideal Cert.Reference12Ideal.Read

/-- The reference's result at an index. -/
theorem ref_apply (x0 : Vec Ideal S8192x1024 .f32) (x1 : Vec Ideal S8192x3072 .f32) (i : S1024x3072.Idx) :
    val_main_v3 (F := Ideal) x0 x1 i = Cert.Kernel12Ideal.RefValue.grad x0 x1 i := by
  pointwise [val_main_v3, val_main_v2, Cert.Kernel12Ideal.RefValue.grad]
  exact Finset.sum_congr rfl fun _ _ => mul_comm _ _

end Cert.Reference12Ideal.RefValue

namespace Cert.SbDwIn

theorem algebraic : Cert.algebraic_Kernel12Ideal_Reference12Ideal := by
  pair_intro
  · run_from Cert.Kernel12Ideal.Value.run_blocks m g
  · refine (θ_run _ _ _).mono (fun r h c => ?_) (Cert.Reference12Ideal.Value.run m' g')
    obtain ⟨h, h0, h1⟩ := h c
    refine ⟨h.trans ?_, h0, h1⟩
    rw [Cert.Kernel12Ideal.RefValue.final m c, Cert.Reference12Ideal.Read.val_main_v3_eq]
    obtain ⟨e0, e1⟩ := hagree c
    rw [e0, e1]
    funext i
    exact Cert.Reference12Ideal.RefValue.ref_apply _ _ i

end Cert.SbDwIn

end
-- ==== Proof.SbDx.lean ====
/- The gradient of the input of the stick-breaking mixer's input projection: the kernel adds the products of 2 blocks of
   1536 columns,
   the reference is one contraction. -/
module

public import proofs.«01_k».proof.Defs
public import proofs.«01_k».proof.Proof.Gen.Kernel13Ideal.Value
public import proofs.«01_k».proof.Proof.Gen.Reference13Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.Kernel13Ideal.RefValue

open Cert.Kernel13Ideal Cert.Kernel13Ideal.Gen

variable (m : (ℓ : Loc nD τ sig) → Buf (Elt Ideal) ℓ)

/-- Row `i 0` of the cotangent with row `i 1` of the weight. -/
def grad (x0 : Vec Ideal S1024x3072 .f32) (x1 : Vec Ideal S8192x3072 .f32) : Vec Ideal S8192x1024 .f32 := fun i =>
  ∑ r : Fin 3072, x1 (ix2 (i 0) r) * x0 (ix2 (i 1) r)

/-- One point's product of two blocks, added to what the scratch holds. -/
theorem pay2_apply (a : Vec Ideal S1024x1536 .bf16) (b : Vec Ideal S1024x1536 .bf16) (acc : Vec Ideal S1024x1024 .f32)
    (j : S1024x1024.Idx) :
    k0_pay2 (F := Ideal) a b acc j = acc j + ∑ k : Fin 1536, a (ix2 (j 0) k) * b (ix2 (j 1) k) := by
  pointwise [k0_pay2]

theorem pay1_apply (j : S1024x1024.Idx) : k0_pay1 (F := Ideal) j = 0 := by
  pointwise [k0_pay1]

/-- The block indices of the three windows at a point. -/
theorem idx : ∀ t : Fin cfg0.N, win0_0.index t = ![t.val / 2, t.val % 2] ∧ win0_1.index t = ![0, t.val % 2]
    ∧ win0_2.index t = ![t.val / 2, 0] :=
  (by decide +kernel : ∀ t : Fin grid0.N, _)

theorem V0 (c : Dev nD) : V m c main_v0 = m ((c : Thread nD τ).loc main_arg1) := by
  dsimp only [V, hostOps0]
  after_results
  rfl
theorem V1 (c : Dev nD) : V m c main_v1 = m ((c : Thread nD τ).loc main_arg0) := by
  dsimp only [V, hostOps0]
  after_results
  rfl

/-- At a point that writes back, the result block is what the scratch holds. -/
theorem out_eq_scratch (c : Dev nD) (t : Fin cfg0.N) (h0 : ¬t.val % 2 = 0) (h1 : t.val % 2 = 1) :
    (outsAt0 m c t.val t.isLt).1 = (outsAt0 m c t.val t.isLt).2 := by
  rw [outsAt0_B m c t h0 h1]
  frame_out

/-- The product of two blocks. -/
def prod (a : Vec Ideal S1024x1536 .bf16) (b : Vec Ideal S1024x1536 .bf16) (j : S1024x1024.Idx) : EReal :=
  ∑ k : Fin 1536, a (ix2 (j 0) k) * b (ix2 (j 1) k)

/-- The product of one point. -/
def term (c : Dev nD) (t : Fin cfg0.N) (j : S1024x1024.Idx) : EReal := prod (iblk m c 0 t) (iblk m c 1 t) j

/-- What the scratch holds at a point that writes back: the sum of its run's 2 products. -/
theorem scratch_eq (c : Dev nD) (t : Fin cfg0.N) (h : t.val % 2 = 1) (j : S1024x1024.Idx) :
    (outsAt0 m c t.val t.isLt).2 j
      = ∑ s : Fin 2, term m c ⟨2 * (t.val / 2) + s.val, Pipeline.run_point_lt_of_flush t h s⟩ j := by
  rw [Pipeline.eq_sum_fin_of_reset_step_apply_of_flush (fun n h => (outsAt0 m c n h).2) 2 (fun _ => 0) (term m c)
    (fun t h0 j => by
      rw [outsAt0_A m c t h0 (by omega)]
      frame_out
      rw [pay2_apply, pay1_apply]
      rfl)
    (fun t h0 j => by
      rw [outsAt0_B m c t h0 (by omega)]
      frame_out
      rw [pay2_apply, Memref.IsWhole.read_unread (m := Memref.whole cc0_scratch0)]
      rfl) t h j, zero_add]

/-- The result array after the run. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  have h3 : t.val % 2 = 1 := (flush0_2 t).mp hf
  blk_simp
  rw [after0_2, out_eq_scratch m c t (by omega) h3, scratch_eq m c t h3]
  unfold term prod grad
  refine Fin.sum_mul_add_congr fun s k hl => ?_
  congr 1 <;> blk_ext [iblk, V0, V1, idx ⟨2 * (t.val / 2) + s.val, Pipeline.run_point_lt_of_flush t h3 s⟩, idx t]

end Cert.Kernel13Ideal.RefValue

namespace Cert.Reference13Ideal.RefValue

open Cert.Reference13Ideal Cert.Reference13Ideal.Read

/-- The reference's result at an index. -/
theorem ref_apply (x0 : Vec Ideal S1024x3072 .f32) (x1 : Vec Ideal S8192x3072 .f32) (i : S8192x1024.Idx) :
    val_main_v2 (F := Ideal) x0 x1 i = Cert.Kernel13Ideal.RefValue.grad x0 x1 i := by
  pointwise [val_main_v2, Cert.Kernel13Ideal.RefValue.grad]

end Cert.Reference13Ideal.RefValue

namespace Cert.SbDx

theorem algebraic : Cert.algebraic_Kernel13Ideal_Reference13Ideal := by
  pair_intro
  · run_from Cert.Kernel13Ideal.Value.run_blocks m g
  · refine (θ_run _ _ _).mono (fun r h c => ?_) (Cert.Reference13Ideal.Value.run m' g')
    obtain ⟨h, h0, h1⟩ := h c
    refine ⟨h.trans ?_, h0, h1⟩
    rw [Cert.Kernel13Ideal.RefValue.final m c, Cert.Reference13Ideal.Read.val_main_v2_eq]
    obtain ⟨e0, e1⟩ := hagree c
    rw [e0, e1]
    funext i
    exact Cert.Reference13Ideal.RefValue.ref_apply _ _ i

end Cert.SbDx

end
-- ==== Proof.SbQkv.lean ====
/- The input projection of the stick-breaking mixer: the kernel takes it in blocks of rows and columns, the reference is one product. -/
module

public import proofs.«01_k».proof.Defs
public import proofs.«01_k».proof.Proof.Gen.Kernel14Ideal.Value
public import proofs.«01_k».proof.Proof.Gen.Reference14Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.Kernel14Ideal.RefValue

open Cert.Kernel14Ideal Cert.Kernel14Ideal.Gen

variable (m : (ℓ : Loc nD τ sig) → Buf (Elt Ideal) ℓ)

/-- Row `i 0` of the input with column `i 1` of the weight. -/
def grad (x0 : Vec Ideal S8192x1024 .f32) (x1 : Vec Ideal S1024x3072 .f32) : Vec Ideal S8192x3072 .bf16 := fun i =>
  ∑ r : Fin 1024, x0 (ix2 (i 0) r) * x1 (ix2 r (i 1))

/-- One point's product of two blocks. -/
theorem pay1_apply (a : Vec Ideal S1024x1024 .bf16) (b : Vec Ideal S1024x1024 .bf16) (j : S1024x1024.Idx) :
    k0_pay1 (F := Ideal) a b j = ∑ k : Fin 1024, a (ix2 (j 0) k) * b (ix2 k (j 1)) := by
  pointwise [k0_pay1]

/-- The block indices of the three windows at a point. -/
theorem idx : ∀ t : Fin cfg0.N, win0_0.index t = ![t.val / 3, 0] ∧ win0_1.index t = ![0, t.val % 3]
    ∧ win0_2.index t = ![t.val / 3, t.val % 3] :=
  (by decide +kernel : ∀ t : Fin grid0.N, _)

theorem V0 (c : Dev nD) : V m c main_v0 = m ((c : Thread nD τ).loc main_arg0) := by
  dsimp only [V, hostOps0]
  after_results
  rfl
theorem V1 (c : Dev nD) : V m c main_v1 = m ((c : Thread nD τ).loc main_arg1) := by
  dsimp only [V, hostOps0]
  after_results
  rfl

/-- The result array after the run. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [pay1_apply]
  unfold grad
  show (_ : EReal) = _
  refine Finset.sum_congr rfl fun k _ => ?_
  congr 1 <;> blk_ext [iblk, V0, V1, idx t]

end Cert.Kernel14Ideal.RefValue

namespace Cert.Reference14Ideal.RefValue

open Cert.Reference14Ideal Cert.Reference14Ideal.Read

/-- The reference's result at an index. -/
theorem ref_apply (x0 : Vec Ideal S8192x1024 .f32) (x1 : Vec Ideal S1024x3072 .f32) (i : S8192x3072.Idx) :
    val_main_v1 (F := Ideal) x0 x1 i = Cert.Kernel14Ideal.RefValue.grad x0 x1 i := by
  pointwise [val_main_v1, val_main_v0, Cert.Kernel14Ideal.RefValue.grad]

end Cert.Reference14Ideal.RefValue

namespace Cert.SbQkv

theorem algebraic : Cert.algebraic_Kernel14Ideal_Reference14Ideal := by
  pair_intro
  · run_from Cert.Kernel14Ideal.Value.run_blocks m g
  · refine (θ_run _ _ _).mono (fun r h c => ?_) (Cert.Reference14Ideal.Value.run m' g')
    obtain ⟨h, h0, h1⟩ := h c
    refine ⟨h.trans ?_, h0, h1⟩
    rw [Cert.Kernel14Ideal.RefValue.final m c, Cert.Reference14Ideal.Read.val_main_v1_eq]
    obtain ⟨e0, e1⟩ := hagree c
    rw [e0, e1]
    funext i
    exact Cert.Reference14Ideal.RefValue.ref_apply _ _ i

end Cert.SbQkv

end
-- ==== Proof.SwaDwIn.lean ====
/- The gradient of the weight of the sliding-window mixer's input projection: the kernel adds the products of four blocks of
   2048 rows, the reference is one contraction. -/
module

public import proofs.«01_k».proof.Defs
public import proofs.«01_k».proof.Proof.Gen.Kernel15Ideal.Value
public import proofs.«01_k».proof.Proof.Gen.Reference15Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.Kernel15Ideal.RefValue

open Cert.Kernel15Ideal Cert.Kernel15Ideal.Gen

variable (m : (ℓ : Loc nD τ sig) → Buf (Elt Ideal) ℓ)

/-- Row `i 0` of the transposed input with column `i 1` of the cotangent. -/
def grad (x0 : Vec Ideal S8192x1024 .f32) (x1 : Vec Ideal S8192x1280 .f32) : Vec Ideal S1024x1280 .f32 := fun i =>
  ∑ r : Fin 8192, x0 (ix2 r (i 0)) * x1 (ix2 r (i 1))

/-- One point's product of two blocks, added to what the scratch holds. -/
theorem pay2_apply (a : Vec Ideal S2048x1024 .bf16) (b : Vec Ideal S2048x1280 .bf16) (acc : Vec Ideal S1024x1280 .f32)
    (j : S1024x1280.Idx) :
    k0_pay2 (F := Ideal) a b acc j = acc j + ∑ k : Fin 2048, a (ix2 k (j 0)) * b (ix2 k (j 1)) := by
  pointwise [k0_pay2]

theorem pay1_apply (j : S1024x1280.Idx) : k0_pay1 (F := Ideal) j = 0 := by
  pointwise [k0_pay1]

/-- The block indices of the three windows at a point. -/
theorem idx : ∀ t : Fin cfg0.N, win0_0.index t = ![t.val % 4, 0] ∧ win0_1.index t = ![t.val % 4, 0]
    ∧ win0_2.index t = ![0, 0] :=
  (by decide +kernel : ∀ t : Fin grid0.N, _)

theorem V0 (c : Dev nD) : V m c main_v0 = m ((c : Thread nD τ).loc main_arg0) := by
  dsimp only [V, hostOps0]
  after_results
  rfl
theorem V1 (c : Dev nD) : V m c main_v1 = m ((c : Thread nD τ).loc main_arg1) := by
  dsimp only [V, hostOps0]
  after_results
  rfl

/-- At a point that writes back, the result block is what the scratch holds. -/
theorem out_eq_scratch (c : Dev nD) (t : Fin cfg0.N) (h0 : ¬t.val % 4 = 0) (h1 : t.val % 4 = 3) :
    (outsAt0 m c t.val t.isLt).1 = (outsAt0 m c t.val t.isLt).2 := by
  rw [outsAt0_C m c t h0 h1]
  frame_out

/-- The product of two blocks. -/
def prod (a : Vec Ideal S2048x1024 .bf16) (b : Vec Ideal S2048x1280 .bf16) (j : S1024x1280.Idx) : EReal :=
  ∑ k : Fin 2048, a (ix2 k (j 0)) * b (ix2 k (j 1))

/-- The product of one point. -/
def term (c : Dev nD) (t : Fin cfg0.N) (j : S1024x1280.Idx) : EReal := prod (iblk m c 0 t) (iblk m c 1 t) j

/-- What the scratch holds at a point that writes back: the sum of its run's 4 products. -/
theorem scratch_eq (c : Dev nD) (t : Fin cfg0.N) (h : t.val % 4 = 3) (j : S1024x1280.Idx) :
    (outsAt0 m c t.val t.isLt).2 j
      = ∑ s : Fin 4, term m c ⟨4 * (t.val / 4) + s.val, Pipeline.run_point_lt_of_flush t h s⟩ j := by
  rw [Pipeline.eq_sum_fin_of_reset_step_apply_of_flush (fun n h => (outsAt0 m c n h).2) 4 (fun _ => 0) (term m c)
    (fun t h0 j => by
      rw [outsAt0_A m c t h0 (by omega)]
      frame_out
      rw [pay2_apply, pay1_apply]
      rfl)
    (fun t h0 j => by
      by_cases h1 : t.val % 4 = 3
      · rw [outsAt0_C m c t h0 h1]
        frame_out
        rw [pay2_apply, Memref.IsWhole.read_unread (m := Memref.whole cc0_scratch0)]
        rfl
      · rw [outsAt0_B m c t h0 h1]
        frame_out
        rw [pay2_apply, Memref.IsWhole.read_unread (m := Memref.whole cc0_scratch0)]
        rfl) t h j, zero_add]

/-- The result array after the run. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, out_eq_scratch m c t (by omega) h3, scratch_eq m c t h3]
  unfold term prod grad
  refine Fin.sum_mul_add_congr fun s k hl => ?_
  congr 1 <;> blk_ext [iblk, V0, V1, idx ⟨4 * (t.val / 4) + s.val, Pipeline.run_point_lt_of_flush t h3 s⟩, idx t]

end Cert.Kernel15Ideal.RefValue

namespace Cert.Reference15Ideal.RefValue

open Cert.Reference15Ideal Cert.Reference15Ideal.Read

/-- The reference's result at an index. -/
theorem ref_apply (x0 : Vec Ideal S8192x1024 .f32) (x1 : Vec Ideal S8192x1280 .f32) (i : S1024x1280.Idx) :
    val_main_v3 (F := Ideal) x0 x1 i = Cert.Kernel15Ideal.RefValue.grad x0 x1 i := by
  pointwise [val_main_v3, val_main_v2, Cert.Kernel15Ideal.RefValue.grad]
  exact Finset.sum_congr rfl fun _ _ => mul_comm _ _

end Cert.Reference15Ideal.RefValue

namespace Cert.SwaDwIn

theorem algebraic : Cert.algebraic_Kernel15Ideal_Reference15Ideal := by
  pair_intro
  · run_from Cert.Kernel15Ideal.Value.run_blocks m g
  · refine (θ_run _ _ _).mono (fun r h c => ?_) (Cert.Reference15Ideal.Value.run m' g')
    obtain ⟨h, h0, h1⟩ := h c
    refine ⟨h.trans ?_, h0, h1⟩
    rw [Cert.Kernel15Ideal.RefValue.final m c, Cert.Reference15Ideal.Read.val_main_v3_eq]
    obtain ⟨e0, e1⟩ := hagree c
    rw [e0, e1]
    funext i
    exact Cert.Reference15Ideal.RefValue.ref_apply _ _ i

end Cert.SwaDwIn

end
-- ==== Proof.SwaDx.lean ====
/- The gradient of the input of the sliding-window mixer's input projection: the kernel takes the columns whole, in blocks of rows,
   the reference is one contraction. -/
module

public import proofs.«01_k».proof.Defs
public import proofs.«01_k».proof.Proof.Gen.Kernel16Ideal.Value
public import proofs.«01_k».proof.Proof.Gen.Reference16Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.Kernel16Ideal.RefValue

open Cert.Kernel16Ideal Cert.Kernel16Ideal.Gen

variable (m : (ℓ : Loc nD τ sig) → Buf (Elt Ideal) ℓ)

/-- Row `i 0` of the cotangent with row `i 1` of the weight. -/
def grad (x0 : Vec Ideal S1024x1280 .f32) (x1 : Vec Ideal S8192x1280 .f32) : Vec Ideal S8192x1024 .f32 := fun i =>
  ∑ r : Fin 1280, x1 (ix2 (i 0) r) * x0 (ix2 (i 1) r)

/-- One point's product of two blocks. -/
theorem pay1_apply (a : Vec Ideal S1024x1280 .bf16) (b : Vec Ideal S1024x1280 .bf16) (j : S1024x1024.Idx) :
    k0_pay1 (F := Ideal) a b j = ∑ k : Fin 1280, a (ix2 (j 0) k) * b (ix2 (j 1) k) := by
  pointwise [k0_pay1]

/-- The block indices of the three windows at a point. -/
theorem idx : ∀ t : Fin cfg0.N, win0_0.index t = ![t.val, 0] ∧ win0_1.index t = ![0, 0]
    ∧ win0_2.index t = ![t.val, 0] :=
  (by decide +kernel : ∀ t : Fin grid0.N, _)

theorem V0 (c : Dev nD) : V m c main_v0 = m ((c : Thread nD τ).loc main_arg1) := by
  dsimp only [V, hostOps0]
  after_results
  rfl
theorem V1 (c : Dev nD) : V m c main_v1 = m ((c : Thread nD τ).loc main_arg0) := by
  dsimp only [V, hostOps0]
  after_results
  rfl

/-- The result array after the run. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [pay1_apply]
  unfold grad
  show (_ : EReal) = _
  refine Finset.sum_congr rfl fun k _ => ?_
  congr 1 <;> blk_ext [iblk, V0, V1, idx t]

end Cert.Kernel16Ideal.RefValue

namespace Cert.Reference16Ideal.RefValue

open Cert.Reference16Ideal Cert.Reference16Ideal.Read

/-- The reference's result at an index. -/
theorem ref_apply (x0 : Vec Ideal S1024x1280 .f32) (x1 : Vec Ideal S8192x1280 .f32) (i : S8192x1024.Idx) :
    val_main_v2 (F := Ideal) x0 x1 i = Cert.Kernel16Ideal.RefValue.grad x0 x1 i := by
  pointwise [val_main_v2, Cert.Kernel16Ideal.RefValue.grad]

end Cert.Reference16Ideal.RefValue

namespace Cert.SwaDx

theorem algebraic : Cert.algebraic_Kernel16Ideal_Reference16Ideal := by
  pair_intro
  · run_from Cert.Kernel16Ideal.Value.run_blocks m g
  · refine (θ_run _ _ _).mono (fun r h c => ?_) (Cert.Reference16Ideal.Value.run m' g')
    obtain ⟨h, h0, h1⟩ := h c
    refine ⟨h.trans ?_, h0, h1⟩
    rw [Cert.Kernel16Ideal.RefValue.final m c, Cert.Reference16Ideal.Read.val_main_v2_eq]
    obtain ⟨e0, e1⟩ := hagree c
    rw [e0, e1]
    funext i
    exact Cert.Reference16Ideal.RefValue.ref_apply _ _ i

end Cert.SwaDx

end
-- ==== Proof.SwaQkv.lean ====
/- The input projection of the sliding-window mixer: the kernel takes it in blocks of rows and columns, the reference is one product. -/
module

public import proofs.«01_k».proof.Defs
public import proofs.«01_k».proof.Proof.Gen.Kernel17Ideal.Value
public import proofs.«01_k».proof.Proof.Gen.Reference17Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.Kernel17Ideal.RefValue

open Cert.Kernel17Ideal Cert.Kernel17Ideal.Gen

variable (m : (ℓ : Loc nD τ sig) → Buf (Elt Ideal) ℓ)

/-- Row `i 0` of the input with column `i 1` of the weight. -/
def grad (x0 : Vec Ideal S8192x1024 .f32) (x1 : Vec Ideal S1024x1280 .f32) : Vec Ideal S8192x1280 .f32 := fun i =>
  ∑ r : Fin 1024, x0 (ix2 (i 0) r) * x1 (ix2 r (i 1))

/-- One point's product of two blocks. -/
theorem pay1_apply (a : Vec Ideal S1024x1024 .bf16) (b : Vec Ideal S1024x1280 .bf16) (j : S1024x1280.Idx) :
    k0_pay1 (F := Ideal) a b j = ∑ k : Fin 1024, a (ix2 (j 0) k) * b (ix2 k (j 1)) := by
  pointwise [k0_pay1]

/-- The block indices of the three windows at a point. -/
theorem idx : ∀ t : Fin cfg0.N, win0_0.index t = ![t.val, 0] ∧ win0_1.index t = ![0, 0]
    ∧ win0_2.index t = ![t.val, 0] :=
  (by decide +kernel : ∀ t : Fin grid0.N, _)

theorem V0 (c : Dev nD) : V m c main_v0 = m ((c : Thread nD τ).loc main_arg0) := by
  dsimp only [V, hostOps0]
  after_results
  rfl
theorem V1 (c : Dev nD) : V m c main_v1 = m ((c : Thread nD τ).loc main_arg1) := by
  dsimp only [V, hostOps0]
  after_results
  rfl

/-- The result array after the run. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [pay1_apply]
  unfold grad
  show (_ : EReal) = _
  refine Finset.sum_congr rfl fun k _ => ?_
  congr 1 <;> blk_ext [iblk, V0, V1, idx t]

end Cert.Kernel17Ideal.RefValue

namespace Cert.Reference17Ideal.RefValue

open Cert.Reference17Ideal Cert.Reference17Ideal.Read

/-- The reference's result at an index. -/
theorem ref_apply (x0 : Vec Ideal S8192x1024 .f32) (x1 : Vec Ideal S1024x1280 .f32) (i : S8192x1280.Idx) :
    val_main_v0 (F := Ideal) x0 x1 i = Cert.Kernel17Ideal.RefValue.grad x0 x1 i := by
  pointwise [val_main_v0, Cert.Kernel17Ideal.RefValue.grad]

end Cert.Reference17Ideal.RefValue

namespace Cert.SwaQkv

theorem algebraic : Cert.algebraic_Kernel17Ideal_Reference17Ideal := by
  pair_intro
  · run_from Cert.Kernel17Ideal.Value.run_blocks m g
  · refine (θ_run _ _ _).mono (fun r h c => ?_) (Cert.Reference17Ideal.Value.run m' g')
    obtain ⟨h, h0, h1⟩ := h c
    refine ⟨h.trans ?_, h0, h1⟩
    rw [Cert.Kernel17Ideal.RefValue.final m c, Cert.Reference17Ideal.Read.val_main_v0_eq]
    obtain ⟨e0, e1⟩ := hagree c
    rw [e0, e1]
    funext i
    exact Cert.Reference17Ideal.RefValue.ref_apply _ _ i

end Cert.SwaQkv

end
-- ==== Proof.SquareDw.lean ====
/- The gradient of a square weight: the kernel adds the products of four blocks of 2048 rows, the reference is one
   contraction. -/
module

public import proofs.«01_k».proof.Defs
public import proofs.«01_k».proof.Proof.Gen.Kernel18Ideal.Value
public import proofs.«01_k».proof.Proof.Gen.Reference18Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.Kernel18Ideal.RefValue

open Cert.Kernel18Ideal Cert.Kernel18Ideal.Gen

variable (m : (ℓ : Loc nD τ sig) → Buf (Elt Ideal) ℓ)

/-- Row `i 0` of the transposed input with column `i 1` of the cotangent. -/
def grad (x0 : Vec Ideal S8192x1024 .f32) (x1 : Vec Ideal S8192x1024 .f32) : Vec Ideal S1024x1024 .f32 := fun i =>
  ∑ r : Fin 8192, x0 (ix2 r (i 0)) * x1 (ix2 r (i 1))

/-- One point's product of two blocks, added to what the scratch holds. -/
theorem pay2_apply (a : Vec Ideal S2048x1024 .bf16) (b : Vec Ideal S2048x1024 .bf16) (acc : Vec Ideal S1024x1024 .f32)
    (j : S1024x1024.Idx) :
    k0_pay2 (F := Ideal) a b acc j = acc j + ∑ k : Fin 2048, a (ix2 k (j 0)) * b (ix2 k (j 1)) := by
  pointwise [k0_pay2]

theorem pay1_apply (j : S1024x1024.Idx) : k0_pay1 (F := Ideal) j = 0 := by
  pointwise [k0_pay1]

/-- The block indices of the three windows at a point. -/
theorem idx : ∀ t : Fin cfg0.N, win0_0.index t = ![t.val % 4, 0] ∧ win0_1.index t = ![t.val % 4, 0]
    ∧ win0_2.index t = ![0, 0] :=
  (by decide +kernel : ∀ t : Fin grid0.N, _)

theorem V0 (c : Dev nD) : V m c main_v0 = m ((c : Thread nD τ).loc main_arg0) := by
  dsimp only [V, hostOps0]
  after_results
  rfl
theorem V1 (c : Dev nD) : V m c main_v1 = m ((c : Thread nD τ).loc main_arg1) := by
  dsimp only [V, hostOps0]
  after_results
  rfl

/-- At a point that writes back, the result block is what the scratch holds. -/
theorem out_eq_scratch (c : Dev nD) (t : Fin cfg0.N) (h0 : ¬t.val % 4 = 0) (h1 : t.val % 4 = 3) :
    (outsAt0 m c t.val t.isLt).1 = (outsAt0 m c t.val t.isLt).2 := by
  rw [outsAt0_C m c t h0 h1]
  frame_out

/-- The product of two blocks. -/
def prod (a : Vec Ideal S2048x1024 .bf16) (b : Vec Ideal S2048x1024 .bf16) (j : S1024x1024.Idx) : EReal :=
  ∑ k : Fin 2048, a (ix2 k (j 0)) * b (ix2 k (j 1))

/-- The product of one point. -/
def term (c : Dev nD) (t : Fin cfg0.N) (j : S1024x1024.Idx) : EReal := prod (iblk m c 0 t) (iblk m c 1 t) j

/-- What the scratch holds at a point that writes back: the sum of its run's 4 products. -/
theorem scratch_eq (c : Dev nD) (t : Fin cfg0.N) (h : t.val % 4 = 3) (j : S1024x1024.Idx) :
    (outsAt0 m c t.val t.isLt).2 j
      = ∑ s : Fin 4, term m c ⟨4 * (t.val / 4) + s.val, Pipeline.run_point_lt_of_flush t h s⟩ j := by
  rw [Pipeline.eq_sum_fin_of_reset_step_apply_of_flush (fun n h => (outsAt0 m c n h).2) 4 (fun _ => 0) (term m c)
    (fun t h0 j => by
      rw [outsAt0_A m c t h0 (by omega)]
      frame_out
      rw [pay2_apply, pay1_apply]
      rfl)
    (fun t h0 j => by
      by_cases h1 : t.val % 4 = 3
      · rw [outsAt0_C m c t h0 h1]
        frame_out
        rw [pay2_apply, Memref.IsWhole.read_unread (m := Memref.whole cc0_scratch0)]
        rfl
      · rw [outsAt0_B m c t h0 h1]
        frame_out
        rw [pay2_apply, Memref.IsWhole.read_unread (m := Memref.whole cc0_scratch0)]
        rfl) t h j, zero_add]

/-- The result array after the run. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, out_eq_scratch m c t (by omega) h3, scratch_eq m c t h3]
  unfold term prod grad
  refine Fin.sum_mul_add_congr fun s k hl => ?_
  congr 1 <;> blk_ext [iblk, V0, V1, idx ⟨4 * (t.val / 4) + s.val, Pipeline.run_point_lt_of_flush t h3 s⟩, idx t]

end Cert.Kernel18Ideal.RefValue

namespace Cert.Reference18Ideal.RefValue

open Cert.Reference18Ideal Cert.Reference18Ideal.Read

/-- The reference's result at an index. -/
theorem ref_apply (x0 : Vec Ideal S8192x1024 .f32) (x1 : Vec Ideal S8192x1024 .f32) (i : S1024x1024.Idx) :
    val_main_v3 (F := Ideal) x0 x1 i = Cert.Kernel18Ideal.RefValue.grad x0 x1 i := by
  pointwise [val_main_v3, val_main_v2, Cert.Kernel18Ideal.RefValue.grad]
  exact Finset.sum_congr rfl fun _ _ => mul_comm _ _

end Cert.Reference18Ideal.RefValue

namespace Cert.SquareDw

theorem algebraic : Cert.algebraic_Kernel18Ideal_Reference18Ideal := by
  pair_intro
  · run_from Cert.Kernel18Ideal.Value.run_blocks m g
  · refine (θ_run _ _ _).mono (fun r h c => ?_) (Cert.Reference18Ideal.Value.run m' g')
    obtain ⟨h, h0, h1⟩ := h c
    refine ⟨h.trans ?_, h0, h1⟩
    rw [Cert.Kernel18Ideal.RefValue.final m c, Cert.Reference18Ideal.Read.val_main_v3_eq]
    obtain ⟨e0, e1⟩ := hagree c
    rw [e0, e1]
    funext i
    exact Cert.Reference18Ideal.RefValue.ref_apply _ _ i

end Cert.SquareDw

end
-- ==== Proof.ProjDo.lean ====
/- The gradient of the input of a mixer's output projection: the kernel takes it in blocks of rows, the reference is one
   contraction. -/
module

public import proofs.«01_k».proof.Defs
public import proofs.«01_k».proof.Proof.Gen.Kernel19Ideal.Value
public import proofs.«01_k».proof.Proof.Gen.Reference19Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.Kernel19Ideal.RefValue

open Cert.Kernel19Ideal Cert.Kernel19Ideal.Gen

variable (m : (ℓ : Loc nD τ sig) → Buf (Elt Ideal) ℓ)

/-- Row `i 0` of the cotangent with row `i 1` of the weight. -/
def grad (x0 : Vec Ideal S1024x1024 .f32) (x1 : Vec Ideal S8192x1024 .f32) : Vec Ideal S8192x1024 .bf16 := fun i =>
  ∑ r : Fin 1024, x1 (ix2 (i 0) r) * x0 (ix2 (i 1) r)

/-- One point's product of two blocks. -/
theorem pay1_apply (a : Vec Ideal S1024x1024 .bf16) (b : Vec Ideal S1024x1024 .bf16) (j : S1024x1024.Idx) :
    k0_pay1 (F := Ideal) a b j = ∑ k : Fin 1024, a (ix2 (j 0) k) * b (ix2 (j 1) k) := by
  pointwise [k0_pay1]

/-- The block indices of the three windows at a point. -/
theorem idx : ∀ t : Fin cfg0.N, win0_0.index t = ![t.val, 0] ∧ win0_1.index t = ![0, 0]
    ∧ win0_2.index t = ![t.val, 0] :=
  (by decide +kernel : ∀ t : Fin grid0.N, _)

theorem V0 (c : Dev nD) : V m c main_v0 = m ((c : Thread nD τ).loc main_arg1) := by
  dsimp only [V, hostOps0]
  after_results
  rfl
theorem V1 (c : Dev nD) : V m c main_v1 = m ((c : Thread nD τ).loc main_arg0) := by
  dsimp only [V, hostOps0]
  after_results
  rfl

/-- The result array after the run. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [pay1_apply]
  unfold grad
  show (_ : EReal) = _
  refine Finset.sum_congr rfl fun k _ => ?_
  congr 1 <;> blk_ext [iblk, V0, V1, idx t]

end Cert.Kernel19Ideal.RefValue

namespace Cert.Reference19Ideal.RefValue

open Cert.Reference19Ideal Cert.Reference19Ideal.Read

/-- The reference's result at an index. -/
theorem ref_apply (x0 : Vec Ideal S1024x1024 .f32) (x1 : Vec Ideal S8192x1024 .f32) (i : S8192x1024.Idx) :
    val_main_v3 (F := Ideal) x0 x1 i = Cert.Kernel19Ideal.RefValue.grad x0 x1 i := by
  pointwise [val_main_v3, val_main_v2, Cert.Kernel19Ideal.RefValue.grad]

end Cert.Reference19Ideal.RefValue

namespace Cert.ProjDo

theorem algebraic : Cert.algebraic_Kernel19Ideal_Reference19Ideal := by
  pair_intro
  · run_from Cert.Kernel19Ideal.Value.run_blocks m g
  · refine (θ_run _ _ _).mono (fun r h c => ?_) (Cert.Reference19Ideal.Value.run m' g')
    obtain ⟨h, h0, h1⟩ := h c
    refine ⟨h.trans ?_, h0, h1⟩
    rw [Cert.Kernel19Ideal.RefValue.final m c, Cert.Reference19Ideal.Read.val_main_v3_eq]
    obtain ⟨e0, e1⟩ := hagree c
    rw [e0, e1]
    funext i
    exact Cert.Reference19Ideal.RefValue.ref_apply _ _ i

end Cert.ProjDo

end
-- ==== Proof.PleDx.lean ====
/- The gradient of the input of the embedding's gate: the kernel takes it in blocks of rows, the reference is one
   contraction. -/
module

public import proofs.«01_k».proof.Defs
public import proofs.«01_k».proof.Proof.Gen.Kernel20Ideal.Value
public import proofs.«01_k».proof.Proof.Gen.Reference20Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.Kernel20Ideal.RefValue

open Cert.Kernel20Ideal Cert.Kernel20Ideal.Gen

variable (m : (ℓ : Loc nD τ sig) → Buf (Elt Ideal) ℓ)

/-- Row `i 0` of the cotangent with row `i 1` of the weight. -/
def grad (x0 : Vec Ideal S1024x1024 .f32) (x1 : Vec Ideal S8192x1024 .f32) : Vec Ideal S8192x1024 .f32 := fun i =>
  ∑ r : Fin 1024, x1 (ix2 (i 0) r) * x0 (ix2 (i 1) r)

/-- One point's product of two blocks. -/
theorem pay1_apply (a : Vec Ideal S1024x1024 .bf16) (b : Vec Ideal S1024x1024 .bf16) (j : S1024x1024.Idx) :
    k0_pay1 (F := Ideal) a b j = ∑ k : Fin 1024, a (ix2 (j 0) k) * b (ix2 (j 1) k) := by
  pointwise [k0_pay1]

/-- The block indices of the three windows at a point. -/
theorem idx : ∀ t : Fin cfg0.N, win0_0.index t = ![t.val, 0] ∧ win0_1.index t = ![0, 0]
    ∧ win0_2.index t = ![t.val, 0] :=
  (by decide +kernel : ∀ t : Fin grid0.N, _)

theorem V0 (c : Dev nD) : V m c main_v0 = m ((c : Thread nD τ).loc main_arg1) := by
  dsimp only [V, hostOps0]
  after_results
  rfl
theorem V1 (c : Dev nD) : V m c main_v1 = m ((c : Thread nD τ).loc main_arg0) := by
  dsimp only [V, hostOps0]
  after_results
  rfl

/-- The result array after the run. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [pay1_apply]
  unfold grad
  show (_ : EReal) = _
  refine Finset.sum_congr rfl fun k _ => ?_
  congr 1 <;> blk_ext [iblk, V0, V1, idx t]

end Cert.Kernel20Ideal.RefValue

namespace Cert.Reference20Ideal.RefValue

open Cert.Reference20Ideal Cert.Reference20Ideal.Read

/-- The reference's result at an index. -/
theorem ref_apply (x0 : Vec Ideal S1024x1024 .f32) (x1 : Vec Ideal S8192x1024 .f32) (i : S8192x1024.Idx) :
    val_main_v2 (F := Ideal) x0 x1 i = Cert.Kernel20Ideal.RefValue.grad x0 x1 i := by
  pointwise [val_main_v2, Cert.Kernel20Ideal.RefValue.grad]

end Cert.Reference20Ideal.RefValue

namespace Cert.PleDx

theorem algebraic : Cert.algebraic_Kernel20Ideal_Reference20Ideal := by
  pair_intro
  · run_from Cert.Kernel20Ideal.Value.run_blocks m g
  · refine (θ_run _ _ _).mono (fun r h c => ?_) (Cert.Reference20Ideal.Value.run m' g')
    obtain ⟨h, h0, h1⟩ := h c
    refine ⟨h.trans ?_, h0, h1⟩
    rw [Cert.Kernel20Ideal.RefValue.final m c, Cert.Reference20Ideal.Read.val_main_v2_eq]
    obtain ⟨e0, e1⟩ := hagree c
    rw [e0, e1]
    funext i
    exact Cert.Reference20Ideal.RefValue.ref_apply _ _ i

end Cert.PleDx

end
-- ==== Proof.PleFwd.lean ====
/- The embedding of a layer, through its gate, added to the layer's output; with the gate's and the embedding's
   projections, which the backward pass takes. -/
module

public import proofs.«01_k».proof.Defs
public import proofs.«01_k».proof.Proof.Gen.Kernel21Ideal.Value
public import proofs.«01_k».proof.Proof.Gen.Reference21Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.PleFwd

/-- The logistic function. -/
def sigm (x : EReal) : EReal := Ideal.div 1 (1 + Ideal.exp (-x))

/-- Row `r` of `x` with column `n` of the gate's weight. -/
def gateAt (x : Vec Ideal ⟨2, ![8192, 1024]⟩ .f32) (w : Vec Ideal ⟨2, ![1024, 1024]⟩ .f32) (r : Fin 8192) (n : Fin 1024) : EReal :=
  ∑ k : Fin 1024, x (ix2 r k) * w (ix2 k n)

/-- Row `r` of the embedding with column `n` of its weight. -/
def embedAt (p : Vec Ideal ⟨2, ![8192, 256]⟩ .f32) (w : Vec Ideal ⟨2, ![256, 1024]⟩ .f32) (r : Fin 8192) (n : Fin 1024) : EReal :=
  ∑ k : Fin 256, p (ix2 r k) * w (ix2 k n)

/-- The gate's projection. -/
def gate (x : Vec Ideal ⟨2, ![8192, 1024]⟩ .f32) (w : Vec Ideal ⟨2, ![1024, 1024]⟩ .f32) : Vec Ideal ⟨2, ![8192, 1024]⟩ .f32 := fun i => gateAt x w (i 0) (i 1)

/-- The embedding's projection. -/
def embed (p : Vec Ideal ⟨2, ![8192, 256]⟩ .f32) (w : Vec Ideal ⟨2, ![256, 1024]⟩ .f32) : Vec Ideal ⟨2, ![8192, 1024]⟩ .f32 := fun i => embedAt p w (i 0) (i 1)

/-- The output. -/
def out (x : Vec Ideal ⟨2, ![8192, 1024]⟩ .f32) (p : Vec Ideal ⟨2, ![8192, 256]⟩ .f32) (wg : Vec Ideal ⟨2, ![1024, 1024]⟩ .f32)
    (wp : Vec Ideal ⟨2, ![256, 1024]⟩ .f32) : Vec Ideal ⟨2, ![8192, 1024]⟩ .f32 := fun i =>
  x (ix2 (i 0) (i 1)) + sigm (gateAt x wg (i 0) (i 1)) * embedAt p wp (i 0) (i 1)

/-- The output in the short format. -/
def outb (x : Vec Ideal ⟨2, ![8192, 1024]⟩ .f32) (p : Vec Ideal ⟨2, ![8192, 256]⟩ .f32) (wg : Vec Ideal ⟨2, ![1024, 1024]⟩ .f32)
    (wp : Vec Ideal ⟨2, ![256, 1024]⟩ .f32) : Vec Ideal ⟨2, ![8192, 1024]⟩ .bf16 := fun i => out x p wg wp i

end Cert.PleFwd

namespace Cert.Kernel21Ideal.RefValue

open Cert.Kernel21Ideal Cert.Kernel21Ideal.Gen Cert.PleFwd

variable (m : (ℓ : Loc nD τ sig) → Buf (Elt Ideal) ℓ)

/-- One element of a block of `x`. -/
def elemAt (x : Vec Ideal S1024x512 .f32) (r : Fin 1024) (n : Fin 512) : EReal := x (ix2 r n)

/-- The product of two blocks of the gate's projection. -/
def gateBlk (a : Vec Ideal S1024x1024 .bf16) (b : Vec Ideal S1024x512 .bf16) (r : Fin 1024) (n : Fin 512) : EReal :=
  ∑ k : Fin 1024, a (ix2 r k) * b (ix2 k n)

/-- The product of two blocks of the embedding's projection. -/
def embBlk (a : Vec Ideal S1024x256 .bf16) (b : Vec Ideal S256x512 .bf16) (r : Fin 1024) (n : Fin 512) : EReal :=
  ∑ k : Fin 256, a (ix2 r k) * b (ix2 k n)

theorem pay1_apply (a : Vec Ideal S1024x1024 .bf16) (b : Vec Ideal S1024x512 .bf16) (j : S1024x512.Idx) :
    k0_pay1 (F := Ideal) a b j = gateBlk a b (j 0) (j 1) := by
  pointwise [k0_pay1, gateBlk]

theorem pay2_apply (a : Vec Ideal S1024x256 .bf16) (b : Vec Ideal S256x512 .bf16) (j : S1024x512.Idx) :
    k0_pay2 (F := Ideal) a b j = embBlk a b (j 0) (j 1) := by
  pointwise [k0_pay2, embBlk]

theorem pay3_apply (a : Vec Ideal S1024x1024 .bf16) (b : Vec Ideal S1024x512 .bf16) (p : Vec Ideal S1024x256 .bf16)
    (w : Vec Ideal S256x512 .bf16) (x : Vec Ideal S1024x512 .f32) (j : S1024x512.Idx) :
    k0_pay3 (F := Ideal) a b p w x j = elemAt x (j 0) (j 1) + sigm (gateBlk a b (j 0) (j 1)) * embBlk p w (j 0) (j 1) := by
  pointwise [k0_pay3, sigm, elemAt]
  simp only [pay1_apply, pay2_apply, zero_sub]

theorem pay4_apply (a : Vec Ideal S1024x1024 .bf16) (b : Vec Ideal S1024x512 .bf16) (p : Vec Ideal S1024x256 .bf16)
    (w : Vec Ideal S256x512 .bf16) (x : Vec Ideal S1024x512 .f32) (j : S1024x512.Idx) :
    k0_pay4 (F := Ideal) a b p w x j = elemAt x (j 0) (j 1) + sigm (gateBlk a b (j 0) (j 1)) * embBlk p w (j 0) (j 1) :=
  pay3_apply a b p w x j

/-- The block indices of the nine windows at a point. -/
theorem idx : ∀ t : Fin cfg0.N, win0_0.index t = ![t.val / 2, t.val % 2] ∧ win0_1.index t = ![t.val / 2, 0]
    ∧ win0_2.index t = ![t.val / 2, 0] ∧ win0_3.index t = ![0, t.val % 2] ∧ win0_4.index t = ![0, t.val % 2]
    ∧ win0_5.index t = ![t.val / 2, t.val % 2] ∧ win0_6.index t = ![t.val / 2, t.val % 2]
    ∧ win0_7.index t = ![t.val / 2, t.val % 2] ∧ win0_8.index t = ![t.val / 2, t.val % 2] :=
  (by decide +kernel : ∀ t : Fin grid0.N, _)

theorem V0 (c : Dev nD) : V m c main_v0 = m ((c : Thread nD τ).loc main_arg0) := by
  dsimp only [V, hostOps0]
  after_results
  rfl
theorem V1 (c : Dev nD) : V m c main_v1 = m ((c : Thread nD τ).loc main_arg1) := by
  dsimp only [V, hostOps0]
  after_results
  rfl
theorem V2 (c : Dev nD) : V m c main_v2 = m ((c : Thread nD τ).loc main_arg2) := by
  dsimp only [V, hostOps0]
  after_results
  rfl
theorem V3 (c : Dev nD) : V m c main_v3 = m ((c : Thread nD τ).loc main_arg3) := by
  dsimp only [V, hostOps0]
  after_results
  rfl
theorem VX (c : Dev nD) : V m c main_arg0 = m ((c : Thread nD τ).loc main_arg0) := by
  dsimp only [V, hostOps0]
  after_results

/-- A point's products and its block of `x` are the whole arrays' at the place of its block. -/
theorem gate_block (c : Dev nD) (t : Fin cfg0.N) (a : Fin 1024) (b : Fin 512) (p : Fin 8192) (q : Fin 1024)
    (hp : p.val = t.val / 2 * 1024 + a.val) (hq : q.val = t.val % 2 * 512 + b.val) :
    gateBlk (iblk m c 1 t) (iblk m c 3 t) a b = gateAt (m ((c : Thread nD τ).loc main_arg0)) (m ((c : Thread nD τ).loc main_arg2)) p q := by
  obtain ⟨-, e1, -, e3, -⟩ := idx t
  unfold gateBlk gateAt
  refine Finset.sum_congr rfl fun k _ => ?_
  congr 1
  · blk_simp [iblk, V0]; congr 1; blk_ext [e1, hp]
  · blk_simp [iblk, V2]; congr 1; blk_ext [e3, hq]

theorem emb_block (c : Dev nD) (t : Fin cfg0.N) (a : Fin 1024) (b : Fin 512) (p : Fin 8192) (q : Fin 1024)
    (hp : p.val = t.val / 2 * 1024 + a.val) (hq : q.val = t.val % 2 * 512 + b.val) :
    embBlk (iblk m c 2 t) (iblk m c 4 t) a b = embedAt (m ((c : Thread nD τ).loc main_arg1)) (m ((c : Thread nD τ).loc main_arg3)) p q := by
  obtain ⟨-, -, e2, -, e4, -⟩ := idx t
  unfold embBlk embedAt
  refine Finset.sum_congr rfl fun k _ => ?_
  congr 1
  · blk_simp [iblk, V1]; congr 1; blk_ext [e2, hp]
  · blk_simp [iblk, V3]; congr 1; blk_ext [e4, hq]

theorem out_block (c : Dev nD) (t : Fin cfg0.N) (a : Fin 1024) (b : Fin 512) (p : Fin 8192) (q : Fin 1024)
    (hp : p.val = t.val / 2 * 1024 + a.val) (hq : q.val = t.val % 2 * 512 + b.val) :
    elemAt (iblk m c 0 t) a b + sigm (gateBlk (iblk m c 1 t) (iblk m c 3 t) a b) * embBlk (iblk m c 2 t) (iblk m c 4 t) a b
      = out (m ((c : Thread nD τ).loc main_arg0)) (m ((c : Thread nD τ).loc main_arg1)) (m ((c : Thread nD τ).loc main_arg2)) (m ((c : Thread nD τ).loc main_arg3)) (ix2 p q) := by
  rw [gate_block m c t a b p q hp hq, emb_block m c t a b p q hp hq]
  obtain ⟨e0, -⟩ := idx t
  have h : elemAt (iblk m c 0 t) a b = m ((c : Thread nD τ).loc main_arg0) (ix2 p q) := by
    unfold elemAt; blk_simp [iblk, VX]; congr 1; blk_ext [e0, hp, hq]
  rw [h]
  rfl

theorem final5 (c : Dev nD) : (dats m 0 c).arrAt 5 cfg0.N
    = out (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨-, -, -, -, -, e, -⟩ := idx t
  blk_simp
  rw [after0_5]
  unfold out0_5
  frame_out
  rw [pay3_apply]
  exact out_block m c t (y 0) (y 1) ((((cfg0.win 5).blk t).view.emb y) 0) ((((cfg0.win 5).blk t).view.emb y) 1)
    (by blk_simp [e]) (by blk_simp [e])

theorem final6 (c : Dev nD) : (dats m 0 c).arrAt 6 cfg0.N
    = outb (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  obtain ⟨-, -, -, -, -, -, e, -⟩ := idx t
  blk_simp
  rw [after0_6]
  unfold out0_6
  frame_out
  rw [pay4_apply]
  exact out_block m c t (y 0) (y 1) ((((cfg0.win 6).blk t).view.emb y) 0) ((((cfg0.win 6).blk t).view.emb y) 1)
    (by blk_simp [e]) (by blk_simp [e])

theorem final7 (c : Dev nD) : (dats m 0 c).arrAt 7 cfg0.N
    = gate (m ((c : Thread nD τ).loc main_arg0)) (m ((c : Thread nD τ).loc main_arg2)) := by
  refine (dats m 0 c).arrAt_eq_of_covers 7 _ (by decide +kernel) fun t hf y => ?_
  obtain ⟨-, -, -, -, -, -, -, e, -⟩ := idx t
  blk_simp
  rw [after0_7]
  unfold out0_7
  frame_out
  rw [pay1_apply]
  exact gate_block m c t (y 0) (y 1) _ _ (by blk_simp [e]) (by blk_simp [e])

theorem final8 (c : Dev nD) : (dats m 0 c).arrAt 8 cfg0.N
    = embed (m ((c : Thread nD τ).loc main_arg1)) (m ((c : Thread nD τ).loc main_arg3)) := by
  refine (dats m 0 c).arrAt_eq_of_covers 8 _ (by decide +kernel) fun t hf y => ?_
  obtain ⟨-, -, -, -, -, -, -, -, e⟩ := idx t
  blk_simp
  rw [after0_8]
  unfold out0_8
  frame_out
  rw [pay2_apply]
  exact emb_block m c t (y 0) (y 1) _ _ (by blk_simp [e]) (by blk_simp [e])

end Cert.Kernel21Ideal.RefValue

namespace Cert.Reference21Ideal.RefValue

open Cert.Reference21Ideal Cert.Reference21Ideal.Read Cert.PleFwd

variable (x0 : Vec Ideal S8192x1024 .f32) (x1 : Vec Ideal S8192x256 .f32) (x2 : Vec Ideal S1024x1024 .f32)
  (x3 : Vec Ideal S256x1024 .f32)

theorem gate_apply (i : S8192x1024.Idx) : val_main_v0 (F := Ideal) x0 x2 i = gate x0 x2 i := by
  pointwise [val_main_v0, gate, gateAt]

theorem emb_apply (i : S8192x1024.Idx) : val_main_v1 (F := Ideal) x1 x3 i = embed x1 x3 i := by
  pointwise [val_main_v1, embed, embedAt]

theorem out_apply (i : S8192x1024.Idx) : val_main_v9 (F := Ideal) x0 x1 x2 x3 i = out x0 x1 x2 x3 i := by
  pointwise [val_main_v9, val_main_v8, val_main_v7, val_main_v6, val_main_v5, val_main_v4, val_main_v3, val_main_v2, val_main_cst, val_main_cst_0, out, sigm]
  simp only [gate_apply, emb_apply]
  rfl

end Cert.Reference21Ideal.RefValue

namespace Cert.PleFwd

theorem algebraic : Cert.algebraic_Kernel21Ideal_Reference21Ideal := by
  pair_intro
  · run_from Cert.Kernel21Ideal.Value.run_blocks m g
  · refine (θ_run _ _ _).mono (fun r h c => ?_) (Cert.Reference21Ideal.Value.run m' g')
    obtain ⟨h5, h6, h7, h8, hk⟩ := h c
    obtain ⟨e0, e1, e2, e3⟩ := hagree c
    refine ⟨h5.trans ?_, h6.trans ?_, h7.trans ?_, h8.trans ?_, hk⟩
    · rw [Cert.Kernel21Ideal.RefValue.final5 m c, Cert.Reference21Ideal.Read.val_main_v9_eq, e0, e1, e2, e3]
      exact funext fun i => Cert.Reference21Ideal.RefValue.out_apply _ _ _ _ i
    · rw [Cert.Kernel21Ideal.RefValue.final6 m c, Cert.Reference21Ideal.Read.val_main_v10_eq, e0, e1, e2, e3]
      exact funext fun i => Cert.Reference21Ideal.RefValue.out_apply _ _ _ _ i
    · rw [Cert.Kernel21Ideal.RefValue.final7 m c, Cert.Reference21Ideal.Read.val_main_v0_eq, e0, e2]
      exact funext fun i => Cert.Reference21Ideal.RefValue.gate_apply _ _ i
    · rw [Cert.Kernel21Ideal.RefValue.final8 m c, Cert.Reference21Ideal.Read.val_main_v1_eq, e1, e3]
      exact funext fun i => Cert.Reference21Ideal.RefValue.emb_apply _ _ i

end Cert.PleFwd

end
-- ==== Proof.PleBwd.lean ====
/- The cotangents of a layer's output, of its gate's projection and of its embedding's projection. -/
module

public import proofs.«01_k».proof.Defs
public import proofs.«01_k».proof.Proof.Gen.Kernel22Ideal.Value
public import proofs.«01_k».proof.Proof.Gen.Reference22Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.PleBwd

/-- The logistic function. -/
def sigm (x : EReal) : EReal := Ideal.div 1 (1 + Ideal.exp (-x))

/-- The output's cotangent at a place: the two it is handed, the first one scaled. -/
def dyAt (a b : EReal) : EReal := Ideal.ofBits .f32 0x3FD744FD#32 * a + b

/-- The output's cotangent, which the layer's own input has too. -/
def dx (ga gb : Vec Ideal ⟨2, ![8192, 1024]⟩ .f32) : Vec Ideal ⟨2, ![8192, 1024]⟩ .f32 := fun i => dyAt (ga i) (gb i)

/-- The cotangent of the gate's projection. -/
def du (ga gb u e : Vec Ideal ⟨2, ![8192, 1024]⟩ .f32) : Vec Ideal ⟨2, ![8192, 1024]⟩ .bf16 := fun i =>
  dyAt (ga i) (gb i) * e i * (sigm (u i) * (1 - sigm (u i)))

/-- The cotangent of the embedding's projection. -/
def de (ga gb u : Vec Ideal ⟨2, ![8192, 1024]⟩ .f32) : Vec Ideal ⟨2, ![8192, 1024]⟩ .bf16 := fun i => sigm (u i) * dyAt (ga i) (gb i)

end Cert.PleBwd

namespace Cert.Kernel22Ideal.RefValue

open Cert.Kernel22Ideal Cert.Kernel22Ideal.Gen Cert.PleBwd

variable (m : (ℓ : Loc nD τ sig) → Buf (Elt Ideal) ℓ)

theorem pay1_apply (a b : Vec Ideal S512x1024 .f32) (j : S512x1024.Idx) : k0_pay1 (F := Ideal) a b j = dyAt (a j) (b j) := by
  pointwise [k0_pay1, dyAt]

theorem pay2_apply (u : Vec Ideal S512x1024 .f32) (j : S512x1024.Idx) : k0_pay2 (F := Ideal) u j = sigm (u j) := by
  pointwise [k0_pay2, sigm]
  rw [zero_sub]

theorem pay3_apply (a b u e : Vec Ideal S512x1024 .f32) (j : S512x1024.Idx) :
    k0_pay3 (F := Ideal) a b u e j = dyAt (a j) (b j) * e j * (sigm (u j) * (1 - sigm (u j))) := by
  pointwise [k0_pay3]
  simp only [pay1_apply, pay2_apply]
  rw [mul_assoc]

theorem pay4_apply (a b u : Vec Ideal S512x1024 .f32) (j : S512x1024.Idx) :
    k0_pay4 (F := Ideal) a b u j = sigm (u j) * dyAt (a j) (b j) := by
  pointwise [k0_pay4]
  simp only [pay1_apply, pay2_apply]
  rw [mul_comm]

/-- The block indices of the seven windows at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] :=
  (by decide +kernel : ∀ t : Fin grid0.N, _)

theorem V0 (c : Dev nD) : V m c main_arg0 = m ((c : Thread nD τ).loc main_arg0) := by
  rfl
theorem V1 (c : Dev nD) : V m c main_arg1 = m ((c : Thread nD τ).loc main_arg1) := by
  rfl
theorem V2 (c : Dev nD) : V m c main_arg2 = m ((c : Thread nD τ).loc main_arg2) := by
  rfl
theorem V3 (c : Dev nD) : V m c main_arg3 = m ((c : Thread nD τ).loc main_arg3) := by
  rfl

/-- The four input blocks at a point are the arrays at the place of its block. -/
theorem loads (c : Dev nD) (t : Fin cfg0.N) (y : S512x1024.Idx) (p : S8192x1024.Idx)
    (h0 : (p 0).val = t.val * 512 + (y 0).val) (h1 : (p 1).val = (y 1).val) :
    iblk m c 0 t y = m ((c : Thread nD τ).loc main_arg0) p ∧ iblk m c 1 t y = m ((c : Thread nD τ).loc main_arg1) p
      ∧ iblk m c 2 t y = m ((c : Thread nD τ).loc main_arg2) p ∧ iblk m c 3 t y = m ((c : Thread nD τ).loc main_arg3) p := by
  obtain ⟨e0, e1, e2, e3, -⟩ := idx t
  refine ⟨?_, ?_, ?_, ?_⟩
  · blk_simp [iblk, V0]; congr 1; blk_ext [e0, h0, h1]
  · blk_simp [iblk, V1]; congr 1; blk_ext [e1, h0, h1]
  · blk_simp [iblk, V2]; congr 1; blk_ext [e2, h0, h1]
  · blk_simp [iblk, V3]; congr 1; blk_ext [e3, h0, h1]

theorem final4 (c : Dev nD) : (dats m 0 c).arrAt 4 cfg0.N
    = dx (m ((c : Thread nD τ).loc main_arg0)) (m ((c : Thread nD τ).loc main_arg1)) := by
  refine (dats m 0 c).arrAt_eq_of_covers 4 _ (by decide +kernel) fun t hf y => ?_
  obtain ⟨-, -, -, -, e, -⟩ := idx t
  blk_simp
  rw [after0_4]
  unfold out0_4
  frame_out
  rw [pay1_apply]
  obtain ⟨l0, l1, l2, l3⟩ := loads m c t y (((cfg0.win 4).blk t).view.emb y) (by blk_simp [e]) (by blk_simp [e])
  simp only [l0, l1]
  rfl

theorem final5 (c : Dev nD) : (dats m 0 c).arrAt 5 cfg0.N
    = du (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨-, -, -, -, -, e, -⟩ := idx t
  blk_simp
  rw [after0_5]
  unfold out0_5
  frame_out
  rw [pay3_apply]
  obtain ⟨l0, l1, l2, l3⟩ := loads m c t y (((cfg0.win 5).blk t).view.emb y) (by blk_simp [e]) (by blk_simp [e])
  simp only [l0, l1, l2, l3]
  rfl

theorem final6 (c : Dev nD) : (dats m 0 c).arrAt 6 cfg0.N
    = de (m ((c : Thread nD τ).loc main_arg0)) (m ((c : Thread nD τ).loc main_arg1)) (m ((c : Thread nD τ).loc main_arg2)) := by
  refine (dats m 0 c).arrAt_eq_of_covers 6 _ (by decide +kernel) fun t hf y => ?_
  obtain ⟨-, -, -, -, -, -, e⟩ := idx t
  blk_simp
  rw [after0_6]
  unfold out0_6
  frame_out
  rw [pay4_apply]
  obtain ⟨l0, l1, l2, l3⟩ := loads m c t y (((cfg0.win 6).blk t).view.emb y) (by blk_simp [e]) (by blk_simp [e])
  simp only [l0, l1, l2]
  rfl

end Cert.Kernel22Ideal.RefValue

namespace Cert.Reference22Ideal.RefValue

open Cert.Reference22Ideal Cert.Reference22Ideal.Read Cert.PleBwd

variable (x0 x1 x2 x3 : Vec Ideal S8192x1024 .f32)

theorem dx_apply (i : S8192x1024.Idx) : val_main_v2 (F := Ideal) x0 x1 i = dx x0 x1 i := by
  pointwise [val_main_v2, val_main_v1, val_main_v0, val_main_cst, dx, dyAt]

theorem sigm_apply (i : S8192x1024.Idx) : val_main_v9 (F := Ideal) x2 i = sigm (x2 i) := by
  pointwise [val_main_v9, val_main_v8, val_main_v7, val_main_v6, val_main_v5, val_main_v4, val_main_cst_1, val_main_cst_2, sigm]

theorem du_apply (i : S8192x1024.Idx) : val_main_v18 (F := Ideal) x0 x1 x2 x3 i = du x0 x1 x2 x3 i := by
  pointwise [val_main_v18, val_main_v17, val_main_v16, val_main_v12, val_main_v11, val_main_v10, val_main_cst_3, du]
  simp only [dx_apply, sigm_apply]
  rfl

theorem de_apply (i : S8192x1024.Idx) : val_main_v19 (F := Ideal) x0 x1 x2 i = de x0 x1 x2 i := by
  pointwise [val_main_v19, val_main_v15, de]
  simp only [dx_apply, sigm_apply]
  rfl

end Cert.Reference22Ideal.RefValue

namespace Cert.PleBwd

theorem algebraic : Cert.algebraic_Kernel22Ideal_Reference22Ideal := by
  pair_intro
  · run_from Cert.Kernel22Ideal.Value.run_blocks m g
  · refine (θ_run _ _ _).mono (fun r h c => ?_) (Cert.Reference22Ideal.Value.run m' g')
    obtain ⟨h4, h5, h6, hk⟩ := h c
    obtain ⟨e0, e1, e2, e3⟩ := hagree c
    refine ⟨h4.trans ?_, h5.trans ?_, h6.trans ?_, hk⟩
    · rw [Cert.Kernel22Ideal.RefValue.final4 m c, Cert.Reference22Ideal.Read.val_main_v2_eq, e0, e1]
      exact funext fun i => Cert.Reference22Ideal.RefValue.dx_apply _ _ i
    · rw [Cert.Kernel22Ideal.RefValue.final5 m c, Cert.Reference22Ideal.Read.val_main_v18_eq, e0, e1, e2, e3]
      exact funext fun i => Cert.Reference22Ideal.RefValue.du_apply _ _ _ _ i
    · rw [Cert.Kernel22Ideal.RefValue.final6 m c, Cert.Reference22Ideal.Read.val_main_v19_eq, e0, e1, e2]
      exact funext fun i => Cert.Reference22Ideal.RefValue.de_apply _ _ _ i

end Cert.PleBwd

end
-- ==== Proof.PleDwProj.lean ====
/- The gradient of the weight of the embedding's projection: the kernel adds the products of four blocks of 2048 rows, the
   reference is one contraction. -/
module

public import proofs.«01_k».proof.Defs
public import proofs.«01_k».proof.Proof.Gen.Kernel23Ideal.Value
public import proofs.«01_k».proof.Proof.Gen.Reference23Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.Kernel23Ideal.RefValue

open Cert.Kernel23Ideal Cert.Kernel23Ideal.Gen

variable (m : (ℓ : Loc nD τ sig) → Buf (Elt Ideal) ℓ)

/-- Row `i 0` of the transposed embedding with column `i 1` of the cotangent. -/
def grad (x0 : Vec Ideal S8192x256 .f32) (x1 : Vec Ideal S8192x1024 .f32) : Vec Ideal S256x1024 .f32 := fun i =>
  ∑ r : Fin 8192, x0 (ix2 r (i 0)) * x1 (ix2 r (i 1))

/-- One point's product of two blocks, added to what the scratch holds. -/
theorem pay2_apply (a : Vec Ideal S2048x256 .bf16) (b : Vec Ideal S2048x1024 .bf16) (acc : Vec Ideal S256x1024 .f32)
    (j : S256x1024.Idx) :
    k0_pay2 (F := Ideal) a b acc j = acc j + ∑ k : Fin 2048, a (ix2 k (j 0)) * b (ix2 k (j 1)) := by
  pointwise [k0_pay2]

theorem pay1_apply (j : S256x1024.Idx) : k0_pay1 (F := Ideal) j = 0 := by
  pointwise [k0_pay1]

/-- The block indices of the three windows at a point. -/
theorem idx : ∀ t : Fin cfg0.N, win0_0.index t = ![t.val % 4, 0] ∧ win0_1.index t = ![t.val % 4, 0]
    ∧ win0_2.index t = ![0, 0] :=
  (by decide +kernel : ∀ t : Fin grid0.N, _)

theorem V0 (c : Dev nD) : V m c main_v0 = m ((c : Thread nD τ).loc main_arg0) := by
  dsimp only [V, hostOps0]
  after_results
  rfl
theorem V1 (c : Dev nD) : V m c main_v1 = m ((c : Thread nD τ).loc main_arg1) := by
  dsimp only [V, hostOps0]
  after_results
  rfl

/-- At a point that writes back, the result block is what the scratch holds. -/
theorem out_eq_scratch (c : Dev nD) (t : Fin cfg0.N) (h0 : ¬t.val % 4 = 0) (h1 : t.val % 4 = 3) :
    (outsAt0 m c t.val t.isLt).1 = (outsAt0 m c t.val t.isLt).2 := by
  rw [outsAt0_C m c t h0 h1]
  frame_out

/-- The product of two blocks. -/
def prod (a : Vec Ideal S2048x256 .bf16) (b : Vec Ideal S2048x1024 .bf16) (j : S256x1024.Idx) : EReal :=
  ∑ k : Fin 2048, a (ix2 k (j 0)) * b (ix2 k (j 1))

/-- The product of one point. -/
def term (c : Dev nD) (t : Fin cfg0.N) (j : S256x1024.Idx) : EReal := prod (iblk m c 0 t) (iblk m c 1 t) j

/-- What the scratch holds at a point that writes back: the sum of its run's 4 products. -/
theorem scratch_eq (c : Dev nD) (t : Fin cfg0.N) (h : t.val % 4 = 3) (j : S256x1024.Idx) :
    (outsAt0 m c t.val t.isLt).2 j
      = ∑ s : Fin 4, term m c ⟨4 * (t.val / 4) + s.val, Pipeline.run_point_lt_of_flush t h s⟩ j := by
  rw [Pipeline.eq_sum_fin_of_reset_step_apply_of_flush (fun n h => (outsAt0 m c n h).2) 4 (fun _ => 0) (term m c)
    (fun t h0 j => by
      rw [outsAt0_A m c t h0 (by omega)]
      frame_out
      rw [pay2_apply, pay1_apply]
      rfl)
    (fun t h0 j => by
      by_cases h1 : t.val % 4 = 3
      · rw [outsAt0_C m c t h0 h1]
        frame_out
        rw [pay2_apply, Memref.IsWhole.read_unread (m := Memref.whole cc0_scratch0)]
        rfl
      · rw [outsAt0_B m c t h0 h1]
        frame_out
        rw [pay2_apply, Memref.IsWhole.read_unread (m := Memref.whole cc0_scratch0)]
        rfl) t h j, zero_add]

/-- The result array after the run. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, out_eq_scratch m c t (by omega) h3, scratch_eq m c t h3]
  unfold term prod grad
  refine Fin.sum_mul_add_congr fun s k hl => ?_
  congr 1 <;> blk_ext [iblk, V0, V1, idx ⟨4 * (t.val / 4) + s.val, Pipeline.run_point_lt_of_flush t h3 s⟩, idx t]

end Cert.Kernel23Ideal.RefValue

namespace Cert.Reference23Ideal.RefValue

open Cert.Reference23Ideal Cert.Reference23Ideal.Read

/-- The reference's result at an index. -/
theorem ref_apply (x0 : Vec Ideal S8192x256 .f32) (x1 : Vec Ideal S8192x1024 .f32) (i : S256x1024.Idx) :
    val_main_v3 (F := Ideal) x0 x1 i = Cert.Kernel23Ideal.RefValue.grad x0 x1 i := by
  pointwise [val_main_v3, val_main_v2, Cert.Kernel23Ideal.RefValue.grad]
  exact Finset.sum_congr rfl fun _ _ => mul_comm _ _

end Cert.Reference23Ideal.RefValue

namespace Cert.PleDwProj

theorem algebraic : Cert.algebraic_Kernel23Ideal_Reference23Ideal := by
  pair_intro
  · run_from Cert.Kernel23Ideal.Value.run_blocks m g
  · refine (θ_run _ _ _).mono (fun r h c => ?_) (Cert.Reference23Ideal.Value.run m' g')
    obtain ⟨h, h0, h1⟩ := h c
    refine ⟨h.trans ?_, h0, h1⟩
    rw [Cert.Kernel23Ideal.RefValue.final m c, Cert.Reference23Ideal.Read.val_main_v3_eq]
    obtain ⟨e0, e1⟩ := hagree c
    rw [e0, e1]
    funext i
    exact Cert.Reference23Ideal.RefValue.ref_apply _ _ i

end Cert.PleDwProj

end
-- ==== Proof.lean ====
module

public import proofs.«01_k».proof.Defs
public import proofs.«01_k».proof.Proof.Gen.Reference24Ideal.Read
public import proofs.«01_k».proof.Proof.Gen.Kernel24Ideal.Points
public import proofs.«01_k».proof.Proof.Gen.Kernel24Ideal.Launch
public import proofs.«01_k».proof.Proof.Gen.Kernel24Ideal.Skeleton
public import proofs.«01_k».proof.Proof.Gen.Kernel24.Points
public import proofs.«01_k».proof.Proof.Gen.Kernel24.Launch
public import proofs.«01_k».proof.Proof.Gen.Kernel24.Skeleton
public import proofs.«01_k».proof.Proof.Gen.Kernel23.Frame
public import proofs.«01_k».proof.Proof.Gen.Kernel22.Frame
public import proofs.«01_k».proof.Proof.Gen.Kernel21.Frame
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.BandRun
public import proofs.«01_k».proof.Proof.BandRunBits
public import proofs.«01_k».proof.Proof.SbRun
public import proofs.«01_k».proof.Proof.SbRunBits
public import proofs.«01_k».proof.Proof.SbFwd
public import proofs.«01_k».proof.Proof.Gen.Reference24Ideal.Run
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel2.Frame
public import proofs.«01_k».proof.Proof.FfnDact
public import proofs.«01_k».proof.Proof.DwOut
public import proofs.«01_k».proof.Proof.DwIn
public import proofs.«01_k».proof.Proof.Dx
public import proofs.«01_k».proof.Proof.FfnIn
public import proofs.«01_k».proof.Proof.FfnOutLn
public import proofs.«01_k».proof.Proof.ProjLn
public import proofs.«01_k».proof.Proof.DilDwIn
public import proofs.«01_k».proof.Proof.DilDx
public import proofs.«01_k».proof.Proof.DilQkv
public import proofs.«01_k».proof.Proof.SbDwIn
public import proofs.«01_k».proof.Proof.SbDx
public import proofs.«01_k».proof.Proof.SbQkv
public import proofs.«01_k».proof.Proof.SwaDwIn
public import proofs.«01_k».proof.Proof.SwaDx
public import proofs.«01_k».proof.Proof.SwaQkv
public import proofs.«01_k».proof.Proof.SquareDw
public import proofs.«01_k».proof.Proof.ProjDo
public import proofs.«01_k».proof.Proof.PleDx
public import proofs.«01_k».proof.Proof.PleFwd
public import proofs.«01_k».proof.Proof.PleBwd
public import proofs.«01_k».proof.Proof.PleDwProj
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import Idealize.ShloMosaic.Adequacy
public import Idealize.ShloMosaic.Init

@[expose] public section

noncomputable section

namespace Cert.Proof

open Idealize.ShloMosaic Idealize.SL.Sem Cert.Kernel

/-- The reference's frame: its operations write none of the arguments, and it has no semaphore. -/
theorem quiet_reference (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal)))
      ⟨m, fun _ => 0, ρ⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4))
      ∧ r.2.sem = fun _ => 0) :=
  (θ_run ReferenceIdeal.defs _ _).mono
    (fun r h => ⟨fun c => (h c).2.2.2, sem_eq_zero_of_no_sems (by decide) r.2⟩)
    (ReferenceIdeal.Value.run (F := Ideal) m ρ)

/-- The frame of the reference of the gated unit's gradient, in the same way. -/
theorem quiet_reference2 (m : (ℓ : Loc Reference2Ideal.nD Reference2Ideal.τ Reference2Ideal.sig) → Buf (Elt Ideal) ℓ)
    (ρ : Dev Reference2Ideal.nD → PrngReg) :
    θ_run (Reference2Ideal.defs (F := Ideal)) (onTc (τ := Reference2Ideal.τ) (Reference2Ideal.main (F := Ideal)))
      ⟨m, fun _ => 0, ρ⟩ (fun r => (∀ c : Dev Reference2Ideal.nD,
      r.2.mem ((c.tc : Thread Reference2Ideal.nD Reference2Ideal.τ).loc Reference2Ideal.main_arg0) = m ((c.tc : Thread Reference2Ideal.nD Reference2Ideal.τ).loc Reference2Ideal.main_arg0)
      ∧ r.2.mem ((c.tc : Thread Reference2Ideal.nD Reference2Ideal.τ).loc Reference2Ideal.main_arg1) = m ((c.tc : Thread Reference2Ideal.nD Reference2Ideal.τ).loc Reference2Ideal.main_arg1)
      ∧ r.2.mem ((c.tc : Thread Reference2Ideal.nD Reference2Ideal.τ).loc Reference2Ideal.main_arg2) = m ((c.tc : Thread Reference2Ideal.nD Reference2Ideal.τ).loc Reference2Ideal.main_arg2)
      ∧ r.2.mem ((c.tc : Thread Reference2Ideal.nD Reference2Ideal.τ).loc Reference2Ideal.main_arg3) = m ((c.tc : Thread Reference2Ideal.nD Reference2Ideal.τ).loc Reference2Ideal.main_arg3))
      ∧ r.2.sem = fun _ => 0) :=
  (θ_run Reference2Ideal.defs _ _).mono
    (fun r h => ⟨fun c => (h c).2, sem_eq_zero_of_no_sems (by decide) r.2⟩)
    (Reference2Ideal.Value.run (F := Ideal) m ρ)

/-- The frame of the reference of the product for the down projection's weight, in the same way. -/
theorem quiet_reference3 (m : (ℓ : Loc Reference3Ideal.nD Reference3Ideal.τ Reference3Ideal.sig) → Buf (Elt Ideal) ℓ)
    (ρ : Dev Reference3Ideal.nD → PrngReg) :
    θ_run (Reference3Ideal.defs (F := Ideal)) (onTc (τ := Reference3Ideal.τ) (Reference3Ideal.main (F := Ideal)))
      ⟨m, fun _ => 0, ρ⟩ (fun r => (∀ c : Dev Reference3Ideal.nD,
      r.2.mem ((c.tc : Thread Reference3Ideal.nD Reference3Ideal.τ).loc Reference3Ideal.main_arg0) = m ((c.tc : Thread Reference3Ideal.nD Reference3Ideal.τ).loc Reference3Ideal.main_arg0)
      ∧ r.2.mem ((c.tc : Thread Reference3Ideal.nD Reference3Ideal.τ).loc Reference3Ideal.main_arg1) = m ((c.tc : Thread Reference3Ideal.nD Reference3Ideal.τ).loc Reference3Ideal.main_arg1))
      ∧ r.2.sem = fun _ => 0) :=
  (θ_run Reference3Ideal.defs _ _).mono
    (fun r h => ⟨fun c => (h c).2, sem_eq_zero_of_no_sems (by decide) r.2⟩)
    (Reference3Ideal.Value.run (F := Ideal) m ρ)

/-- The frame of the reference of the product for the gated projection's weight, in the same way. -/
theorem quiet_reference4 (m : (ℓ : Loc Reference4Ideal.nD Reference4Ideal.τ Reference4Ideal.sig) → Buf (Elt Ideal) ℓ)
    (ρ : Dev Reference4Ideal.nD → PrngReg) :
    θ_run (Reference4Ideal.defs (F := Ideal)) (onTc (τ := Reference4Ideal.τ) (Reference4Ideal.main (F := Ideal)))
      ⟨m, fun _ => 0, ρ⟩ (fun r => (∀ c : Dev Reference4Ideal.nD,
      r.2.mem ((c.tc : Thread Reference4Ideal.nD Reference4Ideal.τ).loc Reference4Ideal.main_arg0) = m ((c.tc : Thread Reference4Ideal.nD Reference4Ideal.τ).loc Reference4Ideal.main_arg0)
      ∧ r.2.mem ((c.tc : Thread Reference4Ideal.nD Reference4Ideal.τ).loc Reference4Ideal.main_arg1) = m ((c.tc : Thread Reference4Ideal.nD Reference4Ideal.τ).loc Reference4Ideal.main_arg1)
      ∧ r.2.mem ((c.tc : Thread Reference4Ideal.nD Reference4Ideal.τ).loc Reference4Ideal.main_arg2) = m ((c.tc : Thread Reference4Ideal.nD Reference4Ideal.τ).loc Reference4Ideal.main_arg2))
      ∧ r.2.sem = fun _ => 0) :=
  (θ_run Reference4Ideal.defs _ _).mono
    (fun r h => ⟨fun c => (h c).2, sem_eq_zero_of_no_sems (by decide) r.2⟩)
    (Reference4Ideal.Value.run (F := Ideal) m ρ)

/-- The frame of the reference of the product for the gated projection's input, in the same way. -/
theorem quiet_reference5 (m : (ℓ : Loc Reference5Ideal.nD Reference5Ideal.τ Reference5Ideal.sig) → Buf (Elt Ideal) ℓ)
    (ρ : Dev Reference5Ideal.nD → PrngReg) :
    θ_run (Reference5Ideal.defs (F := Ideal)) (onTc (τ := Reference5Ideal.τ) (Reference5Ideal.main (F := Ideal)))
      ⟨m, fun _ => 0, ρ⟩ (fun r => (∀ c : Dev Reference5Ideal.nD,
      r.2.mem ((c.tc : Thread Reference5Ideal.nD Reference5Ideal.τ).loc Reference5Ideal.main_arg0) = m ((c.tc : Thread Reference5Ideal.nD Reference5Ideal.τ).loc Reference5Ideal.main_arg0)
      ∧ r.2.mem ((c.tc : Thread Reference5Ideal.nD Reference5Ideal.τ).loc Reference5Ideal.main_arg1) = m ((c.tc : Thread Reference5Ideal.nD Reference5Ideal.τ).loc Reference5Ideal.main_arg1)
      ∧ r.2.mem ((c.tc : Thread Reference5Ideal.nD Reference5Ideal.τ).loc Reference5Ideal.main_arg2) = m ((c.tc : Thread Reference5Ideal.nD Reference5Ideal.τ).loc Reference5Ideal.main_arg2))
      ∧ r.2.sem = fun _ => 0) :=
  (θ_run Reference5Ideal.defs _ _).mono
    (fun r h => ⟨fun c => (h c).2, sem_eq_zero_of_no_sems (by decide) r.2⟩)
    (Reference5Ideal.Value.run (F := Ideal) m ρ)

/-- The frame of the reference of the feed-forward layer's up projections, in the same way. -/
theorem quiet_reference6 (m : (ℓ : Loc Reference6Ideal.nD Reference6Ideal.τ Reference6Ideal.sig) → Buf (Elt Ideal) ℓ)
    (ρ : Dev Reference6Ideal.nD → PrngReg) :
    θ_run (Reference6Ideal.defs (F := Ideal)) (onTc (τ := Reference6Ideal.τ) (Reference6Ideal.main (F := Ideal)))
      ⟨m, fun _ => 0, ρ⟩ (fun r => (∀ c : Dev Reference6Ideal.nD,
      r.2.mem ((c.tc : Thread Reference6Ideal.nD Reference6Ideal.τ).loc Reference6Ideal.main_arg0) = m ((c.tc : Thread Reference6Ideal.nD Reference6Ideal.τ).loc Reference6Ideal.main_arg0)
      ∧ r.2.mem ((c.tc : Thread Reference6Ideal.nD Reference6Ideal.τ).loc Reference6Ideal.main_arg1) = m ((c.tc : Thread Reference6Ideal.nD Reference6Ideal.τ).loc Reference6Ideal.main_arg1))
      ∧ r.2.sem = fun _ => 0) :=
  (θ_run Reference6Ideal.defs _ _).mono
    (fun r h => ⟨fun c => (h c).2.2.2, sem_eq_zero_of_no_sems (by decide) r.2⟩)
    (Reference6Ideal.Value.run (F := Ideal) m ρ)

/-- The frame of the reference of the feed-forward layer's output, in the same way. -/
theorem quiet_reference7 (m : (ℓ : Loc Reference7Ideal.nD Reference7Ideal.τ Reference7Ideal.sig) → Buf (Elt Ideal) ℓ)
    (ρ : Dev Reference7Ideal.nD → PrngReg) :
    θ_run (Reference7Ideal.defs (F := Ideal)) (onTc (τ := Reference7Ideal.τ) (Reference7Ideal.main (F := Ideal)))
      ⟨m, fun _ => 0, ρ⟩ (fun r => (∀ c : Dev Reference7Ideal.nD,
      r.2.mem ((c.tc : Thread Reference7Ideal.nD Reference7Ideal.τ).loc Reference7Ideal.main_arg0) = m ((c.tc : Thread Reference7Ideal.nD Reference7Ideal.τ).loc Reference7Ideal.main_arg0)
      ∧ r.2.mem ((c.tc : Thread Reference7Ideal.nD Reference7Ideal.τ).loc Reference7Ideal.main_arg1) = m ((c.tc : Thread Reference7Ideal.nD Reference7Ideal.τ).loc Reference7Ideal.main_arg1)
      ∧ r.2.mem ((c.tc : Thread Reference7Ideal.nD Reference7Ideal.τ).loc Reference7Ideal.main_arg2) = m ((c.tc : Thread Reference7Ideal.nD Reference7Ideal.τ).loc Reference7Ideal.main_arg2)
      ∧ r.2.mem ((c.tc : Thread Reference7Ideal.nD Reference7Ideal.τ).loc Reference7Ideal.main_arg3) = m ((c.tc : Thread Reference7Ideal.nD Reference7Ideal.τ).loc Reference7Ideal.main_arg3)
      ∧ r.2.mem ((c.tc : Thread Reference7Ideal.nD Reference7Ideal.τ).loc Reference7Ideal.main_arg4) = m ((c.tc : Thread Reference7Ideal.nD Reference7Ideal.τ).loc Reference7Ideal.main_arg4))
      ∧ r.2.sem = fun _ => 0) :=
  (θ_run Reference7Ideal.defs _ _).mono
    (fun r h => ⟨fun c => (h c).2.2.2.2, sem_eq_zero_of_no_sems (by decide) r.2⟩)
    (Reference7Ideal.Value.run (F := Ideal) m ρ)

/-- The frame of the reference of a mixer's output projection, in the same way. -/
theorem quiet_reference8 (m : (ℓ : Loc Reference8Ideal.nD Reference8Ideal.τ Reference8Ideal.sig) → Buf (Elt Ideal) ℓ)
    (ρ : Dev Reference8Ideal.nD → PrngReg) :
    θ_run (Reference8Ideal.defs (F := Ideal)) (onTc (τ := Reference8Ideal.τ) (Reference8Ideal.main (F := Ideal)))
      ⟨m, fun _ => 0, ρ⟩ (fun r => (∀ c : Dev Reference8Ideal.nD,
      r.2.mem ((c.tc : Thread Reference8Ideal.nD Reference8Ideal.τ).loc Reference8Ideal.main_arg0) = m ((c.tc : Thread Reference8Ideal.nD Reference8Ideal.τ).loc Reference8Ideal.main_arg0)
      ∧ r.2.mem ((c.tc : Thread Reference8Ideal.nD Reference8Ideal.τ).loc Reference8Ideal.main_arg1) = m ((c.tc : Thread Reference8Ideal.nD Reference8Ideal.τ).loc Reference8Ideal.main_arg1)
      ∧ r.2.mem ((c.tc : Thread Reference8Ideal.nD Reference8Ideal.τ).loc Reference8Ideal.main_arg2) = m ((c.tc : Thread Reference8Ideal.nD Reference8Ideal.τ).loc Reference8Ideal.main_arg2)
      ∧ r.2.mem ((c.tc : Thread Reference8Ideal.nD Reference8Ideal.τ).loc Reference8Ideal.main_arg3) = m ((c.tc : Thread Reference8Ideal.nD Reference8Ideal.τ).loc Reference8Ideal.main_arg3)
      ∧ r.2.mem ((c.tc : Thread Reference8Ideal.nD Reference8Ideal.τ).loc Reference8Ideal.main_arg4) = m ((c.tc : Thread Reference8Ideal.nD Reference8Ideal.τ).loc Reference8Ideal.main_arg4))
      ∧ r.2.sem = fun _ => 0) :=
  (θ_run Reference8Ideal.defs _ _).mono
    (fun r h => ⟨fun c => (h c).2.2.2.2, sem_eq_zero_of_no_sems (by decide) r.2⟩)
    (Reference8Ideal.Value.run (F := Ideal) m ρ)

/-- The frame of the reference of the dilated mixer's weight gradient, in the same way. -/
theorem quiet_reference9 (m : (ℓ : Loc Reference9Ideal.nD Reference9Ideal.τ Reference9Ideal.sig) → Buf (Elt Ideal) ℓ)
    (ρ : Dev Reference9Ideal.nD → PrngReg) :
    θ_run (Reference9Ideal.defs (F := Ideal)) (onTc (τ := Reference9Ideal.τ) (Reference9Ideal.main (F := Ideal)))
      ⟨m, fun _ => 0, ρ⟩ (fun r => (∀ c : Dev Reference9Ideal.nD,
      r.2.mem ((c.tc : Thread Reference9Ideal.nD Reference9Ideal.τ).loc Reference9Ideal.main_arg0) = m ((c.tc : Thread Reference9Ideal.nD Reference9Ideal.τ).loc Reference9Ideal.main_arg0)
      ∧ r.2.mem ((c.tc : Thread Reference9Ideal.nD Reference9Ideal.τ).loc Reference9Ideal.main_arg1) = m ((c.tc : Thread Reference9Ideal.nD Reference9Ideal.τ).loc Reference9Ideal.main_arg1))
      ∧ r.2.sem = fun _ => 0) :=
  (θ_run Reference9Ideal.defs _ _).mono
    (fun r h => ⟨fun c => (h c).2, sem_eq_zero_of_no_sems (by decide) r.2⟩)
    (Reference9Ideal.Value.run (F := Ideal) m ρ)

/-- The frame of the reference of the dilated mixer's input gradient, in the same way. -/
theorem quiet_reference10 (m : (ℓ : Loc Reference10Ideal.nD Reference10Ideal.τ Reference10Ideal.sig) → Buf (Elt Ideal) ℓ)
    (ρ : Dev Reference10Ideal.nD → PrngReg) :
    θ_run (Reference10Ideal.defs (F := Ideal)) (onTc (τ := Reference10Ideal.τ) (Reference10Ideal.main (F := Ideal)))
      ⟨m, fun _ => 0, ρ⟩ (fun r => (∀ c : Dev Reference10Ideal.nD,
      r.2.mem ((c.tc : Thread Reference10Ideal.nD Reference10Ideal.τ).loc Reference10Ideal.main_arg0) = m ((c.tc : Thread Reference10Ideal.nD Reference10Ideal.τ).loc Reference10Ideal.main_arg0)
      ∧ r.2.mem ((c.tc : Thread Reference10Ideal.nD Reference10Ideal.τ).loc Reference10Ideal.main_arg1) = m ((c.tc : Thread Reference10Ideal.nD Reference10Ideal.τ).loc Reference10Ideal.main_arg1))
      ∧ r.2.sem = fun _ => 0) :=
  (θ_run Reference10Ideal.defs _ _).mono
    (fun r h => ⟨fun c => (h c).2, sem_eq_zero_of_no_sems (by decide) r.2⟩)
    (Reference10Ideal.Value.run (F := Ideal) m ρ)

/-- The frame of the reference of the dilated mixer's input projection, in the same way. -/
theorem quiet_reference11 (m : (ℓ : Loc Reference11Ideal.nD Reference11Ideal.τ Reference11Ideal.sig) → Buf (Elt Ideal) ℓ)
    (ρ : Dev Reference11Ideal.nD → PrngReg) :
    θ_run (Reference11Ideal.defs (F := Ideal)) (onTc (τ := Reference11Ideal.τ) (Reference11Ideal.main (F := Ideal)))
      ⟨m, fun _ => 0, ρ⟩ (fun r => (∀ c : Dev Reference11Ideal.nD,
      r.2.mem ((c.tc : Thread Reference11Ideal.nD Reference11Ideal.τ).loc Reference11Ideal.main_arg0) = m ((c.tc : Thread Reference11Ideal.nD Reference11Ideal.τ).loc Reference11Ideal.main_arg0)
      ∧ r.2.mem ((c.tc : Thread Reference11Ideal.nD Reference11Ideal.τ).loc Reference11Ideal.main_arg1) = m ((c.tc : Thread Reference11Ideal.nD Reference11Ideal.τ).loc Reference11Ideal.main_arg1))
      ∧ r.2.sem = fun _ => 0) :=
  (θ_run Reference11Ideal.defs _ _).mono
    (fun r h => ⟨fun c => (h c).2, sem_eq_zero_of_no_sems (by decide) r.2⟩)
    (Reference11Ideal.Value.run (F := Ideal) m ρ)

/-- The frame of the reference of the stick-breaking mixer's weight gradient, in the same way. -/
theorem quiet_reference12 (m : (ℓ : Loc Reference12Ideal.nD Reference12Ideal.τ Reference12Ideal.sig) → Buf (Elt Ideal) ℓ)
    (ρ : Dev Reference12Ideal.nD → PrngReg) :
    θ_run (Reference12Ideal.defs (F := Ideal)) (onTc (τ := Reference12Ideal.τ) (Reference12Ideal.main (F := Ideal)))
      ⟨m, fun _ => 0, ρ⟩ (fun r => (∀ c : Dev Reference12Ideal.nD,
      r.2.mem ((c.tc : Thread Reference12Ideal.nD Reference12Ideal.τ).loc Reference12Ideal.main_arg0) = m ((c.tc : Thread Reference12Ideal.nD Reference12Ideal.τ).loc Reference12Ideal.main_arg0)
      ∧ r.2.mem ((c.tc : Thread Reference12Ideal.nD Reference12Ideal.τ).loc Reference12Ideal.main_arg1) = m ((c.tc : Thread Reference12Ideal.nD Reference12Ideal.τ).loc Reference12Ideal.main_arg1))
      ∧ r.2.sem = fun _ => 0) :=
  (θ_run Reference12Ideal.defs _ _).mono
    (fun r h => ⟨fun c => (h c).2, sem_eq_zero_of_no_sems (by decide) r.2⟩)
    (Reference12Ideal.Value.run (F := Ideal) m ρ)

/-- The frame of the reference of the stick-breaking mixer's input gradient, in the same way. -/
theorem quiet_reference13 (m : (ℓ : Loc Reference13Ideal.nD Reference13Ideal.τ Reference13Ideal.sig) → Buf (Elt Ideal) ℓ)
    (ρ : Dev Reference13Ideal.nD → PrngReg) :
    θ_run (Reference13Ideal.defs (F := Ideal)) (onTc (τ := Reference13Ideal.τ) (Reference13Ideal.main (F := Ideal)))
      ⟨m, fun _ => 0, ρ⟩ (fun r => (∀ c : Dev Reference13Ideal.nD,
      r.2.mem ((c.tc : Thread Reference13Ideal.nD Reference13Ideal.τ).loc Reference13Ideal.main_arg0) = m ((c.tc : Thread Reference13Ideal.nD Reference13Ideal.τ).loc Reference13Ideal.main_arg0)
      ∧ r.2.mem ((c.tc : Thread Reference13Ideal.nD Reference13Ideal.τ).loc Reference13Ideal.main_arg1) = m ((c.tc : Thread Reference13Ideal.nD Reference13Ideal.τ).loc Reference13Ideal.main_arg1))
      ∧ r.2.sem = fun _ => 0) :=
  (θ_run Reference13Ideal.defs _ _).mono
    (fun r h => ⟨fun c => (h c).2, sem_eq_zero_of_no_sems (by decide) r.2⟩)
    (Reference13Ideal.Value.run (F := Ideal) m ρ)

/-- The frame of the reference of the stick-breaking mixer's input projection, in the same way. -/
theorem quiet_reference14 (m : (ℓ : Loc Reference14Ideal.nD Reference14Ideal.τ Reference14Ideal.sig) → Buf (Elt Ideal) ℓ)
    (ρ : Dev Reference14Ideal.nD → PrngReg) :
    θ_run (Reference14Ideal.defs (F := Ideal)) (onTc (τ := Reference14Ideal.τ) (Reference14Ideal.main (F := Ideal)))
      ⟨m, fun _ => 0, ρ⟩ (fun r => (∀ c : Dev Reference14Ideal.nD,
      r.2.mem ((c.tc : Thread Reference14Ideal.nD Reference14Ideal.τ).loc Reference14Ideal.main_arg0) = m ((c.tc : Thread Reference14Ideal.nD Reference14Ideal.τ).loc Reference14Ideal.main_arg0)
      ∧ r.2.mem ((c.tc : Thread Reference14Ideal.nD Reference14Ideal.τ).loc Reference14Ideal.main_arg1) = m ((c.tc : Thread Reference14Ideal.nD Reference14Ideal.τ).loc Reference14Ideal.main_arg1))
      ∧ r.2.sem = fun _ => 0) :=
  (θ_run Reference14Ideal.defs _ _).mono
    (fun r h => ⟨fun c => (h c).2, sem_eq_zero_of_no_sems (by decide) r.2⟩)
    (Reference14Ideal.Value.run (F := Ideal) m ρ)

/-- The frame of the reference of the sliding-window mixer's weight gradient, in the same way. -/
theorem quiet_reference15 (m : (ℓ : Loc Reference15Ideal.nD Reference15Ideal.τ Reference15Ideal.sig) → Buf (Elt Ideal) ℓ)
    (ρ : Dev Reference15Ideal.nD → PrngReg) :
    θ_run (Reference15Ideal.defs (F := Ideal)) (onTc (τ := Reference15Ideal.τ) (Reference15Ideal.main (F := Ideal)))
      ⟨m, fun _ => 0, ρ⟩ (fun r => (∀ c : Dev Reference15Ideal.nD,
      r.2.mem ((c.tc : Thread Reference15Ideal.nD Reference15Ideal.τ).loc Reference15Ideal.main_arg0) = m ((c.tc : Thread Reference15Ideal.nD Reference15Ideal.τ).loc Reference15Ideal.main_arg0)
      ∧ r.2.mem ((c.tc : Thread Reference15Ideal.nD Reference15Ideal.τ).loc Reference15Ideal.main_arg1) = m ((c.tc : Thread Reference15Ideal.nD Reference15Ideal.τ).loc Reference15Ideal.main_arg1))
      ∧ r.2.sem = fun _ => 0) :=
  (θ_run Reference15Ideal.defs _ _).mono
    (fun r h => ⟨fun c => (h c).2, sem_eq_zero_of_no_sems (by decide) r.2⟩)
    (Reference15Ideal.Value.run (F := Ideal) m ρ)

/-- The frame of the reference of the sliding-window mixer's input gradient, in the same way. -/
theorem quiet_reference16 (m : (ℓ : Loc Reference16Ideal.nD Reference16Ideal.τ Reference16Ideal.sig) → Buf (Elt Ideal) ℓ)
    (ρ : Dev Reference16Ideal.nD → PrngReg) :
    θ_run (Reference16Ideal.defs (F := Ideal)) (onTc (τ := Reference16Ideal.τ) (Reference16Ideal.main (F := Ideal)))
      ⟨m, fun _ => 0, ρ⟩ (fun r => (∀ c : Dev Reference16Ideal.nD,
      r.2.mem ((c.tc : Thread Reference16Ideal.nD Reference16Ideal.τ).loc Reference16Ideal.main_arg0) = m ((c.tc : Thread Reference16Ideal.nD Reference16Ideal.τ).loc Reference16Ideal.main_arg0)
      ∧ r.2.mem ((c.tc : Thread Reference16Ideal.nD Reference16Ideal.τ).loc Reference16Ideal.main_arg1) = m ((c.tc : Thread Reference16Ideal.nD Reference16Ideal.τ).loc Reference16Ideal.main_arg1))
      ∧ r.2.sem = fun _ => 0) :=
  (θ_run Reference16Ideal.defs _ _).mono
    (fun r h => ⟨fun c => (h c).2, sem_eq_zero_of_no_sems (by decide) r.2⟩)
    (Reference16Ideal.Value.run (F := Ideal) m ρ)

/-- The frame of the reference of the sliding-window mixer's input projection, in the same way. -/
theorem quiet_reference17 (m : (ℓ : Loc Reference17Ideal.nD Reference17Ideal.τ Reference17Ideal.sig) → Buf (Elt Ideal) ℓ)
    (ρ : Dev Reference17Ideal.nD → PrngReg) :
    θ_run (Reference17Ideal.defs (F := Ideal)) (onTc (τ := Reference17Ideal.τ) (Reference17Ideal.main (F := Ideal)))
      ⟨m, fun _ => 0, ρ⟩ (fun r => (∀ c : Dev Reference17Ideal.nD,
      r.2.mem ((c.tc : Thread Reference17Ideal.nD Reference17Ideal.τ).loc Reference17Ideal.main_arg0) = m ((c.tc : Thread Reference17Ideal.nD Reference17Ideal.τ).loc Reference17Ideal.main_arg0)
      ∧ r.2.mem ((c.tc : Thread Reference17Ideal.nD Reference17Ideal.τ).loc Reference17Ideal.main_arg1) = m ((c.tc : Thread Reference17Ideal.nD Reference17Ideal.τ).loc Reference17Ideal.main_arg1))
      ∧ r.2.sem = fun _ => 0) :=
  (θ_run Reference17Ideal.defs _ _).mono
    (fun r h => ⟨fun c => (h c).2, sem_eq_zero_of_no_sems (by decide) r.2⟩)
    (Reference17Ideal.Value.run (F := Ideal) m ρ)

/-- The frame of the reference of a square weight's gradient, in the same way. -/
theorem quiet_reference18 (m : (ℓ : Loc Reference18Ideal.nD Reference18Ideal.τ Reference18Ideal.sig) → Buf (Elt Ideal) ℓ)
    (ρ : Dev Reference18Ideal.nD → PrngReg) :
    θ_run (Reference18Ideal.defs (F := Ideal)) (onTc (τ := Reference18Ideal.τ) (Reference18Ideal.main (F := Ideal)))
      ⟨m, fun _ => 0, ρ⟩ (fun r => (∀ c : Dev Reference18Ideal.nD,
      r.2.mem ((c.tc : Thread Reference18Ideal.nD Reference18Ideal.τ).loc Reference18Ideal.main_arg0) = m ((c.tc : Thread Reference18Ideal.nD Reference18Ideal.τ).loc Reference18Ideal.main_arg0)
      ∧ r.2.mem ((c.tc : Thread Reference18Ideal.nD Reference18Ideal.τ).loc Reference18Ideal.main_arg1) = m ((c.tc : Thread Reference18Ideal.nD Reference18Ideal.τ).loc Reference18Ideal.main_arg1))
      ∧ r.2.sem = fun _ => 0) :=
  (θ_run Reference18Ideal.defs _ _).mono
    (fun r h => ⟨fun c => (h c).2, sem_eq_zero_of_no_sems (by decide) r.2⟩)
    (Reference18Ideal.Value.run (F := Ideal) m ρ)

/-- The frame of the reference of the output projection's input gradient, in the same way. -/
theorem quiet_reference19 (m : (ℓ : Loc Reference19Ideal.nD Reference19Ideal.τ Reference19Ideal.sig) → Buf (Elt Ideal) ℓ)
    (ρ : Dev Reference19Ideal.nD → PrngReg) :
    θ_run (Reference19Ideal.defs (F := Ideal)) (onTc (τ := Reference19Ideal.τ) (Reference19Ideal.main (F := Ideal)))
      ⟨m, fun _ => 0, ρ⟩ (fun r => (∀ c : Dev Reference19Ideal.nD,
      r.2.mem ((c.tc : Thread Reference19Ideal.nD Reference19Ideal.τ).loc Reference19Ideal.main_arg0) = m ((c.tc : Thread Reference19Ideal.nD Reference19Ideal.τ).loc Reference19Ideal.main_arg0)
      ∧ r.2.mem ((c.tc : Thread Reference19Ideal.nD Reference19Ideal.τ).loc Reference19Ideal.main_arg1) = m ((c.tc : Thread Reference19Ideal.nD Reference19Ideal.τ).loc Reference19Ideal.main_arg1))
      ∧ r.2.sem = fun _ => 0) :=
  (θ_run Reference19Ideal.defs _ _).mono
    (fun r h => ⟨fun c => (h c).2, sem_eq_zero_of_no_sems (by decide) r.2⟩)
    (Reference19Ideal.Value.run (F := Ideal) m ρ)

/-- The frame of the reference of the embedding gate's input gradient, in the same way. -/
theorem quiet_reference20 (m : (ℓ : Loc Reference20Ideal.nD Reference20Ideal.τ Reference20Ideal.sig) → Buf (Elt Ideal) ℓ)
    (ρ : Dev Reference20Ideal.nD → PrngReg) :
    θ_run (Reference20Ideal.defs (F := Ideal)) (onTc (τ := Reference20Ideal.τ) (Reference20Ideal.main (F := Ideal)))
      ⟨m, fun _ => 0, ρ⟩ (fun r => (∀ c : Dev Reference20Ideal.nD,
      r.2.mem ((c.tc : Thread Reference20Ideal.nD Reference20Ideal.τ).loc Reference20Ideal.main_arg0) = m ((c.tc : Thread Reference20Ideal.nD Reference20Ideal.τ).loc Reference20Ideal.main_arg0)
      ∧ r.2.mem ((c.tc : Thread Reference20Ideal.nD Reference20Ideal.τ).loc Reference20Ideal.main_arg1) = m ((c.tc : Thread Reference20Ideal.nD Reference20Ideal.τ).loc Reference20Ideal.main_arg1))
      ∧ r.2.sem = fun _ => 0) :=
  (θ_run Reference20Ideal.defs _ _).mono
    (fun r h => ⟨fun c => (h c).2, sem_eq_zero_of_no_sems (by decide) r.2⟩)
    (Reference20Ideal.Value.run (F := Ideal) m ρ)

/-- The frame of the reference of the embedding and its gate, in the same way. -/
theorem quiet_reference21 (m : (ℓ : Loc Reference21Ideal.nD Reference21Ideal.τ Reference21Ideal.sig) → Buf (Elt Ideal) ℓ)
    (ρ : Dev Reference21Ideal.nD → PrngReg) :
    θ_run (Reference21Ideal.defs (F := Ideal)) (onTc (τ := Reference21Ideal.τ) (Reference21Ideal.main (F := Ideal)))
      ⟨m, fun _ => 0, ρ⟩ (fun r => (∀ c : Dev Reference21Ideal.nD,
      r.2.mem ((c.tc : Thread Reference21Ideal.nD Reference21Ideal.τ).loc Reference21Ideal.main_arg0) = m ((c.tc : Thread Reference21Ideal.nD Reference21Ideal.τ).loc Reference21Ideal.main_arg0)
      ∧ r.2.mem ((c.tc : Thread Reference21Ideal.nD Reference21Ideal.τ).loc Reference21Ideal.main_arg1) = m ((c.tc : Thread Reference21Ideal.nD Reference21Ideal.τ).loc Reference21Ideal.main_arg1)
      ∧ r.2.mem ((c.tc : Thread Reference21Ideal.nD Reference21Ideal.τ).loc Reference21Ideal.main_arg2) = m ((c.tc : Thread Reference21Ideal.nD Reference21Ideal.τ).loc Reference21Ideal.main_arg2)
      ∧ r.2.mem ((c.tc : Thread Reference21Ideal.nD Reference21Ideal.τ).loc Reference21Ideal.main_arg3) = m ((c.tc : Thread Reference21Ideal.nD Reference21Ideal.τ).loc Reference21Ideal.main_arg3))
      ∧ r.2.sem = fun _ => 0) :=
  (θ_run Reference21Ideal.defs _ _).mono
    (fun r h => ⟨fun c => (h c).2.2.2.2, sem_eq_zero_of_no_sems (by decide) r.2⟩)
    (Reference21Ideal.Value.run (F := Ideal) m ρ)

/-- The frame of the reference of the cotangents of the embedding and its gate, in the same way. -/
theorem quiet_reference22 (m : (ℓ : Loc Reference22Ideal.nD Reference22Ideal.τ Reference22Ideal.sig) → Buf (Elt Ideal) ℓ)
    (ρ : Dev Reference22Ideal.nD → PrngReg) :
    θ_run (Reference22Ideal.defs (F := Ideal)) (onTc (τ := Reference22Ideal.τ) (Reference22Ideal.main (F := Ideal)))
      ⟨m, fun _ => 0, ρ⟩ (fun r => (∀ c : Dev Reference22Ideal.nD,
      r.2.mem ((c.tc : Thread Reference22Ideal.nD Reference22Ideal.τ).loc Reference22Ideal.main_arg0) = m ((c.tc : Thread Reference22Ideal.nD Reference22Ideal.τ).loc Reference22Ideal.main_arg0)
      ∧ r.2.mem ((c.tc : Thread Reference22Ideal.nD Reference22Ideal.τ).loc Reference22Ideal.main_arg1) = m ((c.tc : Thread Reference22Ideal.nD Reference22Ideal.τ).loc Reference22Ideal.main_arg1)
      ∧ r.2.mem ((c.tc : Thread Reference22Ideal.nD Reference22Ideal.τ).loc Reference22Ideal.main_arg2) = m ((c.tc : Thread Reference22Ideal.nD Reference22Ideal.τ).loc Reference22Ideal.main_arg2)
      ∧ r.2.mem ((c.tc : Thread Reference22Ideal.nD Reference22Ideal.τ).loc Reference22Ideal.main_arg3) = m ((c.tc : Thread Reference22Ideal.nD Reference22Ideal.τ).loc Reference22Ideal.main_arg3))
      ∧ r.2.sem = fun _ => 0) :=
  (θ_run Reference22Ideal.defs _ _).mono
    (fun r h => ⟨fun c => (h c).2.2.2, sem_eq_zero_of_no_sems (by decide) r.2⟩)
    (Reference22Ideal.Value.run (F := Ideal) m ρ)

/-- The frame of the reference of the gradient of the embedding's weight, in the same way. -/
theorem quiet_reference23 (m : (ℓ : Loc Reference23Ideal.nD Reference23Ideal.τ Reference23Ideal.sig) → Buf (Elt Ideal) ℓ)
    (ρ : Dev Reference23Ideal.nD → PrngReg) :
    θ_run (Reference23Ideal.defs (F := Ideal)) (onTc (τ := Reference23Ideal.τ) (Reference23Ideal.main (F := Ideal)))
      ⟨m, fun _ => 0, ρ⟩ (fun r => (∀ c : Dev Reference23Ideal.nD,
      r.2.mem ((c.tc : Thread Reference23Ideal.nD Reference23Ideal.τ).loc Reference23Ideal.main_arg0) = m ((c.tc : Thread Reference23Ideal.nD Reference23Ideal.τ).loc Reference23Ideal.main_arg0)
      ∧ r.2.mem ((c.tc : Thread Reference23Ideal.nD Reference23Ideal.τ).loc Reference23Ideal.main_arg1) = m ((c.tc : Thread Reference23Ideal.nD Reference23Ideal.τ).loc Reference23Ideal.main_arg1))
      ∧ r.2.sem = fun _ => 0) :=
  (θ_run Reference23Ideal.defs _ _).mono
    (fun r h => ⟨fun c => (h c).2, sem_eq_zero_of_no_sems (by decide) r.2⟩)
    (Reference23Ideal.Value.run (F := Ideal) m ρ)

/-- The frame of the reference of the stick-breaking attention, in the same way. -/
theorem quiet_reference24 (m : (ℓ : Loc Reference24Ideal.nD Reference24Ideal.τ Reference24Ideal.sig) → Buf (Elt Ideal) ℓ)
    (ρ : Dev Reference24Ideal.nD → PrngReg) :
    θ_run (Reference24Ideal.defs (F := Ideal)) (onTc (τ := Reference24Ideal.τ) (Reference24Ideal.main (F := Ideal)))
      ⟨m, fun _ => 0, ρ⟩ (fun r => (∀ c : Dev Reference24Ideal.nD,
      r.2.mem ((c.tc : Thread Reference24Ideal.nD Reference24Ideal.τ).loc Reference24Ideal.main_arg0) = m ((c.tc : Thread Reference24Ideal.nD Reference24Ideal.τ).loc Reference24Ideal.main_arg0)
      ∧ r.2.mem ((c.tc : Thread Reference24Ideal.nD Reference24Ideal.τ).loc Reference24Ideal.main_arg1) = m ((c.tc : Thread Reference24Ideal.nD Reference24Ideal.τ).loc Reference24Ideal.main_arg1)
      ∧ r.2.mem ((c.tc : Thread Reference24Ideal.nD Reference24Ideal.τ).loc Reference24Ideal.main_arg2) = m ((c.tc : Thread Reference24Ideal.nD Reference24Ideal.τ).loc Reference24Ideal.main_arg2))
      ∧ r.2.sem = fun _ => 0) :=
  (θ_run Reference24Ideal.defs _ _).mono
    (fun r h => ⟨fun c => (h c).2.2, sem_eq_zero_of_no_sems (by decide) r.2⟩)
    (Reference24Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Pre_finite.facts, Cert.Pre_finite_qk.facts,
  fun m ρ _ => Cert.Kernel.Band.quiet m ρ,
  fun m ρ _ => Cert.KernelIdeal.Band.quiet m ρ,
  fun m ρ _ => quiet_reference m ρ,
  fun m ρ _ => Cert.Kernel2.Gen.frame m ρ,
  fun m ρ _ => Cert.Kernel2Ideal.Gen.frame m ρ,
  fun m ρ _ => Cert.Kernel2Ideal.Gen.frame m ρ,
  fun m ρ _ => quiet_reference2 m ρ,
  fun m ρ _ => quiet_reference2 m ρ,
  fun m ρ _ => Cert.Kernel3.Gen.frame m ρ,
  fun m ρ _ => Cert.Kernel3Ideal.Gen.frame m ρ,
  fun m ρ _ => quiet_reference3 m ρ,
  fun m ρ _ => Cert.Kernel4.Gen.frame m ρ,
  fun m ρ _ => Cert.Kernel4Ideal.Gen.frame m ρ,
  fun m ρ _ => quiet_reference4 m ρ,
  fun m ρ _ => Cert.Kernel5.Gen.frame m ρ,
  fun m ρ _ => Cert.Kernel5Ideal.Gen.frame m ρ,
  fun m ρ _ => quiet_reference5 m ρ,
  fun m ρ _ => Cert.Kernel6.Gen.frame m ρ,
  fun m ρ _ => Cert.Kernel6Ideal.Gen.frame m ρ,
  fun m ρ _ => quiet_reference6 m ρ,
  fun m ρ _ => Cert.Kernel7.Gen.frame m ρ,
  fun m ρ _ => Cert.Kernel7Ideal.Gen.frame m ρ,
  fun m ρ _ => quiet_reference7 m ρ,
  fun m ρ _ => Cert.Kernel8.Gen.frame m ρ,
  fun m ρ _ => Cert.Kernel8Ideal.Gen.frame m ρ,
  fun m ρ _ => quiet_reference8 m ρ,
  fun m ρ _ => Cert.Kernel9.Gen.frame m ρ,
  fun m ρ _ => Cert.Kernel9Ideal.Gen.frame m ρ,
  fun m ρ _ => quiet_reference9 m ρ,
  fun m ρ _ => Cert.Kernel10.Gen.frame m ρ,
  fun m ρ _ => Cert.Kernel10Ideal.Gen.frame m ρ,
  fun m ρ _ => quiet_reference10 m ρ,
  fun m ρ _ => Cert.Kernel11.Gen.frame m ρ,
  fun m ρ _ => Cert.Kernel11Ideal.Gen.frame m ρ,
  fun m ρ _ => quiet_reference11 m ρ,
  fun m ρ _ => Cert.Kernel12.Gen.frame m ρ,
  fun m ρ _ => Cert.Kernel12Ideal.Gen.frame m ρ,
  fun m ρ _ => quiet_reference12 m ρ,
  fun m ρ _ => Cert.Kernel13.Gen.frame m ρ,
  fun m ρ _ => Cert.Kernel13Ideal.Gen.frame m ρ,
  fun m ρ _ => quiet_reference13 m ρ,
  fun m ρ _ => Cert.Kernel14.Gen.frame m ρ,
  fun m ρ _ => Cert.Kernel14Ideal.Gen.frame m ρ,
  fun m ρ _ => quiet_reference14 m ρ,
  fun m ρ _ => Cert.Kernel15.Gen.frame m ρ,
  fun m ρ _ => Cert.Kernel15Ideal.Gen.frame m ρ,
  fun m ρ _ => quiet_reference15 m ρ,
  fun m ρ _ => Cert.Kernel16.Gen.frame m ρ,
  fun m ρ _ => Cert.Kernel16Ideal.Gen.frame m ρ,
  fun m ρ _ => quiet_reference16 m ρ,
  fun m ρ _ => Cert.Kernel17.Gen.frame m ρ,
  fun m ρ _ => Cert.Kernel17Ideal.Gen.frame m ρ,
  fun m ρ _ => quiet_reference17 m ρ,
  fun m ρ _ => Cert.Kernel18.Gen.frame m ρ,
  fun m ρ _ => Cert.Kernel18Ideal.Gen.frame m ρ,
  fun m ρ _ => quiet_reference18 m ρ,
  fun m ρ _ => Cert.Kernel19.Gen.frame m ρ,
  fun m ρ _ => Cert.Kernel19Ideal.Gen.frame m ρ,
  fun m ρ _ => quiet_reference19 m ρ,
  fun m ρ _ => Cert.Kernel20.Gen.frame m ρ,
  fun m ρ _ => Cert.Kernel20Ideal.Gen.frame m ρ,
  fun m ρ _ => quiet_reference20 m ρ,
  fun m ρ _ => Cert.Kernel21.Gen.frame m ρ,
  fun m ρ _ => Cert.Kernel21Ideal.Gen.frame m ρ,
  fun m ρ _ => quiet_reference21 m ρ,
  fun m ρ _ => Cert.Kernel22.Gen.frame m ρ,
  fun m ρ _ => Cert.Kernel22Ideal.Gen.frame m ρ,
  fun m ρ _ => quiet_reference22 m ρ,
  fun m ρ _ => Cert.Kernel23.Gen.frame m ρ,
  fun m ρ _ => Cert.Kernel23Ideal.Gen.frame m ρ,
  fun m ρ _ => quiet_reference23 m ρ,
  fun m ρ _ => Cert.Kernel24.Sb.quiet m ρ,
  fun m ρ _ => Cert.Kernel24Ideal.Sb.quiet m ρ,
  fun m ρ _ => Cert.Kernel24Ideal.Sb.quiet m ρ,
  fun m ρ _ => quiet_reference24 m ρ,
  fun m ρ _ => quiet_reference24 m ρ,
  IdealRules.named_const.statement Cert.KernelIdeal.κ "mask" .f32 0xF149F2CA#32 ⊥ rfl,
  trivial,
  Cert.FfnDact.algebraic,
  trivial,
  Cert.DwOut.algebraic,
  trivial,
  Cert.DwIn.algebraic,
  trivial,
  Cert.Dx.algebraic,
  trivial,
  Cert.FfnIn.algebraic,
  trivial,
  Cert.FfnOutLn.algebraic,
  trivial,
  Cert.ProjLn.algebraic,
  trivial,
  Cert.DilDwIn.algebraic,
  trivial,
  Cert.DilDx.algebraic,
  trivial,
  Cert.DilQkv.algebraic,
  trivial,
  Cert.SbDwIn.algebraic,
  trivial,
  Cert.SbDx.algebraic,
  trivial,
  Cert.SbQkv.algebraic,
  trivial,
  Cert.SwaDwIn.algebraic,
  trivial,
  Cert.SwaDx.algebraic,
  trivial,
  Cert.SwaQkv.algebraic,
  trivial,
  Cert.SquareDw.algebraic,
  trivial,
  Cert.ProjDo.algebraic,
  trivial,
  Cert.PleDx.algebraic,
  trivial,
  Cert.PleFwd.algebraic,
  trivial,
  Cert.PleBwd.algebraic,
  trivial,
  Cert.PleDwProj.algebraic,
  IdealRules.named_const.statement Cert.Kernel24Ideal.κ "closed" .f32 0x42DC0000#32 ⊤ rfl,
  Cert.SbFwd.algebraic⟩

end Cert.Proof

end
